-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_0) = v0 c
          ∧ r.2.mem ((c.tc : Thread Cert.ReferenceIdeal.nD Cert.ReferenceIdeal.τ).loc Cert.ReferenceIdeal.main_v12_1) = v1 c
          ∧ r.2.mem ((c.tc : Thread Cert.ReferenceIdeal.nD Cert.ReferenceIdeal.τ).loc Cert.ReferenceIdeal.main_v12_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x3072 : Shape := ⟨3, ![8, 2048, 3072]⟩
abbrev S8x2048x2 : Shape := ⟨3, ![8, 2048, 2]⟩
abbrev S4x3072x2816 : Shape := ⟨3, ![4, 3072, 2816]⟩
abbrev S4x24x22 : Shape := ⟨3, ![4, 24, 22]⟩
abbrev S4x1408x3072 : Shape := ⟨3, ![4, 1408, 3072]⟩
abbrev S4x11x24 : Shape := ⟨3, ![4, 11, 24]⟩
abbrev S16384x2x1 : Shape := ⟨3, ![16384, 2, 1]⟩
abbrev S4 : Shape := ⟨1, ![4]⟩
abbrev S1x1x4 : Shape := ⟨3, ![1, 1, 4]⟩
abbrev S16384x2x4 : Shape := ⟨3, ![16384, 2, 4]⟩
abbrev S_ : Shape := ⟨0, ![]⟩
abbrev S16384x4 : Shape := ⟨2, ![16384, 4]⟩
abbrev S32x1024x4 : Shape := ⟨3, ![32, 1024, 4]⟩
abbrev S32x4 : Shape := ⟨2, ![32, 4]⟩
abbrev S128 : Shape := ⟨1, ![128]⟩
abbrev S2112 : Shape := ⟨1, ![2112]⟩
abbrev S1056 : Shape := ⟨1, ![1056]⟩
abbrev S16384x3072 : Shape := ⟨2, ![16384, 3072]⟩
abbrev S16384x24 : Shape := ⟨2, ![16384, 24]⟩
abbrev S512x3072 : Shape := ⟨2, ![512, 3072]⟩
abbrev S512x4 : Shape := ⟨2, ![512, 4]⟩
abbrev S1x3072x2816 : Shape := ⟨3, ![1, 3072, 2816]⟩
abbrev S1x1408x3072 : Shape := ⟨3, ![1, 1408, 3072]⟩
abbrev S512x24 : Shape := ⟨2, ![512, 24]⟩
abbrev S3072x256 : Shape := ⟨2, ![3072, 256]⟩
abbrev S512x1408 : Shape := ⟨2, ![512, 1408]⟩
abbrev S512x128 : Shape := ⟨2, ![512, 128]⟩
abbrev S512 : Shape := ⟨1, ![512]⟩
abbrev S512x1 : Shape := ⟨2, ![512, 1]⟩
abbrev S1 : Shape := ⟨1, ![1]⟩
abbrev S1x128x128 : Shape := ⟨3, ![1, 128, 128]⟩
abbrev S128x128 : Shape := ⟨2, ![128, 128]⟩
abbrev S512x256 : Shape := ⟨2, ![512, 256]⟩
abbrev S1408x256 : Shape := ⟨2, ![1408, 256]⟩

abbrev nBuf : Space → Nat
  | .hbm => 31
  | .vmem => 18
  | .smem => 3
  | _ => 0

abbrev bufTy : (tb : Table) → Fin (tcTables nBuf tb) → BufTy
  | .hbm, ⟨0, _⟩ => ⟨S8x2048x3072, .bf16⟩
  | .hbm, ⟨1, _⟩ => ⟨S8x2048x2, .i32⟩
  | .hbm, ⟨2, _⟩ => ⟨S8x2048x2, .f32⟩
  | .hbm, ⟨3, _⟩ => ⟨S4x3072x2816, .fp8e4m3⟩
  | .hbm, ⟨4, _⟩ => ⟨S4x24x22, .f32⟩
  | .hbm, ⟨5, _⟩ => ⟨S4x1408x3072, .fp8e4m3⟩
  | .hbm, ⟨6, _⟩ => ⟨S4x11x24, .f32⟩
  | .hbm, ⟨7, _⟩ => ⟨S16384x2x1, .i32⟩
  | .hbm, ⟨8, _⟩ => ⟨S4, .i32⟩
  | .hbm, ⟨9, _⟩ => ⟨S1x1x4, .i32⟩
  | .hbm, ⟨10, _⟩ => ⟨S16384x2x4, .i32⟩
  | .hbm, ⟨11, _⟩ => ⟨S16384x2x4, .i32⟩
  | .hbm, ⟨12, _⟩ => ⟨S16384x2x4, .i1⟩
  | .hbm, ⟨13, _⟩ => ⟨S16384x2x1, .f32⟩
  | .hbm, ⟨14, _⟩ => ⟨S_, .f32⟩
  | .hbm, ⟨15, _⟩ => ⟨S_, .f32⟩
  | .hbm, ⟨16, _⟩ => ⟨S16384x2x4, .f32⟩
  | .hbm, ⟨17, _⟩ => ⟨S16384x2x4, .f32⟩
  | .hbm, ⟨18, _⟩ => ⟨S16384x2x4, .f32⟩
  | .hbm, ⟨19, _⟩ => ⟨S_, .f32⟩
  | .hbm, ⟨20, _⟩ => ⟨S16384x4, .f32⟩
  | .hbm, ⟨21, _⟩ => ⟨S32x1024x4, .i1⟩
  | .hbm, ⟨22, _⟩ => ⟨S32x1024x4, .i32⟩
  | .hbm, ⟨23, _⟩ => ⟨S_, .i32⟩
  | .hbm, ⟨24, _⟩ => ⟨S32x4, .i32⟩
  | .hbm, ⟨25, _⟩ => ⟨S2112, .f32⟩
  | .hbm, ⟨26, _⟩ => ⟨S1056, .f32⟩
  | .hbm, ⟨27, _⟩ => ⟨S16384x3072, .bf16⟩
  | .hbm, ⟨28, _⟩ => ⟨S16384x3072, .bf16⟩
  | .hbm, ⟨29, _⟩ => ⟨S16384x3072, .fp8e4m3⟩
  | .hbm, ⟨30, _⟩ => ⟨S16384x24, .f32⟩
  | .local _ .vmem, ⟨0, _⟩ => ⟨S512x3072, .bf16⟩
  | .local _ .vmem, ⟨1, _⟩ => ⟨S512x3072, .bf16⟩
  | .local _ .vmem, ⟨2, _⟩ => ⟨S512x4, .f32⟩
  | .local _ .vmem, ⟨3, _⟩ => ⟨S512x4, .f32⟩
  | .local _ .vmem, ⟨4, _⟩ => ⟨S1x3072x2816, .fp8e4m3⟩
  | .local _ .vmem, ⟨5, _⟩ => ⟨S1x3072x2816, .fp8e4m3⟩
  | .local _ .vmem, ⟨6, _⟩ => ⟨S1x1408x3072, .fp8e4m3⟩
  | .local _ .vmem, ⟨7, _⟩ => ⟨S1x1408x3072, .fp8e4m3⟩
  | .local _ .vmem, ⟨8, _⟩ => ⟨S512x3072, .bf16⟩
  | .local _ .vmem, ⟨9, _⟩ => ⟨S512x3072, .bf16⟩
  | .local _ .vmem, ⟨10, _⟩ => ⟨S512x3072, .fp8e4m3⟩
  | .local _ .vmem, ⟨11, _⟩ => ⟨S512x3072, .fp8e4m3⟩
  | .local _ .vmem, ⟨12, _⟩ => ⟨S512x24, .f32⟩
  | .local _ .vmem, ⟨13, _⟩ => ⟨S512x24, .f32⟩
  | .local _ .vmem, ⟨14, _⟩ => ⟨S512x3072, .bf16⟩
  | .local _ .vmem, ⟨15, _⟩ => ⟨S3072x256, .bf16⟩
  | .local _ .vmem, ⟨16, _⟩ => ⟨S512x1408, .bf16⟩
  | .local _ .vmem, ⟨17, _⟩ => ⟨S512x3072, .f32⟩
  | .local _ .smem, ⟨0, _⟩ => ⟨S128, .i32⟩
  | .local _ .smem, ⟨1, _⟩ => ⟨S2112, .f32⟩
  | .local _ .smem, ⟨2, _⟩ => ⟨S1056, .f32⟩
  | _, _ => ⟨S8x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v12 : Ref sig .tc := ⟨.smem, 0, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg0_0 : Ref sig .tc := ⟨.smem, 1, rfl⟩
abbrev cc0_stg1_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 4], ![false, false]⟩

abbrev pre0 : Pipeline.Prefetch sig := ⟨1, ![main_v12.idx], fun | 0 => main_v12.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v3 : BitVec 32 := Scalar.muli arg0 c4_i32
  let arg1 : BitVec 32 := BitVec.ofNat 32 (i 1).val
  let v4 : BitVec 32 := Scalar.addi v3 arg1
  let v5 : Index := Scalar.indexCast v4
  ![v5.toNat]
@[reducible] def k0_t1_loop : Scf.Loop 32 :=
  let c0_i32_4 : BitVec 32 := 0#32
  let c11_i32 : BitVec 32 := 11#32
  let v13 : BitVec 32 := Scalar.addi c0_i32_4 c11_i32
  let c1_i32 : BitVec 32 := 1#32
  ⟨c0_i32_4, v13, c1_i32⟩
def k0_mult1 (k0_t1 : Fin k0_t1_loop.trips) : BitVec 32 :=
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  v25
def k0_off2 (i : grid0.Coords) (k0_t1 : Fin k0_t1_loop.trips) (c0_i32_12 : BitVec 32) : Fin 1 → Nat :=
  let arg1 : BitVec 32 := BitVec.ofNat 32 (i 1).val
  let c24_i32 : BitVec 32 := 24#32
  let v27 : BitVec 32 := Scalar.muli arg1 c24_i32
  let v28 : BitVec 32 := Scalar.addi v27 c0_i32_12
  let c22_i32 : BitVec 32 := 22#32
  let v29 : BitVec 32 := Scalar.muli v28 c22_i32
  let c0_i32_4 : BitVec 32 := 0#32
  let c1_i32 : BitVec 32 := 1#32
  let arg16 : BitVec 32 := Scf.iv c0_i32_4 c1_i32 k0_t1
  let v30 : BitVec 32 := Scalar.addi v29 arg16
  let v31 : Index := Scalar.indexCast v30
  ![v31.toNat]
def k0_off3 (k0_t1 : Fin k0_t1_loop.trips) : Fin 3 → Nat :=
  let c0_13 : Index := 0#32
  let c0_14 : Index := 0#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v33 : Index := Scalar.indexCast v26
  ![0, 0, v33.toNat]
def k0_off4 (k0_t1 : Fin k0_t1_loop.trips) : Fin 3 → Nat :=
  let c0_20 : Index := 0#32
  let c128 : Index := 128#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v49 : Index := Scalar.indexCast v26
  ![0, 128, v49.toNat]
def k0_off5 (k0_t1 : Fin k0_t1_loop.trips) : Fin 3 → Nat :=
  let c0_25 : Index := 0#32
  let c256 : Index := 256#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v65 : Index := Scalar.indexCast v26
  ![0, 256, v65.toNat]
def k0_off6 (k0_t1 : Fin k0_t1_loop.trips) : Fin 3 → Nat :=
  let c0_31 : Index := 0#32
  let c384 : Index := 384#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v81 : Index := Scalar.indexCast v26
  ![0, 384, v81.toNat]
def k0_off7 (k0_t1 : Fin k0_t1_loop.trips) : Fin 3 → Nat :=
  let c0_37 : Index := 0#32
  let c512 : Index := 512#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v97 : Index := Scalar.indexCast v26
  ![0, 512, v97.toNat]
def k0_off8 (k0_t1 : Fin k0_t1_loop.trips) : Fin 3 → Nat :=
  let c0_42 : Index := 0#32
  let c640 : Index := 640#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v113 : Index := Scalar.indexCast v26
  ![0, 640, v113.toNat]
def k0_off9 (k0_t1 : Fin k0_t1_loop.trips) : Fin 3 → Nat :=
  let c0_47 : Index := 0#32
  let c768 : Index := 768#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v129 : Index := Scalar.indexCast v26
  ![0, 768, v129.toNat]
def k0_off10 (k0_t1 : Fin k0_t1_loop.trips) : Fin 3 → Nat :=
  let c0_52 : Index := 0#32
  let c896 : Index := 896#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v145 : Index := Scalar.indexCast v26
  ![0, 896, v145.toNat]
def k0_off11 (k0_t1 : Fin k0_t1_loop.trips) : Fin 3 → Nat :=
  let c0_57 : Index := 0#32
  let c1024 : Index := 1024#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v161 : Index := Scalar.indexCast v26
  ![0, 1024, v161.toNat]
def k0_off12 (k0_t1 : Fin k0_t1_loop.trips) : Fin 3 → Nat :=
  let c0_62 : Index := 0#32
  let c1152 : Index := 1152#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v177 : Index := Scalar.indexCast v26
  ![0, 1152, v177.toNat]
def k0_off13 (k0_t1 : Fin k0_t1_loop.trips) : Fin 3 → Nat :=
  let c0_67 : Index := 0#32
  let c1280 : Index := 1280#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v193 : Index := Scalar.indexCast v26
  ![0, 1280, v193.toNat]
def k0_off14 (k0_t1 : Fin k0_t1_loop.trips) : Fin 3 → Nat :=
  let c0_73 : Index := 0#32
  let c1408 : Index := 1408#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v209 : Index := Scalar.indexCast v26
  ![0, 1408, v209.toNat]
def k0_off15 (k0_t1 : Fin k0_t1_loop.trips) : Fin 3 → Nat :=
  let c0_79 : Index := 0#32
  let c1536 : Index := 1536#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v225 : Index := Scalar.indexCast v26
  ![0, 1536, v225.toNat]
def k0_off16 (k0_t1 : Fin k0_t1_loop.trips) : Fin 3 → Nat :=
  let c0_84 : Index := 0#32
  let c1664 : Index := 1664#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v241 : Index := Scalar.indexCast v26
  ![0, 1664, v241.toNat]
def k0_off17 (k0_t1 : Fin k0_t1_loop.trips) : Fin 3 → Nat :=
  let c0_89 : Index := 0#32
  let c1792 : Index := 1792#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v257 : Index := Scalar.indexCast v26
  ![0, 1792, v257.toNat]
def k0_off18 (k0_t1 : Fin k0_t1_loop.trips) : Fin 3 → Nat :=
  let c0_94 : Index := 0#32
  let c1920 : Index := 1920#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v273 : Index := Scalar.indexCast v26
  ![0, 1920, v273.toNat]
def k0_off19 (k0_t1 : Fin k0_t1_loop.trips) : Fin 3 → Nat :=
  let c0_99 : Index := 0#32
  let c2048 : Index := 2048#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v289 : Index := Scalar.indexCast v26
  ![0, 2048, v289.toNat]
def k0_off20 (k0_t1 : Fin k0_t1_loop.trips) : Fin 3 → Nat :=
  let c0_104 : Index := 0#32
  let c2176 : Index := 2176#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v305 : Index := Scalar.indexCast v26
  ![0, 2176, v305.toNat]
def k0_off21 (k0_t1 : Fin k0_t1_loop.trips) : Fin 3 → Nat :=
  let c0_109 : Index := 0#32
  let c2304 : Index := 2304#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v321 : Index := Scalar.indexCast v26
  ![0, 2304, v321.toNat]
def k0_off22 (k0_t1 : Fin k0_t1_loop.trips) : Fin 3 → Nat :=
  let c0_114 : Index := 0#32
  let c2432 : Index := 2432#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v337 : Index := Scalar.indexCast v26
  ![0, 2432, v337.toNat]
def k0_off23 (k0_t1 : Fin k0_t1_loop.trips) : Fin 3 → Nat :=
  let c0_119 : Index := 0#32
  let c2560 : Index := 2560#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v353 : Index := Scalar.indexCast v26
  ![0, 2560, v353.toNat]
def k0_off24 (k0_t1 : Fin k0_t1_loop.trips) : Fin 3 → Nat :=
  let c0_124 : Index := 0#32
  let c2688 : Index := 2688#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v369 : Index := Scalar.indexCast v26
  ![0, 2688, v369.toNat]
def k0_off25 (k0_t1 : Fin k0_t1_loop.trips) : Fin 3 → Nat :=
  let c0_130 : Index := 0#32
  let c2816 : Index := 2816#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v385 : Index := Scalar.indexCast v26
  ![0, 2816, v385.toNat]
def k0_off26 (k0_t1 : Fin k0_t1_loop.trips) : Fin 3 → Nat :=
  let c0_135 : Index := 0#32
  let c2944 : Index := 2944#32
  let c0_i32_4 : BitVec 32 := 0#32
  let c1_i32 : BitVec 32 := 1#32
  let arg16 : BitVec 32 := Scf.iv c0_i32_4 c1_i32 k0_t1
  let c128_i32 : BitVec 32 := 128#32
  let v25 : BitVec 32 := Scalar.muli arg16 c128_i32
  let v26 : BitVec 32 := v25
  let v401 : Index := Scalar.indexCast v26
  ![0, 2944, v401.toNat]
def k0_mult2 (k0_t1 : Fin k0_t1_loop.trips) : BitVec 32 :=
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  v411
def k0_off27 (i : grid0.Coords) (k0_t1 : Fin k0_t1_loop.trips) (c0_i32_140 : BitVec 32) : Fin 1 → Nat :=
  let arg1 : BitVec 32 := BitVec.ofNat 32 (i 1).val
  let c24_i32_139 : BitVec 32 := 24#32
  let v413 : BitVec 32 := Scalar.muli arg1 c24_i32_139
  let v414 : BitVec 32 := Scalar.addi v413 c0_i32_140
  let c22_i32_141 : BitVec 32 := 22#32
  let v415 : BitVec 32 := Scalar.muli v414 c22_i32_141
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let v416 : BitVec 32 := Scalar.addi v415 v24
  let v417 : Index := Scalar.indexCast v416
  ![v417.toNat]
def k0_off28 (k0_t1 : Fin k0_t1_loop.trips) : Fin 3 → Nat :=
  let c0_142 : Index := 0#32
  let c0_143 : Index := 0#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v419 : Index := Scalar.indexCast v412
  ![0, 0, v419.toNat]
def k0_off29 (k0_t1 : Fin k0_t1_loop.trips) : Fin 3 → Nat :=
  let c0_149 : Index := 0#32
  let c128_150 : Index := 128#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v435 : Index := Scalar.indexCast v412
  ![0, 128, v435.toNat]
def k0_off30 (k0_t1 : Fin k0_t1_loop.trips) : Fin 3 → Nat :=
  let c0_156 : Index := 0#32
  let c256_157 : Index := 256#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v451 : Index := Scalar.indexCast v412
  ![0, 256, v451.toNat]
def k0_off31 (k0_t1 : Fin k0_t1_loop.trips) : Fin 3 → Nat :=
  let c0_163 : Index := 0#32
  let c384_164 : Index := 384#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v467 : Index := Scalar.indexCast v412
  ![0, 384, v467.toNat]
def k0_off32 (k0_t1 : Fin k0_t1_loop.trips) : Fin 3 → Nat :=
  let c0_170 : Index := 0#32
  let c512_171 : Index := 512#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v483 : Index := Scalar.indexCast v412
  ![0, 512, v483.toNat]
def k0_off33 (k0_t1 : Fin k0_t1_loop.trips) : Fin 3 → Nat :=
  let c0_177 : Index := 0#32
  let c640_178 : Index := 640#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v499 : Index := Scalar.indexCast v412
  ![0, 640, v499.toNat]
def k0_off34 (k0_t1 : Fin k0_t1_loop.trips) : Fin 3 → Nat :=
  let c0_184 : Index := 0#32
  let c768_185 : Index := 768#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v515 : Index := Scalar.indexCast v412
  ![0, 768, v515.toNat]
def k0_off35 (k0_t1 : Fin k0_t1_loop.trips) : Fin 3 → Nat :=
  let c0_191 : Index := 0#32
  let c896_192 : Index := 896#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v531 : Index := Scalar.indexCast v412
  ![0, 896, v531.toNat]
def k0_off36 (k0_t1 : Fin k0_t1_loop.trips) : Fin 3 → Nat :=
  let c0_198 : Index := 0#32
  let c1024_199 : Index := 1024#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v547 : Index := Scalar.indexCast v412
  ![0, 1024, v547.toNat]
def k0_off37 (k0_t1 : Fin k0_t1_loop.trips) : Fin 3 → Nat :=
  let c0_205 : Index := 0#32
  let c1152_206 : Index := 1152#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v563 : Index := Scalar.indexCast v412
  ![0, 1152, v563.toNat]
def k0_off38 (k0_t1 : Fin k0_t1_loop.trips) : Fin 3 → Nat :=
  let c0_212 : Index := 0#32
  let c1280_213 : Index := 1280#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v579 : Index := Scalar.indexCast v412
  ![0, 1280, v579.toNat]
def k0_off39 (k0_t1 : Fin k0_t1_loop.trips) : Fin 3 → Nat :=
  let c0_219 : Index := 0#32
  let c1408_220 : Index := 1408#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v595 : Index := Scalar.indexCast v412
  ![0, 1408, v595.toNat]
def k0_off40 (k0_t1 : Fin k0_t1_loop.trips) : Fin 3 → Nat :=
  let c0_226 : Index := 0#32
  let c1536_227 : Index := 1536#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v611 : Index := Scalar.indexCast v412
  ![0, 1536, v611.toNat]
def k0_off41 (k0_t1 : Fin k0_t1_loop.trips) : Fin 3 → Nat :=
  let c0_233 : Index := 0#32
  let c1664_234 : Index := 1664#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v627 : Index := Scalar.indexCast v412
  ![0, 1664, v627.toNat]
def k0_off42 (k0_t1 : Fin k0_t1_loop.trips) : Fin 3 → Nat :=
  let c0_240 : Index := 0#32
  let c1792_241 : Index := 1792#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v643 : Index := Scalar.indexCast v412
  ![0, 1792, v643.toNat]
def k0_off43 (k0_t1 : Fin k0_t1_loop.trips) : Fin 3 → Nat :=
  let c0_247 : Index := 0#32
  let c1920_248 : Index := 1920#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v659 : Index := Scalar.indexCast v412
  ![0, 1920, v659.toNat]
def k0_off44 (k0_t1 : Fin k0_t1_loop.trips) : Fin 3 → Nat :=
  let c0_254 : Index := 0#32
  let c2048_255 : Index := 2048#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v675 : Index := Scalar.indexCast v412
  ![0, 2048, v675.toNat]
def k0_off45 (k0_t1 : Fin k0_t1_loop.trips) : Fin 3 → Nat :=
  let c0_261 : Index := 0#32
  let c2176_262 : Index := 2176#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v691 : Index := Scalar.indexCast v412
  ![0, 2176, v691.toNat]
def k0_off46 (k0_t1 : Fin k0_t1_loop.trips) : Fin 3 → Nat :=
  let c0_268 : Index := 0#32
  let c2304_269 : Index := 2304#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v707 : Index := Scalar.indexCast v412
  ![0, 2304, v707.toNat]
def k0_off47 (k0_t1 : Fin k0_t1_loop.trips) : Fin 3 → Nat :=
  let c0_275 : Index := 0#32
  let c2432_276 : Index := 2432#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v723 : Index := Scalar.indexCast v412
  ![0, 2432, v723.toNat]
def k0_off48 (k0_t1 : Fin k0_t1_loop.trips) : Fin 3 → Nat :=
  let c0_282 : Index := 0#32
  let c2560_283 : Index := 2560#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v739 : Index := Scalar.indexCast v412
  ![0, 2560, v739.toNat]
def k0_off49 (k0_t1 : Fin k0_t1_loop.trips) : Fin 3 → Nat :=
  let c0_289 : Index := 0#32
  let c2688_290 : Index := 2688#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v755 : Index := Scalar.indexCast v412
  ![0, 2688, v755.toNat]
def k0_off50 (k0_t1 : Fin k0_t1_loop.trips) : Fin 3 → Nat :=
  let c0_296 : Index := 0#32
  let c2816_297 : Index := 2816#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v771 : Index := Scalar.indexCast v412
  ![0, 2816, v771.toNat]
def k0_off51 (k0_t1 : Fin k0_t1_loop.trips) : Fin 3 → Nat :=
  let c0_303 : Index := 0#32
  let c2944_304 : Index := 2944#32
  let c0_i32_4 : BitVec 32 := 0#32
  let c1_i32 : BitVec 32 := 1#32
  let arg16 : BitVec 32 := Scf.iv c0_i32_4 c1_i32 k0_t1
  let c11_i32_11 : BitVec 32 := 11#32
  let v24 : BitVec 32 := Scalar.addi arg16 c11_i32_11
  let c128_i32_138 : BitVec 32 := 128#32
  let v411 : BitVec 32 := Scalar.muli v24 c128_i32_138
  let v412 : BitVec 32 := v411
  let v787 : Index := Scalar.indexCast v412
  ![0, 2944, v787.toNat]
def k0_mult3 (k0_t1 : Fin k0_t1_loop.trips) : BitVec 32 :=
  let c0_i32_4 : BitVec 32 := 0#32
  let c1_i32 : BitVec 32 := 1#32
  let arg16 : BitVec 32 := Scf.iv c0_i32_4 c1_i32 k0_t1
  let c128_i32_335 : BitVec 32 := 128#32
  let v892 : BitVec 32 := Scalar.muli arg16 c128_i32_335
  v892
def k0_off52 (k0_t1 : Fin k0_t1_loop.trips) : Fin 2 → Nat :=
  let c0_336 : Index := 0#32
  let c0_i32_4 : BitVec 32 := 0#32
  let c1_i32 : BitVec 32 := 1#32
  let arg16 : BitVec 32 := Scf.iv c0_i32_4 c1_i32 k0_t1
  let c128_i32_335 : BitVec 32 := 128#32
  let v892 : BitVec 32 := Scalar.muli arg16 c128_i32_335
  let v893 : BitVec 32 := v892
  let v894 : Index := Scalar.indexCast v893
  ![0, v894.toNat]
@[reducible] def k0_t2_loop : Scf.Loop 32 :=
  let c0_i32_8 : BitVec 32 := 0#32
  let c12_i32 : BitVec 32 := 12#32
  let v23 : BitVec 32 := Scalar.addi c0_i32_8 c12_i32
  let c1_i32_9 : BitVec 32 := 1#32
  ⟨c0_i32_8, v23, c1_i32_9⟩
def k0_mult4 (k0_t2 : Fin k0_t2_loop.trips) : BitVec 32 :=
  let c2_i32 : BitVec 32 := 2#32
  let c0_i32_8 : BitVec 32 := 0#32
  let c1_i32_9 : BitVec 32 := 1#32
  let arg16 : BitVec 32 := Scf.iv c0_i32_8 c1_i32_9 k0_t2
  let v24 : BitVec 32 := Scalar.muli c2_i32 arg16
  let c0_i32_11 : BitVec 32 := 0#32
  let v25 : BitVec 32 := Scalar.addi v24 c0_i32_11
  let c128_i32 : BitVec 32 := 128#32
  let v26 : BitVec 32 := Scalar.muli v25 c128_i32
  v26
def k0_off53 (i : grid0.Coords) (k0_t2 : Fin k0_t2_loop.trips) (c0_i32_13 : BitVec 32) (c0_i32_11 : BitVec 32) : Fin 1 → Nat :=
  let arg1 : BitVec 32 := BitVec.ofNat 32 (i 1).val
  let c11_i32_12 : BitVec 32 := 11#32
  let v28 : BitVec 32 := Scalar.muli arg1 c11_i32_12
  let v29 : BitVec 32 := Scalar.addi v28 c0_i32_13
  let c24_i32 : BitVec 32 := 24#32
  let v30 : BitVec 32 := Scalar.muli v29 c24_i32
  let c2_i32 : BitVec 32 := 2#32
  let c0_i32_8 : BitVec 32 := 0#32
  let c1_i32_9 : BitVec 32 := 1#32
  let arg16 : BitVec 32 := Scf.iv c0_i32_8 c1_i32_9 k0_t2
  let v24 : BitVec 32 := Scalar.muli c2_i32 arg16
  let v25 : BitVec 32 := Scalar.addi v24 c0_i32_11
  let v31 : BitVec 32 := Scalar.addi v30 v25
  let v32 : Index := Scalar.indexCast v31
  ![v32.toNat]
def k0_off54 (k0_t2 : Fin k0_t2_loop.trips) (c0_i32_11 : BitVec 32) : Fin 3 → Nat :=
  let c0_14 : Index := 0#32
  let c0_15 : Index := 0#32
  let c2_i32 : BitVec 32 := 2#32
  let c0_i32_8 : BitVec 32 := 0#32
  let c1_i32_9 : BitVec 32 := 1#32
  let arg16 : BitVec 32 := Scf.iv c0_i32_8 c1_i32_9 k0_t2
  let v24 : BitVec 32 := Scalar.muli c2_i32 arg16
  let v25 : BitVec 32 := Scalar.addi v24 c0_i32_11
  let c128_i32 : BitVec 32 := 128#32
  let v26 : BitVec 32 := Scalar.muli v25 c128_i32
  let v27 : BitVec 32 := v26
  let v34 : Index := Scalar.indexCast v27
  ![0, 0, v34.toNat]
def k0_off55 (k0_t2 : Fin k0_t2_loop.trips) (c0_i32_11 : BitVec 32) : Fin 3 → Nat :=
  let c0_21 : Index := 0#32
  let c128 : Index := 128#32
  let c2_i32 : BitVec 32 := 2#32
  let c0_i32_8 : BitVec 32 := 0#32
  let c1_i32_9 : BitVec 32 := 1#32
  let arg16 : BitVec 32 := Scf.iv c0_i32_8 c1_i32_9 k0_t2
  let v24 : BitVec 32 := Scalar.muli c2_i32 arg16
  let v25 : BitVec 32 := Scalar.addi v24 c0_i32_11
  let c128_i32 : BitVec 32 := 128#32
  let v26 : BitVec 32 := Scalar.muli v25 c128_i32
  let v27 : BitVec 32 := v26
  let v50 : Index := Scalar.indexCast v27
  ![0, 128, v50.toNat]
def k0_off56 (k0_t2 : Fin k0_t2_loop.trips) (c0_i32_11 : BitVec 32) : Fin 3 → Nat :=
  let c0_27 : Index := 0#32
  let c256 : Index := 256#32
  let c2_i32 : BitVec 32 := 2#32
  let c0_i32_8 : BitVec 32 := 0#32
  let c1_i32_9 : BitVec 32 := 1#32
  let arg16 : BitVec 32 := Scf.iv c0_i32_8 c1_i32_9 k0_t2
  let v24 : BitVec 32 := Scalar.muli c2_i32 arg16
  let v25 : BitVec 32 := Scalar.addi v24 c0_i32_11
  let c128_i32 : BitVec 32 := 128#32
  let v26 : BitVec 32 := Scalar.muli v25 c128_i32
  let v27 : BitVec 32 := v26
  let v66 : Index := Scalar.indexCast v27
  ![0, 256, v66.toNat]
def k0_off57 (k0_t2 : Fin k0_t2_loop.trips) (c0_i32_11 : BitVec 32) : Fin 3 → Nat :=
  let c0_33 : Index := 0#32
  let c384 : Index := 384#32
  let c2_i32 : BitVec 32 := 2#32
  let c0_i32_8 : BitVec 32 := 0#32
  let c1_i32_9 : BitVec 32 := 1#32
  let arg16 : BitVec 32 := Scf.iv c0_i32_8 c1_i32_9 k0_t2
  let v24 : BitVec 32 := Scalar.muli c2_i32 arg16
  let v25 : BitVec 32 := Scalar.addi v24 c0_i32_11
  let c128_i32 : BitVec 32 := 128#32
  let v26 : BitVec 32 := Scalar.muli v25 c128_i32
  let v27 : BitVec 32 := v26
  let v82 : Index := Scalar.indexCast v27
  ![0, 384, v82.toNat]
def k0_off58 (k0_t2 : Fin k0_t2_loop.trips) (c0_i32_11 : BitVec 32) : Fin 3 → Nat :=
  let c0_39 : Index := 0#32
  let c512 : Index := 512#32
  let c2_i32 : BitVec 32 := 2#32
  let c0_i32_8 : BitVec 32 := 0#32
  let c1_i32_9 : BitVec 32 := 1#32
  let arg16 : BitVec 32 := Scf.iv c0_i32_8 c1_i32_9 k0_t2
  let v24 : BitVec 32 := Scalar.muli c2_i32 arg16
  let v25 : BitVec 32 := Scalar.addi v24 c0_i32_11
  let c128_i32 : BitVec 32 := 128#32
  let v26 : BitVec 32 := Scalar.muli v25 c128_i32
  let v27 : BitVec 32 := v26
  let v98 : Index := Scalar.indexCast v27
  ![0, 512, v98.toNat]
def k0_off59 (k0_t2 : Fin k0_t2_loop.trips) (c0_i32_11 : BitVec 32) : Fin 3 → Nat :=
  let c0_44 : Index := 0#32
  let c640 : Index := 640#32
  let c2_i32 : BitVec 32 := 2#32
  let c0_i32_8 : BitVec 32 := 0#32
  let c1_i32_9 : BitVec 32 := 1#32
  let arg16 : BitVec 32 := Scf.iv c0_i32_8 c1_i32_9 k0_t2
  let v24 : BitVec 32 := Scalar.muli c2_i32 arg16
  let v25 : BitVec 32 := Scalar.addi v24 c0_i32_11
  let c128_i32 : BitVec 32 := 128#32
  let v26 : BitVec 32 := Scalar.muli v25 c128_i32
  let v27 : BitVec 32 := v26
  let v114 : Index := Scalar.indexCast v27
  ![0, 640, v114.toNat]
def k0_off60 (k0_t2 : Fin k0_t2_loop.trips) (c0_i32_11 : BitVec 32) : Fin 3 → Nat :=
  let c0_49 : Index := 0#32
  let c768 : Index := 768#32
  let c2_i32 : BitVec 32 := 2#32
  let c0_i32_8 : BitVec 32 := 0#32
  let c1_i32_9 : BitVec 32 := 1#32
  let arg16 : BitVec 32 := Scf.iv c0_i32_8 c1_i32_9 k0_t2
  let v24 : BitVec 32 := Scalar.muli c2_i32 arg16
  let v25 : BitVec 32 := Scalar.addi v24 c0_i32_11
  let c128_i32 : BitVec 32 := 128#32
  let v26 : BitVec 32 := Scalar.muli v25 c128_i32
  let v27 : BitVec 32 := v26
  let v130 : Index := Scalar.indexCast v27
  ![0, 768, v130.toNat]
def k0_off61 (k0_t2 : Fin k0_t2_loop.trips) (c0_i32_11 : BitVec 32) : Fin 3 → Nat :=
  let c0_54 : Index := 0#32
  let c896 : Index := 896#32
  let c2_i32 : BitVec 32 := 2#32
  let c0_i32_8 : BitVec 32 := 0#32
  let c1_i32_9 : BitVec 32 := 1#32
  let arg16 : BitVec 32 := Scf.iv c0_i32_8 c1_i32_9 k0_t2
  let v24 : BitVec 32 := Scalar.muli c2_i32 arg16
  let v25 : BitVec 32 := Scalar.addi v24 c0_i32_11
  let c128_i32 : BitVec 32 := 128#32
  let v26 : BitVec 32 := Scalar.muli v25 c128_i32
  let v27 : BitVec 32 := v26
  let v146 : Index := Scalar.indexCast v27
  ![0, 896, v146.toNat]
def k0_off62 (k0_t2 : Fin k0_t2_loop.trips) (c0_i32_11 : BitVec 32) : Fin 3 → Nat :=
  let c0_59 : Index := 0#32
  let c1024 : Index := 1024#32
  let c2_i32 : BitVec 32 := 2#32
  let c0_i32_8 : BitVec 32 := 0#32
  let c1_i32_9 : BitVec 32 := 1#32
  let arg16 : BitVec 32 := Scf.iv c0_i32_8 c1_i32_9 k0_t2
  let v24 : BitVec 32 := Scalar.muli c2_i32 arg16
  let v25 : BitVec 32 := Scalar.addi v24 c0_i32_11
  let c128_i32 : BitVec 32 := 128#32
  let v26 : BitVec 32 := Scalar.muli v25 c128_i32
  let v27 : BitVec 32 := v26
  let v162 : Index := Scalar.indexCast v27
  ![0, 1024, v162.toNat]
def k0_off63 (k0_t2 : Fin k0_t2_loop.trips) (c0_i32_11 : BitVec 32) : Fin 3 → Nat :=
  let c0_64 : Index := 0#32
  let c1152 : Index := 1152#32
  let c2_i32 : BitVec 32 := 2#32
  let c0_i32_8 : BitVec 32 := 0#32
  let c1_i32_9 : BitVec 32 := 1#32
  let arg16 : BitVec 32 := Scf.iv c0_i32_8 c1_i32_9 k0_t2
  let v24 : BitVec 32 := Scalar.muli c2_i32 arg16
  let v25 : BitVec 32 := Scalar.addi v24 c0_i32_11
  let c128_i32 : BitVec 32 := 128#32
  let v26 : BitVec 32 := Scalar.muli v25 c128_i32
  let v27 : BitVec 32 := v26
  let v178 : Index := Scalar.indexCast v27
  ![0, 1152, v178.toNat]
def k0_off64 (k0_t2 : Fin k0_t2_loop.trips) (c0_i32_11 : BitVec 32) : Fin 3 → Nat :=
  let c0_69 : Index := 0#32
  let c1280 : Index := 1280#32
  let c2_i32 : BitVec 32 := 2#32
  let c0_i32_8 : BitVec 32 := 0#32
  let c1_i32_9 : BitVec 32 := 1#32
  let arg16 : BitVec 32 := Scf.iv c0_i32_8 c1_i32_9 k0_t2
  let v24 : BitVec 32 := Scalar.muli c2_i32 arg16
  let v25 : BitVec 32 := Scalar.addi v24 c0_i32_11
  let c128_i32 : BitVec 32 := 128#32
  let v26 : BitVec 32 := Scalar.muli v25 c128_i32
  let v27 : BitVec 32 := v26
  let v194 : Index := Scalar.indexCast v27
  ![0, 1280, v194.toNat]
def k0_mult5 (k0_t2 : Fin k0_t2_loop.trips) : BitVec 32 :=
  let c2_i32_72 : BitVec 32 := 2#32
  let c0_i32_8 : BitVec 32 := 0#32
  let c1_i32_9 : BitVec 32 := 1#32
  let arg16 : BitVec 32 := Scf.iv c0_i32_8 c1_i32_9 k0_t2
  let v204 : BitVec 32 := Scalar.muli c2_i32_72 arg16
  let c1_i32_73 : BitVec 32 := 1#32
  let v205 : BitVec 32 := Scalar.addi v204 c1_i32_73
  let c128_i32_74 : BitVec 32 := 128#32
  let v206 : BitVec 32 := Scalar.muli v205 c128_i32_74
  v206
def k0_mult6 (k0_t2 : Fin k0_t2_loop.trips) : BitVec 32 :=
  let c0_i32_8 : BitVec 32 := 0#32
  let c1_i32_9 : BitVec 32 := 1#32
  let arg16 : BitVec 32 := Scf.iv c0_i32_8 c1_i32_9 k0_t2
  let c2_i32_157 : BitVec 32 := 2#32
  let v387 : BitVec 32 := Scalar.muli arg16 c2_i32_157
  let c128_i32_158 : BitVec 32 := 128#32
  let v388 : BitVec 32 := Scalar.muli v387 c128_i32_158
  v388
def k0_off65 (k0_t2 : Fin k0_t2_loop.trips) : Fin 2 → Nat :=
  let c0_159 : Index := 0#32
  let c0_i32_8 : BitVec 32 := 0#32
  let c1_i32_9 : BitVec 32 := 1#32
  let arg16 : BitVec 32 := Scf.iv c0_i32_8 c1_i32_9 k0_t2
  let c2_i32_157 : BitVec 32 := 2#32
  let v387 : BitVec 32 := Scalar.muli arg16 c2_i32_157
  let c128_i32_158 : BitVec 32 := 128#32
  let v388 : BitVec 32 := Scalar.muli v387 c128_i32_158
  let v389 : BitVec 32 := v388
  let v390 : Index := Scalar.indexCast v389
  ![0, v390.toNat]
def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_3 : BitVec 32 := 0#32
  let v12 : BitVec 1 := Scalar.cmpi .ne v11 c0_i32_3
  v12

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S2112 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1056 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3072x2816 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408x3072 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x3072 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x24 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8x2048x3072 : Shape := ⟨3, ![8, 2048, 3072]⟩
abbrev S8x2048x2 : Shape := ⟨3, ![8, 2048, 2]⟩
abbrev S4x3072x2816 : Shape := ⟨3, ![4, 3072, 2816]⟩
abbrev S4x24x22 : Shape := ⟨3, ![4, 24, 22]⟩
abbrev S4x1408x3072 : Shape := ⟨3, ![4, 1408, 3072]⟩
abbrev S4x11x24 : Shape := ⟨3, ![4, 11, 24]⟩
abbrev S16384x2 : Shape := ⟨2, ![16384, 2]⟩
abbrev S16384x2x1 : Shape := ⟨3, ![16384, 2, 1]⟩
abbrev S4 : Shape := ⟨1, ![4]⟩
abbrev S1x1x4 : Shape := ⟨3, ![1, 1, 4]⟩
abbrev S16384x2x4 : Shape := ⟨3, ![16384, 2, 4]⟩
abbrev S_ : Shape := ⟨0, ![]⟩
abbrev S16384x4 : Shape := ⟨2, ![16384, 4]⟩
abbrev S16384x3072 : Shape := ⟨2, ![16384, 3072]⟩
abbrev S16384x24 : Shape := ⟨2, ![16384, 24]⟩
abbrev S16384x24x128 : Shape := ⟨3, ![16384, 24, 128]⟩
abbrev S16384x24x1 : Shape := ⟨3, ![16384, 24, 1]⟩
abbrev S1x1x256 : Shape := ⟨3, ![1, 1, 256]⟩
abbrev S16384x24x256 : Shape := ⟨3, ![16384, 24, 256]⟩
abbrev S1x3072x2816 : Shape := ⟨3, ![1, 3072, 2816]⟩
abbrev S3072x2816 : Shape := ⟨2, ![3072, 2816]⟩
abbrev S1x24x22 : Shape := ⟨3, ![1, 24, 22]⟩
abbrev S24x22 : Shape := ⟨2, ![24, 22]⟩
abbrev S24x128x22x128 : Shape := ⟨4, ![24, 128, 22, 128]⟩
abbrev S24x1x22x1 : Shape := ⟨4, ![24, 1, 22, 1]⟩
abbrev S16384x2816 : Shape := ⟨2, ![16384, 2816]⟩
abbrev S16384x1408 : Shape := ⟨2, ![16384, 1408]⟩
abbrev S16384x11x128 : Shape := ⟨3, ![16384, 11, 128]⟩
abbrev S16384x11 : Shape := ⟨2, ![16384, 11]⟩
abbrev S16384x11x1 : Shape := ⟨3, ![16384, 11, 1]⟩
abbrev S16384x11x256 : Shape := ⟨3, ![16384, 11, 256]⟩
abbrev S1x1408x3072 : Shape := ⟨3, ![1, 1408, 3072]⟩
abbrev S1408x3072 : Shape := ⟨2, ![1408, 3072]⟩
abbrev S1x11x24 : Shape := ⟨3, ![1, 11, 24]⟩
abbrev S11x24 : Shape := ⟨2, ![11, 24]⟩
abbrev S11x128x24x128 : Shape := ⟨4, ![11, 128, 24, 128]⟩
abbrev S11x1x24x1 : Shape := ⟨4, ![11, 1, 24, 1]⟩
abbrev S16384x1 : Shape := ⟨2, ![16384, 1]⟩

abbrev nBuf : Space → Nat
  | .hbm => 27
  | .vmem => 9
  | .smem => 0
  | _ => 0

abbrev bufTy : (tb : Table) → Fin (tcTables nBuf tb) → BufTy
  | .hbm, ⟨0, _⟩ => ⟨S8x2048x3072, .bf16⟩
  | .hbm, ⟨1, _⟩ => ⟨S8x2048x2, .i32⟩
  | .hbm, ⟨2, _⟩ => ⟨S8x2048x2, .f32⟩
  | .hbm, ⟨3, _⟩ => ⟨S4x3072x2816, .fp8e4m3⟩
  | .hbm, ⟨4, _⟩ => ⟨S4x24x22, .f32⟩
  | .hbm, ⟨5, _⟩ => ⟨S4x1408x3072, .fp8e4m3⟩
  | .hbm, ⟨6, _⟩ => ⟨S4x11x24, .f32⟩
  | .hbm, ⟨7, _⟩ => ⟨S16384x2, .i32⟩
  | .hbm, ⟨8, _⟩ => ⟨S16384x2x1, .i32⟩
  | .hbm, ⟨9, _⟩ => ⟨S4, .i32⟩
  | .hbm, ⟨10, _⟩ => ⟨S1x1x4, .i32⟩
  | .hbm, ⟨11, _⟩ => ⟨S16384x2x4, .i32⟩
  | .hbm, ⟨12, _⟩ => ⟨S16384x2x4, .i32⟩
  | .hbm, ⟨13, _⟩ => ⟨S16384x2x4, .i1⟩
  | .hbm, ⟨14, _⟩ => ⟨S16384x2, .f32⟩
  | .hbm, ⟨15, _⟩ => ⟨S16384x2x1, .f32⟩
  | .hbm, ⟨16, _⟩ => ⟨S_, .f32⟩
  | .hbm, ⟨17, _⟩ => ⟨S_, .f32⟩
  | .hbm, ⟨18, _⟩ => ⟨S16384x2x4, .f32⟩
  | .hbm, ⟨19, _⟩ => ⟨S16384x2x4, .f32⟩
  | .hbm, ⟨20, _⟩ => ⟨S16384x2x4, .f32⟩
  | .hbm, ⟨21, _⟩ => ⟨S_, .f32⟩
  | .hbm, ⟨22, _⟩ => ⟨S16384x4, .f32⟩
  | .hbm, ⟨23, _⟩ => ⟨S16384x3072, .bf16⟩
  | .hbm, ⟨24, _⟩ => ⟨S16384x3072, .bf16⟩
  | .hbm, ⟨25, _⟩ => ⟨S16384x3072, .fp8e4m3⟩
  | .hbm, ⟨26, _⟩ => ⟨S16384x24, .f32⟩
  | .local _ .vmem, ⟨0, _⟩ => ⟨S16384x3072, .bf16⟩
  | .local _ .vmem, ⟨1, _⟩ => ⟨S16384x4, .f32⟩
  | .local _ .vmem, ⟨2, _⟩ => ⟨S4x3072x2816, .fp8e4m3⟩
  | .local _ .vmem, ⟨3, _⟩ => ⟨S4x24x22, .f32⟩
  | .local _ .vmem, ⟨4, _⟩ => ⟨S4x1408x3072, .fp8e4m3⟩
  | .local _ .vmem, ⟨5, _⟩ => ⟨S4x11x24, .f32⟩
  | .local _ .vmem, ⟨6, _⟩ => ⟨S16384x3072, .bf16⟩
  | .local _ .vmem, ⟨7, _⟩ => ⟨S16384x3072, .fp8e4m3⟩
  | .local _ .vmem, ⟨8, _⟩ => ⟨S16384x24, .f32⟩
  | _, _ => ⟨S8x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16384x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3072x2816 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x24x22 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1408x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x11x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x3072 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Kernel.Kit.lean ====
/-
What every statement about the pipelined call is made over: the arrays when the call begins, the
table of counts, the block of each window at each grid point, the staging and scratch buffers, and
at which grid points the first and the last expert come.
-/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Kit

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem flush0_6 (a : (pcfg0 (F := F)).Adm) : ∀ t : Fin (cfg0 a).N, ((cfg0 a).win 6).flush t = true ↔ t.val % 4 = 3 :=
  (fun t => Pipeline.Window.flushOf_reads cc0_transform_6 reads0_6 hreads0_6 0 (by decide) (by decide) (Pipeline.Window.sep_of_coord cc0_transform_6 0 0 (fun _ => rfl) (by decide)) (P := 4) (m := 3) (by decide) rfl t : ∀ t : Fin grid0.N, Pipeline.Window.flushOf grid0 true cc0_transform_6 t = true ↔ t.val % 4 = 3)
theorem flush0_7 (a : (pcfg0 (F := F)).Adm) : ∀ t : Fin (cfg0 a).N, ((cfg0 a).win 7).flush t = true ↔ t.val % 4 = 3 :=
  (fun t => Pipeline.Window.flushOf_reads cc0_transform_7 reads0_7 hreads0_7 0 (by decide) (by decide) (Pipeline.Window.sep_of_coord cc0_transform_7 0 0 (fun _ => rfl) (by decide)) (P := 4) (m := 3) (by decide) rfl t : ∀ t : Fin grid0.N, Pipeline.Window.flushOf grid0 true cc0_transform_7 t = true ↔ t.val % 4 = 3)
theorem flush0_8 (a : (pcfg0 (F := F)).Adm) : ∀ t : Fin (cfg0 a).N, ((cfg0 a).win 8).flush t = true ↔ t.val % 4 = 3 :=
  (fun t => Pipeline.Window.flushOf_reads cc0_transform_8 reads0_8 hreads0_8 0 (by decide) (by decide) (Pipeline.Window.sep_of_coord cc0_transform_8 0 0 (fun _ => rfl) (by decide)) (P := 4) (m := 3) (by decide) rfl t : ∀ t : Fin grid0.N, Pipeline.Window.flushOf grid0 true cc0_transform_8 t = true ↔ t.val % 4 = 3)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_dense (grid0.coords t) (Memref.whole main_v12) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _)

variable (m : (ℓ : Loc nD τ sig) → Buf (Elt F) ℓ) (ρ : Dev nD → PrngReg)
/-! ## @main up to the region -/

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S128 .i32 := Memref.whole main_v12
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 4 rfl).trans ((hA c 4).trans (V_main_arg3 m c)),
      ((h c).2 main_arg4 (by decide : main_arg4 ∈ Pipeline.restRefs sig spec0)).trans (V_main_arg4 m c),
      (Pipeline.RDat.FramePost.arr_in h c 5 rfl).trans ((hA c 5).trans (V_main_arg5 m c)),
      ((h c).2 main_arg6 (by decide : main_arg6 ∈ Pipeline.restRefs sig spec0)).trans (V_main_arg6 m c)⟩) h

/-! ## The body's branch conditions -/

abbrev first (i : grid0.Coords) : Prop := k0_cond1 i = 1#1
/-- It holds at the points ≡ 0 (mod 4) — by arithmetic of the point. -/
theorem hfirst : ∀ t : Fin grid0.N, first (grid0.coords t) ↔ t.val % 4 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [first, k0_cond1, e0, e1]
    word_cmp
   : ∀ t : Fin grid0.N, first (grid0.coords t) ↔ t.val % 4 = 0)

abbrev last (i : grid0.Coords) : Prop := k0_cond3 i = 1#1
/-- It holds at the points ≡ 3 (mod 4) — by arithmetic of the point. -/
theorem hlast : ∀ t : Fin grid0.N, last (grid0.coords t) ↔ t.val % 4 = 3 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [last, k0_cond3, e0, e1]
    word_cmp
   : ∀ t : Fin grid0.N, last (grid0.coords t) ↔ t.val % 4 = 3)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-! ## The kernel body on any staging memrefs: a subtype the run finds -/

abbrev ms0_0 (hO : Ok m) (t : Fin (cfgM m hO).N) : Memref sig .tc .smem S2112 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .smem S1056 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x3072 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x4 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x3072x2816 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1408x3072 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S512x3072 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S512x3072 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S512x24 .f32 := spec0_8.stage ((cfgM m hO).slots t 8)
abbrev hs0_8 (hO : Ok m) (t : Fin (cfgM m hO).N) : (ms0_8 m hO t).IsWhole := hstage0_8 (((cfgM m hO).slots t 8).cast nbuf0_8)
/-- The scratch operands: whole scoped buffers of the kernel's own, passed beside the windows. -/
abbrev scM0_0 : Memref sig .tc .vmem S512x3072 .bf16 := Memref.whole cc0_scratch0
abbrev scM0_1 : Memref sig .tc .vmem S3072x256 .bf16 := Memref.whole cc0_scratch1
abbrev scM0_2 : Memref sig .tc .vmem S512x1408 .bf16 := Memref.whole cc0_scratch2
abbrev scM0_3 : Memref sig .tc .vmem S512x3072 .f32 := Memref.whole cc0_scratch3
/-- The scratch `arg12` the kernel carries between points, as a view: what it holds is stated through it. -/
abbrev VS0_0 : View sig .tc .vmem S512x3072 .bf16 := scM0_0.view
/-- The scratch `arg15` the kernel carries between points, as a view: what it holds is stated through it. -/
abbrev VS0_3 : View sig .tc .vmem S512x3072 .f32 := scM0_3.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Body

end
-- ==== Proof.Kernel.Blocks.lean ====
/-
The kernel body in three blocks, run one after the other: the block that quantises a tile of
tokens at the first expert, the block that runs one expert if a token of the tile chose it, and
the block that writes the result at the last expert.
-/
module

public import proofs.«01_k».proof.Proof.Gen.Kernel.Skeleton
public import proofs.«01_k».proof.Proof.Gen.Kernel.Loops
public import Idealize.ShloMosaic.Lib.Exec

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first expert: the codes, the scales and the widened values of the tile, and a zero
    accumulator. -/
def blockA (i : grid0.Coords) (arg2 : Memref sig .tc .smem S128 .i32) (harg2 : arg2.IsWhole) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) : Prog (TpuEff nD τ sig (Elt F) Λ₀ .tc) PUnit := do
  if k0_h1 : k0_cond1 i = 1#1 then do
    let v2287 : FVec F S512x128 .bf16 ← k0_part54 i arg2 harg2 arg3 harg3 arg4 harg4 arg5 harg5 arg6 harg6 arg7 harg7 arg8 harg8 arg9 harg9 arg10 harg10 arg11 harg11 arg12 harg12 arg13 harg13 arg14 harg14 arg15 harg15
    let v2290 : Vec F S512x128 .bf16 ← Prog.lift (.load arg12 (Rect.unit (s := S512x3072) ![0, 2944] S512x128.size inb_S512x3072_S512x128_0_2944).toLoadRect (View.loadsAt_vmem h_S512x128))
    Prog.lift (.store arg12 (Rect.unit (s := S512x3072) ![0, 2944] S512x128.size inb_S512x3072_S512x128_0_2944) (k0_pay1 v2287) Finset.univ (View.stores_vmem h_S512x128 (harg12.storeExact_slice rfl _ packedbf16_S512x3072_S512x128_0_2944) (fun _ => rfl)) (.inl rfl))
    let v2294 : Vec F S512x3072 .f32 ← Prog.lift (.load arg15 (Rect.unit (s := S512x3072) ![0, 0] S512x3072.size inb_S512x3072_S512x3072_0_0).toLoadRect (View.loadsAt_vmem h_S512x3072))
    Prog.lift (.store arg15 (Rect.unit (s := S512x3072) ![0, 0] S512x3072.size inb_S512x3072_S512x3072_0_0) (k0_pay2 (F := F)) Finset.univ (View.stores_vmem_bits_univ h_S512x3072 rfl) (.inl rfl))
    pure ⟨⟩
  else do
    pure ⟨⟩

/-- One expert on the tile: the loop over hidden columns, then the loop over output columns. -/
def blockLive (i : grid0.Coords) (arg2 : Memref sig .tc .smem S128 .i32) (harg2 : arg2.IsWhole) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) : Prog (TpuEff nD τ sig (Elt F) Λ₀ .tc) PUnit := do
  let arg1 : BitVec 32 := BitVec.ofNat 32 (i 1).val
  Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg1)
  let v17 : Vec F S512x4 .f32 ← Prog.lift (.load arg6 (Rect.unit (s := S512x4) ![0, 0] S512x4.size inb_S512x4_S512x4_0_0).toLoadRect (View.loadsAt_vmem h_S512x4))
  Scf.Loop.for k0_t2_loop k0_t2_ok ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg1 v17)
  pure ⟨⟩

/-- One expert, if its count in this tile is positive: the hidden layer, then the output columns. -/
def blockB (i : grid0.Coords) (arg2 : Memref sig .tc .smem S128 .i32) (harg2 : arg2.IsWhole) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) : Prog (TpuEff nD τ sig (Elt F) Λ₀ .tc) PUnit := do
  let v6 : Elt F .i32 ← smemLoad arg2 (Rect.unit (s := S128) (k0_off1 i) S1.size (k0_off1_inb i)) numel1_S1 rfl
  let v7 : BitVec 1 := Scalar.cmpi .sgt v6 0#32
  let v8 : BitVec 32 := Scalar.extui v7
  let v9 : BitVec 1 := Scalar.cmpi .ne v8 0#32
  if v9 = 1#1 then do
    blockLive i arg2 harg2 arg3 harg3 arg4 harg4 arg5 harg5 arg6 harg6 arg7 harg7 arg8 harg8 arg9 harg9 arg10 harg10 arg11 harg11 arg12 harg12 arg13 harg13 arg14 harg14 arg15 harg15
  else do
    pure ⟨⟩

/-- At the last expert: the accumulator, rounded, is the result. -/
def blockC (i : grid0.Coords) (arg2 : Memref sig .tc .smem S128 .i32) (harg2 : arg2.IsWhole) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) : Prog (TpuEff nD τ sig (Elt F) Λ₀ .tc) PUnit := do
  if k0_h3 : k0_cond3 i = 1#1 then do
    let v13 : Vec F S512x3072 .f32 ← Prog.lift (.load arg15 (Rect.unit (s := S512x3072) ![0, 0] S512x3072.size inb_S512x3072_S512x3072_0_0).toLoadRect (View.loadsAt_vmem h_S512x3072))
    let v15 : Vec F S512x3072 .bf16 ← Prog.lift (.load arg9 (Rect.unit (s := S512x3072) ![0, 0] S512x3072.size inb_S512x3072_S512x3072_0_0).toLoadRect (View.loadsAt_vmem h_S512x3072))
    Prog.lift (.store arg9 (Rect.unit (s := S512x3072) ![0, 0] S512x3072.size inb_S512x3072_S512x3072_0_0) (k0_pay6 v13) Finset.univ (View.stores_vmem h_S512x3072 (harg9.storeExact_slice rfl _ packedbf16_S512x3072_S512x3072_0_0) (fun _ => rfl)) (.inl rfl))
    pure ⟨⟩
  else do
    pure ⟨⟩

theorem ite_bind.{u, v} {M : Type u → Type v} [Monad M] {α β : Type u} (p : Prop) [Decidable p] (a b : M α) (k : α → M β) :
    ((if p then a else b) >>= k) = if p then a >>= k else b >>= k := by split <;> rfl

/-- The body is its three blocks. -/
theorem body_eq (i : grid0.Coords) (arg2 : Memref sig .tc .smem S128 .i32) (harg2 : arg2.IsWhole) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) : cc0_moe_dense (F := F) i arg2 harg2 arg3 harg3 arg4 harg4 arg5 harg5 arg6 harg6 arg7 harg7 arg8 harg8 arg9 harg9 arg10 harg10 arg11 harg11 arg12 harg12 arg13 harg13 arg14 harg14 arg15 harg15 = (blockA i arg2 harg2 arg3 harg3 arg4 harg4 arg5 harg5 arg6 harg6 arg7 harg7 arg8 harg8 arg9 harg9 arg10 harg10 arg11 harg11 arg12 harg12 arg13 harg13 arg14 harg14 arg15 harg15 >>= fun _ => blockB i arg2 harg2 arg3 harg3 arg4 harg4 arg5 harg5 arg6 harg6 arg7 harg7 arg8 harg8 arg9 harg9 arg10 harg10 arg11 harg11 arg12 harg12 arg13 harg13 arg14 harg14 arg15 harg15 >>= fun _ => blockC i arg2 harg2 arg3 harg3 arg4 harg4 arg5 harg5 arg6 harg6 arg7 harg7 arg8 harg8 arg9 harg9 arg10 harg10 arg11 harg11 arg12 harg12 arg13 harg13 arg14 harg14 arg15 harg15) := by
  rw [cc0_moe_dense_eq_skeleton]
  unfold cc0_moe_dense_skel blockA blockB blockLive blockC
  by_cases h1 : k0_cond1 i = 1#1 <;> by_cases h3 : k0_cond3 i = 1#1 <;>
    simp only [h1, h3, dif_pos, dif_neg, not_false_eq_true, bind_assoc, pure_bind, ↓reduceDIte, ite_bind] <;> rfl

end Cert.Kernel.Body

end
-- ==== Proof.Kernel.RunA.lean ====
/-
The first block run: what it stores, found by running it.
-/
module

public import proofs.«01_k».proof.Proof.Kernel.Kit
public import proofs.«01_k».proof.Proof.Kernel.Blocks

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1700000 in
/-- The pieces the first block stores into the codes, the scales, the widened values and the
    accumulator, with the proof that it stores them whatever those buffers held. -/
def runA (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (hc : first i)
    (x2 : Vec F S512x3072 .bf16) :
    Σ' (L10 : List (View.Piece (Elt F) S512x3072 .fp8e4m3)), Σ' (L11 : List (View.Piece (Elt F) S512x24 .f32)), Σ' (L12 : List (View.Piece (Elt F) S512x3072 .bf16)), { L15 : List (View.Piece (Elt F) S512x3072 .f32) //
      ∀ (E : Set ℕ) (K : PUnit → sProp 𝕄),
        iprop(owns (c : Thread nD τ) arg5 fullShare x2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg15 fullShare d) ∗ (iprop(owns (c : Thread nD τ) arg5 fullShare x2 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg15.view.loc (c : Thread nD τ) ↦[arg15.view.set]{fullShare} arg15.view.writes (Elt F) f L15)) -∗ K ⟨⟩))
          ⊢ wp frame (wpE (defs₀ (F := F)) Variants.none c none) E (blockA i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    unfold blockA
    simp only [k0_part54_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f5, %hf5, H5⟩, ⟨%d10, %f10, -, H10⟩, ⟨%d11, %f11, -, H11⟩, ⟨%d12, %f12, -, H12⟩, ⟨%d15, %f15, -, H15⟩, Hk⟩
    obtain rfl := harg5.eq_unread hf5
    sl_exec (disch := first | sl_exact hc)
    try sl_step
    iapply Hk
    isplitl [H5]
    · iexists _; isplitr
      · ipureintro; exact harg5.read_unread _
      iexact H5
    isplitl [H10]
    · iexists _; iexact H10
    isplitl [H11]
    · iexists _; iexact H11
    isplitl [H12]
    · iexists _; iexact H12
    iexists _; iexact H15

end Cert.Kernel.Body

end
-- ==== Proof.Kernel.RunL.lean ====
/-
The expert block run: what it adds to the accumulator, found by running it.
-/
module

public import proofs.«01_k».proof.Proof.Kernel.Kit
public import proofs.«01_k».proof.Proof.Kernel.Blocks

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1700000 in
/-- The pieces the expert block stores into the accumulator, with the proof that it stores them;
    `g13` and `g14` are what the block of weights and the hidden layer held before. -/
def runL (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole)
    (x0 : Vec F S2112 .f32) (x1 : Vec F S1056 .f32) (x3 : Vec F S512x4 .f32) (x4 : Vec F S1x3072x2816 .fp8e4m3) (x5 : Vec F S1x1408x3072 .fp8e4m3) (xs0 : Vec F S512x3072 .bf16) (xs3 : Vec F S512x3072 .f32) (g13 : arg13.view.ty.Contents (Elt F))  (g14 : arg14.view.ty.Contents (Elt F)) :
    { L15 : List (View.Piece (Elt F) S512x3072 .f32) //
      ∀ (E : Set ℕ) (K : PUnit → sProp 𝕄),
        iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg8 fullShare x5 ∗ owns (c : Thread nD τ) arg12 fullShare xs0 ∗ (arg13.view.loc (c : Thread nD τ) ↦[arg13.view.set]{fullShare} g13) ∗ (arg14.view.loc (c : Thread nD τ) ↦[arg14.view.set]{fullShare} g14) ∗ owns (c : Thread nD τ) arg15 fullShare xs3 ∗ (iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg8 fullShare x5 ∗ owns (c : Thread nD τ) arg12 fullShare xs0 ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f L15)) -∗ K ⟨⟩))
          ⊢ wp frame (wpE (defs₀ (F := F)) Variants.none c none) E (blockLive i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    unfold blockLive
    unfold owns
    iintro ⟨⟨%f3, %hf3, H3⟩, ⟨%f4, %hf4, H4⟩, ⟨%f6, %hf6, H6⟩, ⟨%f7, %hf7, H7⟩, ⟨%f8, %hf8, H8⟩, ⟨%f12, %hf12, H12⟩, H13, H14, ⟨%f15, %hf15, H15⟩, Hk⟩
    obtain rfl := harg3.eq_unread hf3
    obtain rfl := harg4.eq_unread hf4
    obtain rfl := harg6.eq_unread hf6
    obtain rfl := harg7.eq_unread hf7
    obtain rfl := harg8.eq_unread hf8
    obtain rfl := harg12.eq_unread hf12
    obtain rfl := harg15.eq_unread hf15
    sl_exec
    try sl_step
    iapply Hk
    isplitl [H3]
    · iexists _; isplitr
      · ipureintro; exact harg3.read_unread _
      iexact H3
    isplitl [H4]
    · iexists _; isplitr
      · ipureintro; exact harg4.read_unread _
      iexact H4
    isplitl [H6]
    · iexists _; isplitr
      · ipureintro; exact harg6.read_unread _
      iexact H6
    isplitl [H7]
    · iexists _; isplitr
      · ipureintro; exact harg7.read_unread _
      iexact H7
    isplitl [H8]
    · iexists _; isplitr
      · ipureintro; exact harg8.read_unread _
      iexact H8
    isplitl [H12]
    · iexists _; isplitr
      · ipureintro; exact harg12.read_unread _
      iexact H12
    isplitl [H13]
    · iexists _, _; isplitr; swap
      · iexact H13
      ipureintro; rfl
    isplitl [H14]
    · iexists _, _; isplitr; swap
      · iexact H14
      ipureintro; rfl
    iexists _; iexact H15

end Cert.Kernel.Body

end
-- ==== Proof.Kernel.RunC.lean ====
/-
The last block run: what it stores, found by running it.
-/
module

public import proofs.«01_k».proof.Proof.Kernel.Kit
public import proofs.«01_k».proof.Proof.Kernel.Blocks

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1700000 in
/-- The pieces the last block stores into the result, with the proof that it stores them. -/
def runC (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (hc : last i)
    (xs3 : Vec F S512x3072 .f32) :
    { L9 : List (View.Piece (Elt F) S512x3072 .bf16) //
      ∀ (E : Set ℕ) (K : PUnit → sProp 𝕄),
        iprop((∃ d, owns (c : Thread nD τ) arg9 fullShare d) ∗ owns (c : Thread nD τ) arg15 fullShare xs3 ∗ (iprop((∃ f, arg9.view.loc (c : Thread nD τ) ↦[arg9.view.set]{fullShare} arg9.view.writes (Elt F) f L9) ∗ owns (c : Thread nD τ) arg15 fullShare xs3) -∗ K ⟨⟩))
          ⊢ wp frame (wpE (defs₀ (F := F)) Variants.none c none) E (blockC i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    unfold blockC
    unfold owns
    iintro ⟨⟨%d9, %f9, -, H9⟩, ⟨%f15, %hf15, H15⟩, Hk⟩
    obtain rfl := harg15.eq_unread hf15
    sl_exec (disch := first | sl_exact hc)
    try sl_step
    iapply Hk
    isplitl [H9]
    · iexists _; iexact H9
    iexists _; isplitr
    · ipureintro; exact harg15.read_unread _
    iexact H15

end Cert.Kernel.Body

end
-- ==== Proof.Kernel.Idle.lean ====
/-
When a block has nothing to do: the first block away from the first expert, the expert block at a
count of zero, the last block away from the last expert.
-/
module

public import proofs.«01_k».proof.Proof.Kernel.Kit
public import proofs.«01_k».proof.Proof.Kernel.Blocks

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer held at some contents, seen through a memref and seen raw. -/
theorem any_raw (c : Dev nD) {sp : Space} {S : Shape} {e : EltTy} (M : Memref sig .tc sp S e) :
    (iprop(∃ d, owns (c : Thread nD τ) M fullShare d) : sProp 𝕄)
      = iprop(∃ f, M.view.loc (c : Thread nD τ) ↦[M.view.set]{fullShare} f) := by
  have h1 : (iprop(∃ d, owns (c : Thread nD τ) M fullShare d) : sProp 𝕄)
      ⊢ iprop(∃ f, M.view.loc (c : Thread nD τ) ↦[M.view.set]{fullShare} f) := by
    unfold owns
    iintro ⟨%d, %f, -, H⟩
    iexists f; iexact H
  have h2 : (iprop(∃ f, M.view.loc (c : Thread nD τ) ↦[M.view.set]{fullShare} f) : sProp 𝕄)
      ⊢ iprop(∃ d, owns (c : Thread nD τ) M fullShare d) := by
    unfold owns
    iintro ⟨%f, H⟩
    iexists _, f; isplitr; swap; · iexact H
    ipureintro; rfl
  exact Entails.antisymm h1 h2

/-- The count of the tile's tokens for the expert of grid point `i`, read off the table. -/
def count (c : Dev nD) (xt : TbBuf0 (F := F) c tbM0_0) (i : grid0.Coords) : BitVec 32 :=
  View.readAt (Elt F) tbM0_0.view (Rect.unit (s := S128) (k0_off1 i) S1.size (k0_off1_inb i)).toLoadRect xt
    (Shape.Idx.first (numel1_S1.symm ▸ Nat.one_pos))

/-- The expert has a token in the tile. -/
def live (c : Dev nD) (xt : TbBuf0 (F := F) c tbM0_0) (i : grid0.Coords) : Prop :=
  Scalar.cmpi .ne (Scalar.extui (Scalar.cmpi .sgt (count c xt i) 0#32) : BitVec 32) 0#32 = 1#1

theorem specB_live (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (xt : TbBuf0 (F := F) c tbM0_0) (h : live c xt i) (E : Set ℕ) (K : PUnit → sProp 𝕄) :
    iprop(tbPt0 c tbM0_0 xt ∗ (tbPt0 c tbM0_0 xt -∗ wp frame (wpE (defs₀ (F := F)) Variants.none c none) E (blockLive i tbM0_0 htbM0_0 arg3 harg3 arg4 harg4 arg5 harg5 arg6 harg6 arg7 harg7 arg8 harg8 arg9 harg9 arg10 harg10 arg11 harg11 arg12 harg12 arg13 harg13 arg14 harg14 arg15 harg15) K))
      ⊢ wp frame (wpE (defs₀ (F := F)) Variants.none c none) E (blockB i tbM0_0 htbM0_0 arg3 harg3 arg4 harg4 arg5 harg5 arg6 harg6 arg7 harg7 arg8 harg8 arg9 harg9 arg10 harg10 arg11 harg11 arg12 harg12 arg13 harg13 arg14 harg14 arg15 harg15) K := by
  unfold blockB smemLoad smemLoadElt
  iintro ⟨HT, Hk⟩
  rw [wp_bind]
  sl_step
  sl_step
  unfold live count at h
  dsimp only
  rw [if_pos h]
  iapply Hk
  iexact HT

theorem specB_idle (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (xt : TbBuf0 (F := F) c tbM0_0) (h : ¬ live c xt i) (E : Set ℕ) (K : PUnit → sProp 𝕄) :
    iprop(tbPt0 c tbM0_0 xt ∗ (tbPt0 c tbM0_0 xt -∗ K ⟨⟩))
      ⊢ wp frame (wpE (defs₀ (F := F)) Variants.none c none) E (blockB i tbM0_0 htbM0_0 arg3 harg3 arg4 harg4 arg5 harg5 arg6 harg6 arg7 harg7 arg8 harg8 arg9 harg9 arg10 harg10 arg11 harg11 arg12 harg12 arg13 harg13 arg14 harg14 arg15 harg15) K := by
  unfold blockB smemLoad smemLoadElt
  iintro ⟨HT, Hk⟩
  rw [wp_bind]
  sl_step
  sl_step
  unfold live count at h
  dsimp only
  rw [if_neg h]
  sl_step
  iapply Hk
  iexact HT

theorem specA_idle (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (h : ¬ first i) (E : Set ℕ) (K : PUnit → sProp 𝕄) :
    K ⟨⟩ ⊢ wp frame (wpE (defs₀ (F := F)) Variants.none c none) E (blockA i tbM0_0 htbM0_0 arg3 harg3 arg4 harg4 arg5 harg5 arg6 harg6 arg7 harg7 arg8 harg8 arg9 harg9 arg10 harg10 arg11 harg11 arg12 harg12 arg13 harg13 arg14 harg14 arg15 harg15) K := by
  unfold blockA
  rw [dif_neg h]
  iintro H
  sl_step
  iexact H

theorem specC_idle (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (h : ¬ last i) (E : Set ℕ) (K : PUnit → sProp 𝕄) :
    K ⟨⟩ ⊢ wp frame (wpE (defs₀ (F := F)) Variants.none c none) E (blockC i tbM0_0 htbM0_0 arg3 harg3 arg4 harg4 arg5 harg5 arg6 harg6 arg7 harg7 arg8 harg8 arg9 harg9 arg10 harg10 arg11 harg11 arg12 harg12 arg13 harg13 arg14 harg14 arg15 harg15) K := by
  unfold blockC
  rw [dif_neg h]
  iintro H
  sl_step
  iexact H

end Cert.Kernel.Body

end
-- ==== Proof.Kernel.Keeps.lean ====
/-
The kernel ends, stops every transfer and leaves its arguments as they were: nothing is named of
what it stores.
-/
module

public import proofs.«01_k».proof.Proof.Kernel.RunA
public import proofs.«01_k».proof.Proof.Kernel.RunL
public import proofs.«01_k».proof.Proof.Kernel.RunC
public import proofs.«01_k».proof.Proof.Kernel.Idle
public import Idealize.ShloMosaic.Lib.Claim

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem specA (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (x2 : Vec F S512x3072 .bf16) (E : Set ℕ) (K : PUnit → sProp 𝕄) :
    iprop(owns (c : Thread nD τ) arg5 fullShare x2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg15 fullShare d) ∗ (iprop(owns (c : Thread nD τ) arg5 fullShare x2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg15 fullShare d)) -∗ K ⟨⟩))
      ⊢ wp frame (wpE (defs₀ (F := F)) Variants.none c none) E (blockA i tbM0_0 htbM0_0 arg3 harg3 arg4 harg4 arg5 harg5 arg6 harg6 arg7 harg7 arg8 harg8 arg9 harg9 arg10 harg10 arg11 harg11 arg12 harg12 arg13 harg13 arg14 harg14 arg15 harg15) K := by
  by_cases h : first i
  · iintro ⟨H5, H10, H11, H12, H15, Hk⟩
    iapply ((runA c i arg3 harg3 arg4 harg4 arg5 harg5 arg6 harg6 arg7 harg7 arg8 harg8 arg9 harg9 arg10 harg10 arg11 harg11 arg12 harg12 arg13 harg13 arg14 harg14 arg15 harg15 h x2).2.2.2.2 E K)
    isplitl [H5]; · iexact H5
    isplitl [H10]; · iexact H10
    isplitl [H11]; · iexact H11
    isplitl [H12]; · iexact H12
    isplitl [H15]; · iexact H15
    iintro ⟨H5, ⟨%e10, H10⟩, ⟨%e11, H11⟩, ⟨%e12, H12⟩, ⟨%e15, H15⟩⟩
    iapply Hk
    isplitl [H5]; · iexact H5
    unfold owns
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H15
    ipureintro; rfl
  · iintro ⟨H5, H10, H11, H12, H15, Hk⟩
    iapply (specA_idle c i arg3 harg3 arg4 harg4 arg5 harg5 arg6 harg6 arg7 harg7 arg8 harg8 arg9 harg9 arg10 harg10 arg11 harg11 arg12 harg12 arg13 harg13 arg14 harg14 arg15 harg15 h E K)
    iapply Hk
    isplitl [H5]; · iexact H5
    isplitl [H10]; · iexact H10
    isplitl [H11]; · iexact H11
    isplitl [H12]; · iexact H12
    iexact H15

theorem specB (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (x0 : Vec F S2112 .f32) (x1 : Vec F S1056 .f32) (x3 : Vec F S512x4 .f32) (x4 : Vec F S1x3072x2816 .fp8e4m3) (x5 : Vec F S1x1408x3072 .fp8e4m3) (xt : TbBuf0 (F := F) c tbM0_0) (E : Set ℕ) (K : PUnit → sProp 𝕄) :
    iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg8 fullShare x5 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt ∗ (iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg8 fullShare x5 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt) -∗ K ⟨⟩))
      ⊢ wp frame (wpE (defs₀ (F := F)) Variants.none c none) E (blockB i tbM0_0 htbM0_0 arg3 harg3 arg4 harg4 arg5 harg5 arg6 harg6 arg7 harg7 arg8 harg8 arg9 harg9 arg10 harg10 arg11 harg11 arg12 harg12 arg13 harg13 arg14 harg14 arg15 harg15) K := by
  by_cases h : live c xt i
  · rw [any_raw c arg13, any_raw c arg14]
    iintro ⟨H3, H4, H6, H7, H8, ⟨%d12, H12⟩, ⟨%f13, H13⟩, ⟨%f14, H14⟩, ⟨%d15, H15⟩, HT, Hk⟩
    iapply (specB_live c i arg3 harg3 arg4 harg4 arg5 harg5 arg6 harg6 arg7 harg7 arg8 harg8 arg9 harg9 arg10 harg10 arg11 harg11 arg12 harg12 arg13 harg13 arg14 harg14 arg15 harg15 xt h E K)
    isplitl [HT]; · iexact HT
    iintro HT
    iapply ((runL c i arg3 harg3 arg4 harg4 arg5 harg5 arg6 harg6 arg7 harg7 arg8 harg8 arg9 harg9 arg10 harg10 arg11 harg11 arg12 harg12 arg13 harg13 arg14 harg14 arg15 harg15 x0 x1 x3 x4 x5 d12 d15 f13 f14).2 E K)
    isplitl [H3]; · iexact H3
    isplitl [H4]; · iexact H4
    isplitl [H6]; · iexact H6
    isplitl [H7]; · iexact H7
    isplitl [H8]; · iexact H8
    isplitl [H12]; · iexact H12
    isplitl [H13]; · iexact H13
    isplitl [H14]; · iexact H14
    isplitl [H15]; · iexact H15
    iintro ⟨H3, H4, H6, H7, H8, H12, H13, H14, ⟨%e15, H15⟩⟩
    iapply Hk
    isplitl [H3]; · iexact H3
    isplitl [H4]; · iexact H4
    isplitl [H6]; · iexact H6
    isplitl [H7]; · iexact H7
    isplitl [H8]; · iexact H8
    isplitl [H12]; · iexists _; iexact H12
    rw [← any_raw c arg13, ← any_raw c arg14]
    isplitl [H13]; · iexact H13
    isplitl [H14]; · iexact H14
    isplitl [H15]
    · unfold owns
      iexists _, _; isplitr; swap; · iexact H15
      ipureintro; rfl
    iexact HT
  · iintro ⟨H3, H4, H6, H7, H8, H12, H13, H14, H15, HT, Hk⟩
    iapply (specB_idle c i arg3 harg3 arg4 harg4 arg5 harg5 arg6 harg6 arg7 harg7 arg8 harg8 arg9 harg9 arg10 harg10 arg11 harg11 arg12 harg12 arg13 harg13 arg14 harg14 arg15 harg15 xt h E K)
    isplitl [HT]; · iexact HT
    iintro HT
    iapply Hk
    isplitl [H3]; · iexact H3
    isplitl [H4]; · iexact H4
    isplitl [H6]; · iexact H6
    isplitl [H7]; · iexact H7
    isplitl [H8]; · iexact H8
    isplitl [H12]; · iexact H12
    isplitl [H13]; · iexact H13
    isplitl [H14]; · iexact H14
    isplitl [H15]; · iexact H15
    iexact HT

theorem specC (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (E : Set ℕ) (K : PUnit → sProp 𝕄) :
    iprop((∃ d, owns (c : Thread nD τ) arg9 fullShare d) ∗ (∃ d, owns (c : Thread nD τ) arg15 fullShare d) ∗ (iprop((∃ d, owns (c : Thread nD τ) arg9 fullShare d) ∗ (∃ d, owns (c : Thread nD τ) arg15 fullShare d)) -∗ K ⟨⟩))
      ⊢ wp frame (wpE (defs₀ (F := F)) Variants.none c none) E (blockC i tbM0_0 htbM0_0 arg3 harg3 arg4 harg4 arg5 harg5 arg6 harg6 arg7 harg7 arg8 harg8 arg9 harg9 arg10 harg10 arg11 harg11 arg12 harg12 arg13 harg13 arg14 harg14 arg15 harg15) K := by
  by_cases h : last i
  · iintro ⟨H9, ⟨%d15, H15⟩, Hk⟩
    iapply ((runC c i arg3 harg3 arg4 harg4 arg5 harg5 arg6 harg6 arg7 harg7 arg8 harg8 arg9 harg9 arg10 harg10 arg11 harg11 arg12 harg12 arg13 harg13 arg14 harg14 arg15 harg15 h d15).2 E K)
    isplitl [H9]; · iexact H9
    isplitl [H15]; · iexact H15
    iintro ⟨⟨%e9, H9⟩, H15⟩
    iapply Hk
    isplitl [H9]
    · unfold owns
      iexists _, _; isplitr; swap; · iexact H9
      ipureintro; rfl
    iexists _; iexact H15
  · iintro ⟨H9, H15, Hk⟩
    iapply (specC_idle c i arg3 harg3 arg4 harg4 arg5 harg5 arg6 harg6 arg7 harg7 arg8 harg8 arg9 harg9 arg10 harg10 arg11 harg11 arg12 harg12 arg13 harg13 arg14 harg14 arg15 harg15 h E K)
    iapply Hk
    isplitl [H9]; · iexact H9
    iexact H15

/-- The body keeps what it reads and the table, and leaves the rest at some contents. -/
theorem body_keeps (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (x0 : Vec F S2112 .f32) (x1 : Vec F S1056 .f32) (x2 : Vec F S512x3072 .bf16) (x3 : Vec F S512x4 .f32) (x4 : Vec F S1x3072x2816 .fp8e4m3) (x5 : Vec F S1x1408x3072 .fp8e4m3) (xt : TbBuf0 (F := F) c tbM0_0) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt) -∗ K ⟨⟩))
      ⊢ wp frame (wpE (defs₀ (F := F)) Variants.none c none) E (cc0_moe_dense i tbM0_0 htbM0_0 arg3 harg3 arg4 harg4 arg5 harg5 arg6 harg6 arg7 harg7 arg8 harg8 arg9 harg9 arg10 harg10 arg11 harg11 arg12 harg12 arg13 harg13 arg14 harg14 arg15 harg15) K := by
  rw [body_eq, wp_bind]
  simp only [wp_bind]
  iintro ⟨H3, H4, H5, H6, H7, H8, H9, H10, H11, H12, H13, H14, H15, HT, Hk⟩
  iapply (specA c i arg3 harg3 arg4 harg4 arg5 harg5 arg6 harg6 arg7 harg7 arg8 harg8 arg9 harg9 arg10 harg10 arg11 harg11 arg12 harg12 arg13 harg13 arg14 harg14 arg15 harg15 x2 E _)
  isplitl [H5]; · iexact H5
  isplitl [H10]; · iexact H10
  isplitl [H11]; · iexact H11
  isplitl [H12]; · iexact H12
  isplitl [H15]; · iexact H15
  iintro ⟨H5, H10, H11, H12, H15⟩
  iapply (specB c i arg3 harg3 arg4 harg4 arg5 harg5 arg6 harg6 arg7 harg7 arg8 harg8 arg9 harg9 arg10 harg10 arg11 harg11 arg12 harg12 arg13 harg13 arg14 harg14 arg15 harg15 x0 x1 x3 x4 x5 xt E _)
  isplitl [H3]; · iexact H3
  isplitl [H4]; · iexact H4
  isplitl [H6]; · iexact H6
  isplitl [H7]; · iexact H7
  isplitl [H8]; · iexact H8
  isplitl [H12]; · iexact H12
  isplitl [H13]; · iexact H13
  isplitl [H14]; · iexact H14
  isplitl [H15]; · iexact H15
  isplitl [HT]; · iexact HT
  iintro ⟨H3, H4, H6, H7, H8, H12, H13, H14, H15, HT⟩
  iapply (specC c i arg3 harg3 arg4 harg4 arg5 harg5 arg6 harg6 arg7 harg7 arg8 harg8 arg9 harg9 arg10 harg10 arg11 harg11 arg12 harg12 arg13 harg13 arg14 harg14 arg15 harg15 E _)
  isplitl [H9]; · iexact H9
  isplitl [H15]; · iexact H15
  iintro ⟨H9, H15⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact HT

variable (m : (ℓ : Loc nD τ sig) → Buf (Elt F) ℓ) (ρ : Dev nD → PrngReg)
def forgets0 : Fin 9 → Bool := fun w => w.val == 6 || w.val == 7 || w.val == 8

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, H6, H7, H8⟩
  iapply (body_keeps c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, H8, HS0, HS1, HS2, HS3, HT0⟩
  isplitl [HS0 HS1 HS2 HS3 Hg HT0]
  · isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 :=
  Idealize.SL.BI.Entails.refl _

theorem hout (hO : Ok m) (c : Dev nD) : (dats m hO 0 c).Φ (Fin.last (cfgM m hO).N) ⊢ Pipeline.ΦA spec0 c := by
  rw [show (dats m hO 0 c).Φ (Fin.last (cfgM m hO).N) = iprop(Pipeline.ΦA spec0 c ∗ Pipeline.ΦT pre0 (tbl m) c) from rfl]
  iintro ⟨H, -⟩
  iexact H

set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO 0 c).toRForget forgets0) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Kernel.Body

end
-- ==== Proof.KernelIdeal.Kit.lean ====
/-
What every statement about the pipelined call is made over: the arrays when the call begins, the
table of counts, the block of each window at each grid point, the staging and scratch buffers, and
at which grid points the first and the last expert come.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Kit

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem flush0_6 (a : (pcfg0 (F := F)).Adm) : ∀ t : Fin (cfg0 a).N, ((cfg0 a).win 6).flush t = true ↔ t.val % 4 = 3 :=
  (fun t => Pipeline.Window.flushOf_reads cc0_transform_6 reads0_6 hreads0_6 0 (by decide) (by decide) (Pipeline.Window.sep_of_coord cc0_transform_6 0 0 (fun _ => rfl) (by decide)) (P := 4) (m := 3) (by decide) rfl t : ∀ t : Fin grid0.N, Pipeline.Window.flushOf grid0 true cc0_transform_6 t = true ↔ t.val % 4 = 3)
theorem flush0_7 (a : (pcfg0 (F := F)).Adm) : ∀ t : Fin (cfg0 a).N, ((cfg0 a).win 7).flush t = true ↔ t.val % 4 = 3 :=
  (fun t => Pipeline.Window.flushOf_reads cc0_transform_7 reads0_7 hreads0_7 0 (by decide) (by decide) (Pipeline.Window.sep_of_coord cc0_transform_7 0 0 (fun _ => rfl) (by decide)) (P := 4) (m := 3) (by decide) rfl t : ∀ t : Fin grid0.N, Pipeline.Window.flushOf grid0 true cc0_transform_7 t = true ↔ t.val % 4 = 3)
theorem flush0_8 (a : (pcfg0 (F := F)).Adm) : ∀ t : Fin (cfg0 a).N, ((cfg0 a).win 8).flush t = true ↔ t.val % 4 = 3 :=
  (fun t => Pipeline.Window.flushOf_reads cc0_transform_8 reads0_8 hreads0_8 0 (by decide) (by decide) (Pipeline.Window.sep_of_coord cc0_transform_8 0 0 (fun _ => rfl) (by decide)) (P := 4) (m := 3) (by decide) rfl t : ∀ t : Fin grid0.N, Pipeline.Window.flushOf grid0 true cc0_transform_8 t = true ↔ t.val % 4 = 3)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_dense (grid0.coords t) (Memref.whole main_v12) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _)

variable (m : (ℓ : Loc nD τ sig) → Buf (Elt F) ℓ) (ρ : Dev nD → PrngReg)
/-! ## @main up to the region -/

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S128 .i32 := Memref.whole main_v12
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 4 rfl).trans ((hA c 4).trans (V_main_arg3 m c)),
      ((h c).2 main_arg4 (by decide : main_arg4 ∈ Pipeline.restRefs sig spec0)).trans (V_main_arg4 m c),
      (Pipeline.RDat.FramePost.arr_in h c 5 rfl).trans ((hA c 5).trans (V_main_arg5 m c)),
      ((h c).2 main_arg6 (by decide : main_arg6 ∈ Pipeline.restRefs sig spec0)).trans (V_main_arg6 m c)⟩) h

/-! ## The body's branch conditions -/

abbrev first (i : grid0.Coords) : Prop := k0_cond1 i = 1#1
/-- It holds at the points ≡ 0 (mod 4) — by arithmetic of the point. -/
theorem hfirst : ∀ t : Fin grid0.N, first (grid0.coords t) ↔ t.val % 4 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [first, k0_cond1, e0, e1]
    word_cmp
   : ∀ t : Fin grid0.N, first (grid0.coords t) ↔ t.val % 4 = 0)

abbrev last (i : grid0.Coords) : Prop := k0_cond3 i = 1#1
/-- It holds at the points ≡ 3 (mod 4) — by arithmetic of the point. -/
theorem hlast : ∀ t : Fin grid0.N, last (grid0.coords t) ↔ t.val % 4 = 3 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [last, k0_cond3, e0, e1]
    word_cmp
   : ∀ t : Fin grid0.N, last (grid0.coords t) ↔ t.val % 4 = 3)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-! ## The kernel body on any staging memrefs: a subtype the run finds -/

abbrev ms0_0 (hO : Ok m) (t : Fin (cfgM m hO).N) : Memref sig .tc .smem S2112 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .smem S1056 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x3072 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x4 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x3072x2816 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1408x3072 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S512x3072 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S512x3072 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S512x24 .f32 := spec0_8.stage ((cfgM m hO).slots t 8)
abbrev hs0_8 (hO : Ok m) (t : Fin (cfgM m hO).N) : (ms0_8 m hO t).IsWhole := hstage0_8 (((cfgM m hO).slots t 8).cast nbuf0_8)
/-- The scratch operands: whole scoped buffers of the kernel's own, passed beside the windows. -/
abbrev scM0_0 : Memref sig .tc .vmem S512x3072 .bf16 := Memref.whole cc0_scratch0
abbrev scM0_1 : Memref sig .tc .vmem S3072x256 .bf16 := Memref.whole cc0_scratch1
abbrev scM0_2 : Memref sig .tc .vmem S512x1408 .bf16 := Memref.whole cc0_scratch2
abbrev scM0_3 : Memref sig .tc .vmem S512x3072 .f32 := Memref.whole cc0_scratch3
/-- The scratch `arg12` the kernel carries between points, as a view: what it holds is stated through it. -/
abbrev VS0_0 : View sig .tc .vmem S512x3072 .bf16 := scM0_0.view
/-- The scratch `arg15` the kernel carries between points, as a view: what it holds is stated through it. -/
abbrev VS0_3 : View sig .tc .vmem S512x3072 .f32 := scM0_3.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Body

end
-- ==== Proof.KernelIdeal.Blocks.lean ====
/-
The kernel body in three blocks, run one after the other: the block that quantises a tile of
tokens at the first expert, the block that runs one expert if a token of the tile chose it, and
the block that writes the result at the last expert.
-/
module

public import proofs.«01_k».proof.Proof.Gen.KernelIdeal.Skeleton
public import proofs.«01_k».proof.Proof.Gen.KernelIdeal.Loops
public import Idealize.ShloMosaic.Lib.Exec

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first expert: the codes, the scales and the widened values of the tile, and a zero
    accumulator. -/
def blockA (i : grid0.Coords) (arg2 : Memref sig .tc .smem S128 .i32) (harg2 : arg2.IsWhole) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) : Prog (TpuEff nD τ sig (Elt F) Λ₀ .tc) PUnit := do
  if k0_h1 : k0_cond1 i = 1#1 then do
    let v2287 : FVec F S512x128 .bf16 ← k0_part54 i arg2 harg2 arg3 harg3 arg4 harg4 arg5 harg5 arg6 harg6 arg7 harg7 arg8 harg8 arg9 harg9 arg10 harg10 arg11 harg11 arg12 harg12 arg13 harg13 arg14 harg14 arg15 harg15
    let v2290 : Vec F S512x128 .bf16 ← Prog.lift (.load arg12 (Rect.unit (s := S512x3072) ![0, 2944] S512x128.size inb_S512x3072_S512x128_0_2944).toLoadRect (View.loadsAt_vmem h_S512x128))
    Prog.lift (.store arg12 (Rect.unit (s := S512x3072) ![0, 2944] S512x128.size inb_S512x3072_S512x128_0_2944) (k0_pay1 v2287) Finset.univ (View.stores_vmem h_S512x128 (harg12.storeExact_slice rfl _ packedbf16_S512x3072_S512x128_0_2944) (fun _ => rfl)) (.inl rfl))
    let v2294 : Vec F S512x3072 .f32 ← Prog.lift (.load arg15 (Rect.unit (s := S512x3072) ![0, 0] S512x3072.size inb_S512x3072_S512x3072_0_0).toLoadRect (View.loadsAt_vmem h_S512x3072))
    Prog.lift (.store arg15 (Rect.unit (s := S512x3072) ![0, 0] S512x3072.size inb_S512x3072_S512x3072_0_0) (k0_pay2 (F := F)) Finset.univ (View.stores_vmem_bits_univ h_S512x3072 rfl) (.inl rfl))
    pure ⟨⟩
  else do
    pure ⟨⟩

/-- One expert on the tile: the loop over hidden columns, then the loop over output columns. -/
def blockLive (i : grid0.Coords) (arg2 : Memref sig .tc .smem S128 .i32) (harg2 : arg2.IsWhole) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) : Prog (TpuEff nD τ sig (Elt F) Λ₀ .tc) PUnit := do
  let arg1 : BitVec 32 := BitVec.ofNat 32 (i 1).val
  Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg1)
  let v17 : Vec F S512x4 .f32 ← Prog.lift (.load arg6 (Rect.unit (s := S512x4) ![0, 0] S512x4.size inb_S512x4_S512x4_0_0).toLoadRect (View.loadsAt_vmem h_S512x4))
  Scf.Loop.for k0_t2_loop k0_t2_ok ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg1 v17)
  pure ⟨⟩

/-- One expert, if its count in this tile is positive: the hidden layer, then the output columns. -/
def blockB (i : grid0.Coords) (arg2 : Memref sig .tc .smem S128 .i32) (harg2 : arg2.IsWhole) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) : Prog (TpuEff nD τ sig (Elt F) Λ₀ .tc) PUnit := do
  let v6 : Elt F .i32 ← smemLoad arg2 (Rect.unit (s := S128) (k0_off1 i) S1.size (k0_off1_inb i)) numel1_S1 rfl
  let v7 : BitVec 1 := Scalar.cmpi .sgt v6 0#32
  let v8 : BitVec 32 := Scalar.extui v7
  let v9 : BitVec 1 := Scalar.cmpi .ne v8 0#32
  if v9 = 1#1 then do
    blockLive i arg2 harg2 arg3 harg3 arg4 harg4 arg5 harg5 arg6 harg6 arg7 harg7 arg8 harg8 arg9 harg9 arg10 harg10 arg11 harg11 arg12 harg12 arg13 harg13 arg14 harg14 arg15 harg15
  else do
    pure ⟨⟩

/-- At the last expert: the accumulator, rounded, is the result. -/
def blockC (i : grid0.Coords) (arg2 : Memref sig .tc .smem S128 .i32) (harg2 : arg2.IsWhole) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) : Prog (TpuEff nD τ sig (Elt F) Λ₀ .tc) PUnit := do
  if k0_h3 : k0_cond3 i = 1#1 then do
    let v13 : Vec F S512x3072 .f32 ← Prog.lift (.load arg15 (Rect.unit (s := S512x3072) ![0, 0] S512x3072.size inb_S512x3072_S512x3072_0_0).toLoadRect (View.loadsAt_vmem h_S512x3072))
    let v15 : Vec F S512x3072 .bf16 ← Prog.lift (.load arg9 (Rect.unit (s := S512x3072) ![0, 0] S512x3072.size inb_S512x3072_S512x3072_0_0).toLoadRect (View.loadsAt_vmem h_S512x3072))
    Prog.lift (.store arg9 (Rect.unit (s := S512x3072) ![0, 0] S512x3072.size inb_S512x3072_S512x3072_0_0) (k0_pay6 v13) Finset.univ (View.stores_vmem h_S512x3072 (harg9.storeExact_slice rfl _ packedbf16_S512x3072_S512x3072_0_0) (fun _ => rfl)) (.inl rfl))
    pure ⟨⟩
  else do
    pure ⟨⟩

theorem ite_bind.{u, v} {M : Type u → Type v} [Monad M] {α β : Type u} (p : Prop) [Decidable p] (a b : M α) (k : α → M β) :
    ((if p then a else b) >>= k) = if p then a >>= k else b >>= k := by split <;> rfl

/-- The body is its three blocks. -/
theorem body_eq (i : grid0.Coords) (arg2 : Memref sig .tc .smem S128 .i32) (harg2 : arg2.IsWhole) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) : cc0_moe_dense (F := F) i arg2 harg2 arg3 harg3 arg4 harg4 arg5 harg5 arg6 harg6 arg7 harg7 arg8 harg8 arg9 harg9 arg10 harg10 arg11 harg11 arg12 harg12 arg13 harg13 arg14 harg14 arg15 harg15 = (blockA i arg2 harg2 arg3 harg3 arg4 harg4 arg5 harg5 arg6 harg6 arg7 harg7 arg8 harg8 arg9 harg9 arg10 harg10 arg11 harg11 arg12 harg12 arg13 harg13 arg14 harg14 arg15 harg15 >>= fun _ => blockB i arg2 harg2 arg3 harg3 arg4 harg4 arg5 harg5 arg6 harg6 arg7 harg7 arg8 harg8 arg9 harg9 arg10 harg10 arg11 harg11 arg12 harg12 arg13 harg13 arg14 harg14 arg15 harg15 >>= fun _ => blockC i arg2 harg2 arg3 harg3 arg4 harg4 arg5 harg5 arg6 harg6 arg7 harg7 arg8 harg8 arg9 harg9 arg10 harg10 arg11 harg11 arg12 harg12 arg13 harg13 arg14 harg14 arg15 harg15) := by
  rw [cc0_moe_dense_eq_skeleton]
  unfold cc0_moe_dense_skel blockA blockB blockLive blockC
  by_cases h1 : k0_cond1 i = 1#1 <;> by_cases h3 : k0_cond3 i = 1#1 <;>
    simp only [h1, h3, dif_pos, dif_neg, not_false_eq_true, bind_assoc, pure_bind, ↓reduceDIte, ite_bind] <;> rfl

end Cert.KernelIdeal.Body

end
-- ==== Proof.KernelIdeal.RunA.lean ====
/-
The first block run: what it stores, found by running it.
-/
module

public import proofs.«01_k».proof.Proof.KernelIdeal.Kit
public import proofs.«01_k».proof.Proof.KernelIdeal.Blocks

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1700000 in
/-- The pieces the first block stores into the codes, the scales, the widened values and the
    accumulator, with the proof that it stores them whatever those buffers held. -/
def runA (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (hc : first i)
    (x2 : Vec F S512x3072 .bf16) :
    Σ' (L10 : List (View.Piece (Elt F) S512x3072 .fp8e4m3)), Σ' (L11 : List (View.Piece (Elt F) S512x24 .f32)), Σ' (L12 : List (View.Piece (Elt F) S512x3072 .bf16)), { L15 : List (View.Piece (Elt F) S512x3072 .f32) //
      ∀ (E : Set ℕ) (K : PUnit → sProp 𝕄),
        iprop(owns (c : Thread nD τ) arg5 fullShare x2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg15 fullShare d) ∗ (iprop(owns (c : Thread nD τ) arg5 fullShare x2 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg15.view.loc (c : Thread nD τ) ↦[arg15.view.set]{fullShare} arg15.view.writes (Elt F) f L15)) -∗ K ⟨⟩))
          ⊢ wp frame (wpE (defs₀ (F := F)) Variants.none c none) E (blockA i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    unfold blockA
    simp only [k0_part54_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f5, %hf5, H5⟩, ⟨%d10, %f10, -, H10⟩, ⟨%d11, %f11, -, H11⟩, ⟨%d12, %f12, -, H12⟩, ⟨%d15, %f15, -, H15⟩, Hk⟩
    obtain rfl := harg5.eq_unread hf5
    sl_exec (disch := first | sl_exact hc)
    try sl_step
    iapply Hk
    isplitl [H5]
    · iexists _; isplitr
      · ipureintro; exact harg5.read_unread _
      iexact H5
    isplitl [H10]
    · iexists _; iexact H10
    isplitl [H11]
    · iexists _; iexact H11
    isplitl [H12]
    · iexists _; iexact H12
    iexists _; iexact H15

end Cert.KernelIdeal.Body

end
-- ==== Proof.KernelIdeal.RunL.lean ====
/-
The expert block run: what it adds to the accumulator, found by running it.
-/
module

public import proofs.«01_k».proof.Proof.KernelIdeal.Kit
public import proofs.«01_k».proof.Proof.KernelIdeal.Blocks

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1700000 in
/-- The pieces the expert block stores into the accumulator, with the proof that it stores them;
    `g13` and `g14` are what the block of weights and the hidden layer held before. -/
def runL (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole)
    (x0 : Vec F S2112 .f32) (x1 : Vec F S1056 .f32) (x3 : Vec F S512x4 .f32) (x4 : Vec F S1x3072x2816 .fp8e4m3) (x5 : Vec F S1x1408x3072 .fp8e4m3) (xs0 : Vec F S512x3072 .bf16) (xs3 : Vec F S512x3072 .f32) (g13 : arg13.view.ty.Contents (Elt F))  (g14 : arg14.view.ty.Contents (Elt F)) :
    { L15 : List (View.Piece (Elt F) S512x3072 .f32) //
      ∀ (E : Set ℕ) (K : PUnit → sProp 𝕄),
        iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg8 fullShare x5 ∗ owns (c : Thread nD τ) arg12 fullShare xs0 ∗ (arg13.view.loc (c : Thread nD τ) ↦[arg13.view.set]{fullShare} g13) ∗ (arg14.view.loc (c : Thread nD τ) ↦[arg14.view.set]{fullShare} g14) ∗ owns (c : Thread nD τ) arg15 fullShare xs3 ∗ (iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg8 fullShare x5 ∗ owns (c : Thread nD τ) arg12 fullShare xs0 ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f L15)) -∗ K ⟨⟩))
          ⊢ wp frame (wpE (defs₀ (F := F)) Variants.none c none) E (blockLive i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    unfold blockLive
    unfold owns
    iintro ⟨⟨%f3, %hf3, H3⟩, ⟨%f4, %hf4, H4⟩, ⟨%f6, %hf6, H6⟩, ⟨%f7, %hf7, H7⟩, ⟨%f8, %hf8, H8⟩, ⟨%f12, %hf12, H12⟩, H13, H14, ⟨%f15, %hf15, H15⟩, Hk⟩
    obtain rfl := harg3.eq_unread hf3
    obtain rfl := harg4.eq_unread hf4
    obtain rfl := harg6.eq_unread hf6
    obtain rfl := harg7.eq_unread hf7
    obtain rfl := harg8.eq_unread hf8
    obtain rfl := harg12.eq_unread hf12
    obtain rfl := harg15.eq_unread hf15
    sl_exec
    try sl_step
    iapply Hk
    isplitl [H3]
    · iexists _; isplitr
      · ipureintro; exact harg3.read_unread _
      iexact H3
    isplitl [H4]
    · iexists _; isplitr
      · ipureintro; exact harg4.read_unread _
      iexact H4
    isplitl [H6]
    · iexists _; isplitr
      · ipureintro; exact harg6.read_unread _
      iexact H6
    isplitl [H7]
    · iexists _; isplitr
      · ipureintro; exact harg7.read_unread _
      iexact H7
    isplitl [H8]
    · iexists _; isplitr
      · ipureintro; exact harg8.read_unread _
      iexact H8
    isplitl [H12]
    · iexists _; isplitr
      · ipureintro; exact harg12.read_unread _
      iexact H12
    isplitl [H13]
    · iexists _, _; isplitr; swap
      · iexact H13
      ipureintro; rfl
    isplitl [H14]
    · iexists _, _; isplitr; swap
      · iexact H14
      ipureintro; rfl
    iexists _; iexact H15

end Cert.KernelIdeal.Body

end
-- ==== Proof.KernelIdeal.RunC.lean ====
/-
The last block run: what it stores, found by running it.
-/
module

public import proofs.«01_k».proof.Proof.KernelIdeal.Kit
public import proofs.«01_k».proof.Proof.KernelIdeal.Blocks

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1700000 in
/-- The pieces the last block stores into the result, with the proof that it stores them. -/
def runC (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (hc : last i)
    (xs3 : Vec F S512x3072 .f32) :
    { L9 : List (View.Piece (Elt F) S512x3072 .bf16) //
      ∀ (E : Set ℕ) (K : PUnit → sProp 𝕄),
        iprop((∃ d, owns (c : Thread nD τ) arg9 fullShare d) ∗ owns (c : Thread nD τ) arg15 fullShare xs3 ∗ (iprop((∃ f, arg9.view.loc (c : Thread nD τ) ↦[arg9.view.set]{fullShare} arg9.view.writes (Elt F) f L9) ∗ owns (c : Thread nD τ) arg15 fullShare xs3) -∗ K ⟨⟩))
          ⊢ wp frame (wpE (defs₀ (F := F)) Variants.none c none) E (blockC i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    unfold blockC
    unfold owns
    iintro ⟨⟨%d9, %f9, -, H9⟩, ⟨%f15, %hf15, H15⟩, Hk⟩
    obtain rfl := harg15.eq_unread hf15
    sl_exec (disch := first | sl_exact hc)
    try sl_step
    iapply Hk
    isplitl [H9]
    · iexists _; iexact H9
    iexists _; isplitr
    · ipureintro; exact harg15.read_unread _
    iexact H15

end Cert.KernelIdeal.Body

end
-- ==== Proof.KernelIdeal.Idle.lean ====
/-
When a block has nothing to do: the first block away from the first expert, the expert block at a
count of zero, the last block away from the last expert.
-/
module

public import proofs.«01_k».proof.Proof.KernelIdeal.Kit
public import proofs.«01_k».proof.Proof.KernelIdeal.Blocks

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer held at some contents, seen through a memref and seen raw. -/
theorem any_raw (c : Dev nD) {sp : Space} {S : Shape} {e : EltTy} (M : Memref sig .tc sp S e) :
    (iprop(∃ d, owns (c : Thread nD τ) M fullShare d) : sProp 𝕄)
      = iprop(∃ f, M.view.loc (c : Thread nD τ) ↦[M.view.set]{fullShare} f) := by
  have h1 : (iprop(∃ d, owns (c : Thread nD τ) M fullShare d) : sProp 𝕄)
      ⊢ iprop(∃ f, M.view.loc (c : Thread nD τ) ↦[M.view.set]{fullShare} f) := by
    unfold owns
    iintro ⟨%d, %f, -, H⟩
    iexists f; iexact H
  have h2 : (iprop(∃ f, M.view.loc (c : Thread nD τ) ↦[M.view.set]{fullShare} f) : sProp 𝕄)
      ⊢ iprop(∃ d, owns (c : Thread nD τ) M fullShare d) := by
    unfold owns
    iintro ⟨%f, H⟩
    iexists _, f; isplitr; swap; · iexact H
    ipureintro; rfl
  exact Entails.antisymm h1 h2

/-- The count of the tile's tokens for the expert of grid point `i`, read off the table. -/
def count (c : Dev nD) (xt : TbBuf0 (F := F) c tbM0_0) (i : grid0.Coords) : BitVec 32 :=
  View.readAt (Elt F) tbM0_0.view (Rect.unit (s := S128) (k0_off1 i) S1.size (k0_off1_inb i)).toLoadRect xt
    (Shape.Idx.first (numel1_S1.symm ▸ Nat.one_pos))

/-- The expert has a token in the tile. -/
def live (c : Dev nD) (xt : TbBuf0 (F := F) c tbM0_0) (i : grid0.Coords) : Prop :=
  Scalar.cmpi .ne (Scalar.extui (Scalar.cmpi .sgt (count c xt i) 0#32) : BitVec 32) 0#32 = 1#1

theorem specB_live (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (xt : TbBuf0 (F := F) c tbM0_0) (h : live c xt i) (E : Set ℕ) (K : PUnit → sProp 𝕄) :
    iprop(tbPt0 c tbM0_0 xt ∗ (tbPt0 c tbM0_0 xt -∗ wp frame (wpE (defs₀ (F := F)) Variants.none c none) E (blockLive i tbM0_0 htbM0_0 arg3 harg3 arg4 harg4 arg5 harg5 arg6 harg6 arg7 harg7 arg8 harg8 arg9 harg9 arg10 harg10 arg11 harg11 arg12 harg12 arg13 harg13 arg14 harg14 arg15 harg15) K))
      ⊢ wp frame (wpE (defs₀ (F := F)) Variants.none c none) E (blockB i tbM0_0 htbM0_0 arg3 harg3 arg4 harg4 arg5 harg5 arg6 harg6 arg7 harg7 arg8 harg8 arg9 harg9 arg10 harg10 arg11 harg11 arg12 harg12 arg13 harg13 arg14 harg14 arg15 harg15) K := by
  unfold blockB smemLoad smemLoadElt
  iintro ⟨HT, Hk⟩
  rw [wp_bind]
  sl_step
  sl_step
  unfold live count at h
  dsimp only
  rw [if_pos h]
  iapply Hk
  iexact HT

theorem specB_idle (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (xt : TbBuf0 (F := F) c tbM0_0) (h : ¬ live c xt i) (E : Set ℕ) (K : PUnit → sProp 𝕄) :
    iprop(tbPt0 c tbM0_0 xt ∗ (tbPt0 c tbM0_0 xt -∗ K ⟨⟩))
      ⊢ wp frame (wpE (defs₀ (F := F)) Variants.none c none) E (blockB i tbM0_0 htbM0_0 arg3 harg3 arg4 harg4 arg5 harg5 arg6 harg6 arg7 harg7 arg8 harg8 arg9 harg9 arg10 harg10 arg11 harg11 arg12 harg12 arg13 harg13 arg14 harg14 arg15 harg15) K := by
  unfold blockB smemLoad smemLoadElt
  iintro ⟨HT, Hk⟩
  rw [wp_bind]
  sl_step
  sl_step
  unfold live count at h
  dsimp only
  rw [if_neg h]
  sl_step
  iapply Hk
  iexact HT

theorem specA_idle (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (h : ¬ first i) (E : Set ℕ) (K : PUnit → sProp 𝕄) :
    K ⟨⟩ ⊢ wp frame (wpE (defs₀ (F := F)) Variants.none c none) E (blockA i tbM0_0 htbM0_0 arg3 harg3 arg4 harg4 arg5 harg5 arg6 harg6 arg7 harg7 arg8 harg8 arg9 harg9 arg10 harg10 arg11 harg11 arg12 harg12 arg13 harg13 arg14 harg14 arg15 harg15) K := by
  unfold blockA
  rw [dif_neg h]
  iintro H
  sl_step
  iexact H

theorem specC_idle (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (h : ¬ last i) (E : Set ℕ) (K : PUnit → sProp 𝕄) :
    K ⟨⟩ ⊢ wp frame (wpE (defs₀ (F := F)) Variants.none c none) E (blockC i tbM0_0 htbM0_0 arg3 harg3 arg4 harg4 arg5 harg5 arg6 harg6 arg7 harg7 arg8 harg8 arg9 harg9 arg10 harg10 arg11 harg11 arg12 harg12 arg13 harg13 arg14 harg14 arg15 harg15) K := by
  unfold blockC
  rw [dif_neg h]
  iintro H
  sl_step
  iexact H

end Cert.KernelIdeal.Body

end
-- ==== Proof.KernelIdeal.Keeps.lean ====
/-
The kernel ends, stops every transfer and leaves its arguments as they were: nothing is named of
what it stores.
-/
module

public import proofs.«01_k».proof.Proof.KernelIdeal.RunA
public import proofs.«01_k».proof.Proof.KernelIdeal.RunL
public import proofs.«01_k».proof.Proof.KernelIdeal.RunC
public import proofs.«01_k».proof.Proof.KernelIdeal.Idle
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem specA (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (x2 : Vec F S512x3072 .bf16) (E : Set ℕ) (K : PUnit → sProp 𝕄) :
    iprop(owns (c : Thread nD τ) arg5 fullShare x2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg15 fullShare d) ∗ (iprop(owns (c : Thread nD τ) arg5 fullShare x2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg15 fullShare d)) -∗ K ⟨⟩))
      ⊢ wp frame (wpE (defs₀ (F := F)) Variants.none c none) E (blockA i tbM0_0 htbM0_0 arg3 harg3 arg4 harg4 arg5 harg5 arg6 harg6 arg7 harg7 arg8 harg8 arg9 harg9 arg10 harg10 arg11 harg11 arg12 harg12 arg13 harg13 arg14 harg14 arg15 harg15) K := by
  by_cases h : first i
  · iintro ⟨H5, H10, H11, H12, H15, Hk⟩
    iapply ((runA c i arg3 harg3 arg4 harg4 arg5 harg5 arg6 harg6 arg7 harg7 arg8 harg8 arg9 harg9 arg10 harg10 arg11 harg11 arg12 harg12 arg13 harg13 arg14 harg14 arg15 harg15 h x2).2.2.2.2 E K)
    isplitl [H5]; · iexact H5
    isplitl [H10]; · iexact H10
    isplitl [H11]; · iexact H11
    isplitl [H12]; · iexact H12
    isplitl [H15]; · iexact H15
    iintro ⟨H5, ⟨%e10, H10⟩, ⟨%e11, H11⟩, ⟨%e12, H12⟩, ⟨%e15, H15⟩⟩
    iapply Hk
    isplitl [H5]; · iexact H5
    unfold owns
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H15
    ipureintro; rfl
  · iintro ⟨H5, H10, H11, H12, H15, Hk⟩
    iapply (specA_idle c i arg3 harg3 arg4 harg4 arg5 harg5 arg6 harg6 arg7 harg7 arg8 harg8 arg9 harg9 arg10 harg10 arg11 harg11 arg12 harg12 arg13 harg13 arg14 harg14 arg15 harg15 h E K)
    iapply Hk
    isplitl [H5]; · iexact H5
    isplitl [H10]; · iexact H10
    isplitl [H11]; · iexact H11
    isplitl [H12]; · iexact H12
    iexact H15

theorem specB (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (x0 : Vec F S2112 .f32) (x1 : Vec F S1056 .f32) (x3 : Vec F S512x4 .f32) (x4 : Vec F S1x3072x2816 .fp8e4m3) (x5 : Vec F S1x1408x3072 .fp8e4m3) (xt : TbBuf0 (F := F) c tbM0_0) (E : Set ℕ) (K : PUnit → sProp 𝕄) :
    iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg8 fullShare x5 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt ∗ (iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg8 fullShare x5 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt) -∗ K ⟨⟩))
      ⊢ wp frame (wpE (defs₀ (F := F)) Variants.none c none) E (blockB i tbM0_0 htbM0_0 arg3 harg3 arg4 harg4 arg5 harg5 arg6 harg6 arg7 harg7 arg8 harg8 arg9 harg9 arg10 harg10 arg11 harg11 arg12 harg12 arg13 harg13 arg14 harg14 arg15 harg15) K := by
  by_cases h : live c xt i
  · rw [any_raw c arg13, any_raw c arg14]
    iintro ⟨H3, H4, H6, H7, H8, ⟨%d12, H12⟩, ⟨%f13, H13⟩, ⟨%f14, H14⟩, ⟨%d15, H15⟩, HT, Hk⟩
    iapply (specB_live c i arg3 harg3 arg4 harg4 arg5 harg5 arg6 harg6 arg7 harg7 arg8 harg8 arg9 harg9 arg10 harg10 arg11 harg11 arg12 harg12 arg13 harg13 arg14 harg14 arg15 harg15 xt h E K)
    isplitl [HT]; · iexact HT
    iintro HT
    iapply ((runL c i arg3 harg3 arg4 harg4 arg5 harg5 arg6 harg6 arg7 harg7 arg8 harg8 arg9 harg9 arg10 harg10 arg11 harg11 arg12 harg12 arg13 harg13 arg14 harg14 arg15 harg15 x0 x1 x3 x4 x5 d12 d15 f13 f14).2 E K)
    isplitl [H3]; · iexact H3
    isplitl [H4]; · iexact H4
    isplitl [H6]; · iexact H6
    isplitl [H7]; · iexact H7
    isplitl [H8]; · iexact H8
    isplitl [H12]; · iexact H12
    isplitl [H13]; · iexact H13
    isplitl [H14]; · iexact H14
    isplitl [H15]; · iexact H15
    iintro ⟨H3, H4, H6, H7, H8, H12, H13, H14, ⟨%e15, H15⟩⟩
    iapply Hk
    isplitl [H3]; · iexact H3
    isplitl [H4]; · iexact H4
    isplitl [H6]; · iexact H6
    isplitl [H7]; · iexact H7
    isplitl [H8]; · iexact H8
    isplitl [H12]; · iexists _; iexact H12
    rw [← any_raw c arg13, ← any_raw c arg14]
    isplitl [H13]; · iexact H13
    isplitl [H14]; · iexact H14
    isplitl [H15]
    · unfold owns
      iexists _, _; isplitr; swap; · iexact H15
      ipureintro; rfl
    iexact HT
  · iintro ⟨H3, H4, H6, H7, H8, H12, H13, H14, H15, HT, Hk⟩
    iapply (specB_idle c i arg3 harg3 arg4 harg4 arg5 harg5 arg6 harg6 arg7 harg7 arg8 harg8 arg9 harg9 arg10 harg10 arg11 harg11 arg12 harg12 arg13 harg13 arg14 harg14 arg15 harg15 xt h E K)
    isplitl [HT]; · iexact HT
    iintro HT
    iapply Hk
    isplitl [H3]; · iexact H3
    isplitl [H4]; · iexact H4
    isplitl [H6]; · iexact H6
    isplitl [H7]; · iexact H7
    isplitl [H8]; · iexact H8
    isplitl [H12]; · iexact H12
    isplitl [H13]; · iexact H13
    isplitl [H14]; · iexact H14
    isplitl [H15]; · iexact H15
    iexact HT

theorem specC (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (E : Set ℕ) (K : PUnit → sProp 𝕄) :
    iprop((∃ d, owns (c : Thread nD τ) arg9 fullShare d) ∗ (∃ d, owns (c : Thread nD τ) arg15 fullShare d) ∗ (iprop((∃ d, owns (c : Thread nD τ) arg9 fullShare d) ∗ (∃ d, owns (c : Thread nD τ) arg15 fullShare d)) -∗ K ⟨⟩))
      ⊢ wp frame (wpE (defs₀ (F := F)) Variants.none c none) E (blockC i tbM0_0 htbM0_0 arg3 harg3 arg4 harg4 arg5 harg5 arg6 harg6 arg7 harg7 arg8 harg8 arg9 harg9 arg10 harg10 arg11 harg11 arg12 harg12 arg13 harg13 arg14 harg14 arg15 harg15) K := by
  by_cases h : last i
  · iintro ⟨H9, ⟨%d15, H15⟩, Hk⟩
    iapply ((runC c i arg3 harg3 arg4 harg4 arg5 harg5 arg6 harg6 arg7 harg7 arg8 harg8 arg9 harg9 arg10 harg10 arg11 harg11 arg12 harg12 arg13 harg13 arg14 harg14 arg15 harg15 h d15).2 E K)
    isplitl [H9]; · iexact H9
    isplitl [H15]; · iexact H15
    iintro ⟨⟨%e9, H9⟩, H15⟩
    iapply Hk
    isplitl [H9]
    · unfold owns
      iexists _, _; isplitr; swap; · iexact H9
      ipureintro; rfl
    iexists _; iexact H15
  · iintro ⟨H9, H15, Hk⟩
    iapply (specC_idle c i arg3 harg3 arg4 harg4 arg5 harg5 arg6 harg6 arg7 harg7 arg8 harg8 arg9 harg9 arg10 harg10 arg11 harg11 arg12 harg12 arg13 harg13 arg14 harg14 arg15 harg15 h E K)
    iapply Hk
    isplitl [H9]; · iexact H9
    iexact H15

/-- The body keeps what it reads and the table, and leaves the rest at some contents. -/
theorem body_keeps (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (x0 : Vec F S2112 .f32) (x1 : Vec F S1056 .f32) (x2 : Vec F S512x3072 .bf16) (x3 : Vec F S512x4 .f32) (x4 : Vec F S1x3072x2816 .fp8e4m3) (x5 : Vec F S1x1408x3072 .fp8e4m3) (xt : TbBuf0 (F := F) c tbM0_0) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt) -∗ K ⟨⟩))
      ⊢ wp frame (wpE (defs₀ (F := F)) Variants.none c none) E (cc0_moe_dense i tbM0_0 htbM0_0 arg3 harg3 arg4 harg4 arg5 harg5 arg6 harg6 arg7 harg7 arg8 harg8 arg9 harg9 arg10 harg10 arg11 harg11 arg12 harg12 arg13 harg13 arg14 harg14 arg15 harg15) K := by
  rw [body_eq, wp_bind]
  simp only [wp_bind]
  iintro ⟨H3, H4, H5, H6, H7, H8, H9, H10, H11, H12, H13, H14, H15, HT, Hk⟩
  iapply (specA c i arg3 harg3 arg4 harg4 arg5 harg5 arg6 harg6 arg7 harg7 arg8 harg8 arg9 harg9 arg10 harg10 arg11 harg11 arg12 harg12 arg13 harg13 arg14 harg14 arg15 harg15 x2 E _)
  isplitl [H5]; · iexact H5
  isplitl [H10]; · iexact H10
  isplitl [H11]; · iexact H11
  isplitl [H12]; · iexact H12
  isplitl [H15]; · iexact H15
  iintro ⟨H5, H10, H11, H12, H15⟩
  iapply (specB c i arg3 harg3 arg4 harg4 arg5 harg5 arg6 harg6 arg7 harg7 arg8 harg8 arg9 harg9 arg10 harg10 arg11 harg11 arg12 harg12 arg13 harg13 arg14 harg14 arg15 harg15 x0 x1 x3 x4 x5 xt E _)
  isplitl [H3]; · iexact H3
  isplitl [H4]; · iexact H4
  isplitl [H6]; · iexact H6
  isplitl [H7]; · iexact H7
  isplitl [H8]; · iexact H8
  isplitl [H12]; · iexact H12
  isplitl [H13]; · iexact H13
  isplitl [H14]; · iexact H14
  isplitl [H15]; · iexact H15
  isplitl [HT]; · iexact HT
  iintro ⟨H3, H4, H6, H7, H8, H12, H13, H14, H15, HT⟩
  iapply (specC c i arg3 harg3 arg4 harg4 arg5 harg5 arg6 harg6 arg7 harg7 arg8 harg8 arg9 harg9 arg10 harg10 arg11 harg11 arg12 harg12 arg13 harg13 arg14 harg14 arg15 harg15 E _)
  isplitl [H9]; · iexact H9
  isplitl [H15]; · iexact H15
  iintro ⟨H9, H15⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact HT

variable (m : (ℓ : Loc nD τ sig) → Buf (Elt F) ℓ) (ρ : Dev nD → PrngReg)
def forgets0 : Fin 9 → Bool := fun w => w.val == 6 || w.val == 7 || w.val == 8

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, H6, H7, H8⟩
  iapply (body_keeps c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, H8, HS0, HS1, HS2, HS3, HT0⟩
  isplitl [HS0 HS1 HS2 HS3 Hg HT0]
  · isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 :=
  Idealize.SL.BI.Entails.refl _

theorem hout (hO : Ok m) (c : Dev nD) : (dats m hO 0 c).Φ (Fin.last (cfgM m hO).N) ⊢ Pipeline.ΦA spec0 c := by
  rw [show (dats m hO 0 c).Φ (Fin.last (cfgM m hO).N) = iprop(Pipeline.ΦA spec0 c ∗ Pipeline.ΦT pre0 (tbl m) c) from rfl]
  iintro ⟨H, -⟩
  iexact H

set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO 0 c).toRForget forgets0) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Body

end
-- ==== Proof.Quant.lean ====
/-
The quantiser of one group of 128 values, on extended reals: the power of two that scales the
group, its codes, and the values read back from them. The kernel finds the exponent by halving
an interval, the reference by a maximum over all the exponents; both are the same word.
-/
module

public import Idealize.ShloMosaic.Lib.Pointwise

@[expose] public section

set_option maxRecDepth 16384

noncomputable section

namespace Cert.Quant

open Idealize.ShloMosaic

/-- The value of the word whose exponent field is `w` and whose other bits are zero. -/
def rd (w : BitVec 32) : EReal := Ideal.ofBits .f32 (IntOp.shli ArithUnit.vector w 23#32)

/-- The largest magnitude in a group. -/
def amax (g : Fin 128 → EReal) : EReal :=
  Finset.fold max (Ideal.ofBits .f32 4286578688#32) (fun j => FloatOps.absf (F := Ideal) (φ := .f32) (g j)) Finset.univ

/-- The largest magnitude in a group over the largest code. -/
def thr (g : Fin 128 → EReal) : EReal := amax g * Ideal.ofBits .f32 991054117#32

/-- One halving of the interval that holds the exponent field. -/
def step (t : EReal) (k w : BitVec 32) : BitVec 32 :=
  if t < rd (IntOp.addi w k) then w else IntOp.addi w k

/-- The exponent field of the largest power of two that does not exceed `t`. -/
def field (t : EReal) : BitVec 32 :=
  step t 1#32 (step t 2#32 (step t 4#32 (step t 8#32 (step t 16#32 (step t 32#32 (step t 64#32 (step t 128#32 0#32)))))))

/-- The field the scale is made of: an empty field stands for the exponent of one half. -/
def expo (t : EReal) : BitVec 32 := Scalar.select (IntOp.cmpi .eq (field t) 0#32) 126#32 (field t)

/-- The scale of a group. -/
def scale (t : EReal) : EReal := rd (IntOp.addi (expo t) 1#32)

/-- The reciprocal of the scale of a group. -/
def inv (t : EReal) : EReal := rd (IntOp.subi 253#32 (expo t))

/-- The code of one value of a group. -/
def code (x t : EReal) : EReal :=
  min (Ideal.ofBits .f32 1138753536#32) (max (Ideal.ofBits .f32 3286237184#32) (x * inv t))

/-- The value read back from its code. -/
def wide (x t : EReal) : EReal := code x t * scale t

/-! ## The exponent by a maximum -/

/-- The largest exponent whose power of two does not exceed `t`. -/
def top (t : EReal) : BitVec 32 :=
  Finset.fold IntOp.maxsi (2147483648#32) (fun x : Fin 256 =>
    if Ideal.ofBits .f32 (IntOp.shli ArithUnit.vector (IntOp.addi (IntOp.subi (BitVec.ofNat 32 x.val) 127#32) 127#32) 23#32) ≤ t
      then IntOp.subi (BitVec.ofNat 32 x.val) 127#32 else 4294967169#32) Finset.univ

/-- The exponent of the scale. -/
def topN (t : EReal) : BitVec 32 :=
  Scalar.select (IntOp.cmpi .eq (top t) 4294967169#32) 0#32 (IntOp.addi (top t) 1#32)

theorem bits (k : Fin 256) :
    ((IntOp.shli ArithUnit.vector (BitVec.ofNat 32 k.val) 23#32).extractLsb' 31 1 == 1#1) = false
    ∧ ((IntOp.shli ArithUnit.vector (BitVec.ofNat 32 k.val) 23#32).extractLsb' 23 8).toNat = k.val
    ∧ ((IntOp.shli ArithUnit.vector (BitVec.ofNat 32 k.val) 23#32).extractLsb' 0 23).toNat = 0 := by
  revert k
  decide +kernel

theorem rd_val (k : Fin 256) : rd (BitVec.ofNat 32 k.val) = if k.val = 255 then ⊤ else if k.val = 0 then 0 else
    (((2 : ℝ) ^ 23 * (2 : ℝ) ^ ((k.val : ℤ) - 127 - 23) : ℝ) : EReal) := by
  obtain ⟨h1, h2, h3⟩ := bits k
  unfold rd
  show Ideal.ieee 8 23 _ = _
  unfold Ideal.ieee
  simp only [h1, h2, h3]
  norm_num

theorem rd_mono {j k : ℕ} (hjk : j ≤ k) (hk : k < 256) : rd (BitVec.ofNat 32 j) ≤ rd (BitVec.ofNat 32 k) := by
  rw [rd_val ⟨j, by omega⟩, rd_val ⟨k, hk⟩]
  dsimp only
  by_cases h1 : k = 255
  · rw [if_pos h1]; exact le_top
  rw [if_neg h1, if_neg (show ¬ j = 255 by omega)]
  by_cases h2 : k = 0
  · rw [if_pos h2, if_pos (show j = 0 by omega)]
  rw [if_neg h2]
  by_cases h3 : j = 0
  · rw [if_pos h3]
    exact_mod_cast (by positivity : (0 : ℝ) ≤ (2 : ℝ) ^ 23 * (2 : ℝ) ^ ((k : ℤ) - 127 - 23))
  · rw [if_neg h3]
    refine EReal.coe_le_coe_iff.mpr (mul_le_mul_of_nonneg_left ?_ (by positivity))
    exact zpow_le_zpow_right₀ (by norm_num) (by omega)

open Classical in
/-- The largest field, of at most 255, whose power of two does not exceed `t`. -/
def big (t : EReal) : ℕ := Nat.findGreatest (fun k => rd (BitVec.ofNat 32 k) ≤ t) 255

theorem big_le (t : EReal) : big t ≤ 255 := by
  classical exact Nat.findGreatest_le 255

theorem rd_le_iff (t : EReal) {k : ℕ} (h1 : 1 ≤ k) (h2 : k ≤ 255) : rd (BitVec.ofNat 32 k) ≤ t ↔ k ≤ big t := by
  classical
  constructor
  · intro h
    exact Nat.le_findGreatest h2 h
  · intro h
    have hb : rd (BitVec.ofNat 32 (big t)) ≤ t :=
      Nat.findGreatest_of_ne_zero (P := fun k => rd (BitVec.ofNat 32 k) ≤ t) rfl (show big t ≠ 0 by omega)
    exact (rd_mono h (by have := big_le t; omega)).trans hb

theorem step_val (t : EReal) {k w : ℕ} (h1 : 1 ≤ k) (h2 : w + k ≤ 255) :
    step t (BitVec.ofNat 32 k) (BitVec.ofNat 32 w) = BitVec.ofNat 32 (if big t < w + k then w else w + k) := by
  unfold step
  have e : IntOp.addi (BitVec.ofNat 32 w) (BitVec.ofNat 32 k) = BitVec.ofNat 32 (w + k) := by
    show BitVec.ofNat 32 w + BitVec.ofNat 32 k = _
    exact (BitVec.ofNat_add w k).symm
  have hiff := rd_le_iff t (k := w + k) (by omega) h2
  rw [e]
  by_cases h : big t < w + k
  · rw [if_pos h, if_pos (not_le.mp (fun hc => absurd (hiff.mp hc) (by omega)))]
  · rw [if_neg h, if_neg (not_lt.mpr (hiff.mpr (by omega)))]

theorem step_big (t : EReal) {k w : ℕ} (h1 : 1 ≤ k) (h2 : w + k ≤ 255) (w' : ℕ)
    (h : w' = if big t < w + k then w else w + k) :
    step t (BitVec.ofNat 32 k) (BitVec.ofNat 32 w) = BitVec.ofNat 32 w' := h ▸ step_val t h1 h2

/-- The halving finds the field. -/
theorem field_eq (t : EReal) : field t = BitVec.ofNat 32 (big t) := by
  have hb := big_le t
  unfold field
  rw [show (0#32 : BitVec 32) = BitVec.ofNat 32 0 from rfl]
  rw [step_big t (k := 128) (by norm_num) (by norm_num) (big t / 128 * 128) (by split <;> omega)]
  rw [step_big t (k := 64) (by norm_num) (by omega) (big t / 64 * 64) (by split <;> omega)]
  rw [step_big t (k := 32) (by norm_num) (by omega) (big t / 32 * 32) (by split <;> omega)]
  rw [step_big t (k := 16) (by norm_num) (by omega) (big t / 16 * 16) (by split <;> omega)]
  rw [step_big t (k := 8) (by norm_num) (by omega) (big t / 8 * 8) (by split <;> omega)]
  rw [step_big t (k := 4) (by norm_num) (by omega) (big t / 4 * 4) (by split <;> omega)]
  rw [step_big t (k := 2) (by norm_num) (by omega) (big t / 2 * 2) (by split <;> omega)]
  rw [step_big t (k := 1) (by norm_num) (by omega) (big t) (by split <;> omega)]

theorem top_fold : ∀ K : Fin 256, Finset.fold IntOp.maxsi (2147483648#32) (fun x : Fin 256 =>
    if x.val ≤ K.val then IntOp.subi (BitVec.ofNat 32 x.val) 127#32 else 4294967169#32) Finset.univ
      = IntOp.subi (BitVec.ofNat 32 K.val) 127#32 := by
  decide +kernel

theorem shift_back : ∀ k : Fin 256, IntOp.addi (IntOp.subi (BitVec.ofNat 32 k.val) 127#32) 127#32 = BitVec.ofNat 32 k.val := by
  decide +kernel

/-- The maximum finds the field too. -/
theorem top_eq (t : EReal) : top t = IntOp.subi (BitVec.ofNat 32 (big t)) 127#32 := by
  have hb := big_le t
  rw [← top_fold ⟨big t, by omega⟩]
  unfold top
  congr 1
  funext k
  rw [shift_back k]
  by_cases h0 : k.val = 0
  · have e : IntOp.subi (BitVec.ofNat 32 k.val) 127#32 = 4294967169#32 := by rw [h0]; rfl
    rw [e, ite_self, ite_self]
  · exact if_congr (rd_le_iff t (k := k.val) (by omega) (by omega)) rfl rfl

theorem words : ∀ K : Fin 256,
    IntOp.addi (Scalar.select (IntOp.cmpi .eq (IntOp.subi (BitVec.ofNat 32 K.val) 127#32) 4294967169#32) 0#32
        (IntOp.addi (IntOp.subi (BitVec.ofNat 32 K.val) 127#32) 1#32)) 127#32
      = IntOp.addi (Scalar.select (IntOp.cmpi .eq (BitVec.ofNat 32 K.val) 0#32) 126#32 (BitVec.ofNat 32 K.val)) 1#32
    ∧ IntOp.addi (IntOp.subi 0#32 (Scalar.select (IntOp.cmpi .eq (IntOp.subi (BitVec.ofNat 32 K.val) 127#32) 4294967169#32) 0#32
        (IntOp.addi (IntOp.subi (BitVec.ofNat 32 K.val) 127#32) 1#32))) 127#32
      = IntOp.subi 253#32 (Scalar.select (IntOp.cmpi .eq (BitVec.ofNat 32 K.val) 0#32) 126#32 (BitVec.ofNat 32 K.val)) := by
  decide +kernel

/-- The scale by the maximum is the scale by the halving. -/
theorem scale_top (t : EReal) : rd (IntOp.addi (topN t) 127#32) = scale t := by
  unfold scale expo topN
  rw [top_eq, field_eq, (words ⟨big t, by have := big_le t; omega⟩).1]

/-- The reciprocal by the maximum is the reciprocal by the halving. -/
theorem inv_top (t : EReal) : rd (IntOp.addi (IntOp.subi 0#32 (topN t)) 127#32) = inv t := by
  unfold inv expo topN
  rw [top_eq, field_eq, (words ⟨big t, by have := big_le t; omega⟩).2]

end Cert.Quant

end
-- ==== Proof.Ffn.lean ====
/-
The layer's arithmetic over the extended reals, one row at a time: a row quantised in groups of 128,
and one expert's feed-forward network on a quantised row.
-/
module

public import proofs.«01_k».proof.Proof.Quant

@[expose] public section

noncomputable section

namespace Cert.Ffn

open Idealize.ShloMosaic

/-- Group `k` of a row: its columns `128 k .. 128 k + 127` (zero past the end). -/
def slice {N : ℕ} (row : Fin N → EReal) (k : ℕ) (j : Fin 128) : EReal :=
  if h : 128 * k + j.val < N then row ⟨128 * k + j.val, h⟩ else 0

/-- The number a group's scale is chosen from. -/
def thr {N : ℕ} (row : Fin N → EReal) (k : ℕ) : EReal := Quant.thr (slice row k)

/-- A row's codes. -/
def codeRow {N : ℕ} (row : Fin N → EReal) (d : Fin N) : EReal := Quant.code (row d) (thr row (d.val / 128))

/-- A row quantised and widened back. -/
def wideRow {N : ℕ} (row : Fin N → EReal) (d : Fin N) : EReal := Quant.wide (row d) (thr row (d.val / 128))

/-- A row's scales. -/
def scaleRow {N n : ℕ} (row : Fin N → EReal) (k : Fin n) : EReal := Quant.scale (thr row k.val)

/-- One column of the first matmul: weights scaled by their 128 × 128 block's scale. -/
def up (xw : Fin 3072 → EReal) (w1 : Fin 3072 → Fin 2816 → EReal) (s1 : Fin 24 → Fin 22 → EReal)
    (c : Fin 2816) : EReal :=
  ∑ d : Fin 3072, xw d * (w1 d c * s1 ⟨d.val / 128, by omega⟩ ⟨c.val / 128, by omega⟩)

/-- The hidden layer before it is quantised: the gated unit of the two halves. -/
def hid (xw : Fin 3072 → EReal) (w1 : Fin 3072 → Fin 2816 → EReal) (s1 : Fin 24 → Fin 22 → EReal)
    (f : Fin 1408) : EReal :=
  up xw w1 s1 ⟨f.val, by omega⟩ * Ideal.logistic (up xw w1 s1 ⟨f.val, by omega⟩)
    * up xw w1 s1 ⟨1408 + f.val, by omega⟩

/-- One column of the second matmul. -/
def down (hw : Fin 1408 → EReal) (w2 : Fin 1408 → Fin 3072 → EReal) (s2 : Fin 11 → Fin 24 → EReal)
    (c : Fin 3072) : EReal :=
  ∑ f : Fin 1408, hw f * (w2 f c * s2 ⟨f.val / 128, by omega⟩ ⟨c.val / 128, by omega⟩)

/-- One expert's output on a row. -/
def expert (row : Fin 3072 → EReal) (w1 : Fin 3072 → Fin 2816 → EReal) (s1 : Fin 24 → Fin 22 → EReal)
    (w2 : Fin 1408 → Fin 3072 → EReal) (s2 : Fin 11 → Fin 24 → EReal) (c : Fin 3072) : EReal :=
  down (wideRow (hid (wideRow row) w1 s1)) w2 s2 c

/-- A group of a whole row, its columns counted from the group's first. -/
theorem slice_of_lt {N : ℕ} (row : Fin N → EReal) (k : ℕ) (h : 128 * k + 128 ≤ N) (g : Fin 128 → EReal)
    (hg : ∀ j : Fin 128, g j = row ⟨128 * k + j.val, by omega⟩) : slice row k = g := by
  funext j
  rw [hg, slice, dif_pos]

end Cert.Ffn

end
-- ==== Proof.KernelIdeal.Quant.lean ====
/-
The quantiser as the kernel writes it, over one group of 128 columns, and its value at an index.
-/
module

public import proofs.«01_k».proof.Proof.Gen.KernelIdeal.Skeleton
public import proofs.«01_k».proof.Proof.Ffn
public import Idealize.ShloMosaic.Lib.Pointwise

@[expose] public section

set_option maxRecDepth 16384

noncomputable section

namespace Cert.KernelIdeal.Body

open Cert.KernelIdeal Cert.KernelIdeal.Gen
open Idealize.ShloMosaic

variable {F : FTy → Type} [FloatOps F]

/-- A group's largest magnitude over the largest code. -/
def qthr (x : FVec F S512x128 .f32) : FVec F S512x1 .f32 :=
  mulf (shapeCast S512x1 (multiReduction .maximumf [1] S512 (absf x) 0xFF800000#32 reduces_S512x128_S512 (.inl rfl) rfl) shapeCasts_S512_S512x1)
    (broadcast S512x1 (Scalar.ofBits .f32 0x3B124925#32))

/-- One step of the search for the exponent field. -/
def qstep (t : FVec F S512x1 .f32) (k : BitVec 32) (w : IVec S512x1 32) : IVec S512x1 32 :=
  select (cmpf .olt t (bitcastToFloat .f32 (shli (addi w (broadcast S512x1 k)) (broadcast S512x1 23#32)))) w (addi w (broadcast S512x1 k))

/-- The exponent field, found bit by bit. -/
def qfield (t : FVec F S512x1 .f32) : IVec S512x1 32 :=
  qstep t 1#32 (qstep t 2#32 (qstep t 4#32 (qstep t 8#32 (qstep t 16#32 (qstep t 32#32 (qstep t 64#32 (qstep t 128#32 (broadcast S512x1 0#32))))))))

/-- The exponent field, one half's for a field of zero. -/
def qexp (t : FVec F S512x1 .f32) : IVec S512x1 32 :=
  select (cmpi .eq (qfield t) (broadcast S512x1 0#32)) (broadcast S512x1 126#32) (qfield t)

/-- The scale. -/
def qscale (t : FVec F S512x1 .f32) : FVec F S512x1 .f32 :=
  bitcastToFloat .f32 (shli (addi (qexp t) (broadcast S512x1 1#32)) (broadcast S512x1 23#32))

/-- The codes. -/
def qcodes (x : FVec F S512x128 .f32) (t : FVec F S512x1 .f32) : FVec F S512x128 .fp8e4m3 :=
  truncf .fp8e4m3 (minimumf (broadcast S512x128 (Scalar.ofBits .f32 0x43E00000#32)) (maximumf (broadcast S512x128 (Scalar.ofBits .f32 0xC3E00000#32)) (mulf x (broadcastTo S512x128 (bitcastToFloat .f32 (shli (subi (broadcast S512x1 253#32) (qexp t)) (broadcast S512x1 23#32))) broadcasts_S512x1_S512x128)))) bitsLt_fp8e4m3_f32

/-- The codes widened back. -/
def qwide (x : FVec F S512x128 .f32) (t : FVec F S512x1 .f32) : FVec F S512x128 .bf16 :=
  mulf (extf .bf16 (qcodes x t) bitsLt_fp8e4m3_bf16) (broadcastTo S512x128 (truncf .bf16 (qscale t) bitsLt_bf16_f32) broadcasts_S512x1_S512x128)

theorem qthr_pay (v : Vec F S512x128 .bf16) : k0_pay8 v = qthr (k0_pay7 v) := rfl

theorem pay7_at (v : Vec Ideal S512x128 .bf16) (y : S512x128.Idx) : k0_pay7 v y = v y := by
  unfold k0_pay7
  rw [shapeCast_self]
  rfl

theorem qthr_at (x : FVec Ideal S512x128 .f32) (r : Fin 512) :
    qthr x (ix2 r 0) = Quant.thr (fun j => x (ix2 r j)) := by
  pointwise [qthr]
  rfl

theorem qstep_at (t : FVec Ideal S512x1 .f32) (k : BitVec 32) (w : IVec S512x1 32) (r : Fin 512) :
    qstep t k w (ix2 r 0) = Quant.step (t (ix2 r 0)) k (w (ix2 r 0)) := by
  pointwise [qstep]
  rfl

theorem qfield_at (t : FVec Ideal S512x1 .f32) (r : Fin 512) :
    qfield t (ix2 r 0) = Quant.field (t (ix2 r 0)) := by
  unfold qfield Quant.field
  simp only [qstep_at]
  rfl

theorem qexp_at (t : FVec Ideal S512x1 .f32) (r : Fin 512) :
    qexp t (ix2 r 0) = Quant.expo (t (ix2 r 0)) := by
  unfold Quant.expo
  rw [← qfield_at]
  rfl

theorem qscale_at (t : FVec Ideal S512x1 .f32) (r : Fin 512) :
    qscale t (ix2 r 0) = Quant.scale (t (ix2 r 0)) := by
  unfold Quant.scale
  rw [← qexp_at]
  rfl

theorem qcodes_at (x : FVec Ideal S512x128 .f32) (t : FVec Ideal S512x1 .f32) (r : Fin 512) (j : Fin 128) :
    qcodes x t (ix2 r j) = Quant.code (x (ix2 r j)) (t (ix2 r 0)) := by
  unfold Quant.code Quant.inv
  rw [← qexp_at]
  generalize hw : qexp t = w
  pointwise [qcodes]
  subst hw
  rfl

theorem qwide_at (x : FVec Ideal S512x128 .f32) (t : FVec Ideal S512x1 .f32) (r : Fin 512) (j : Fin 128) :
    qwide x t (ix2 r j) = Quant.wide (x (ix2 r j)) (t (ix2 r 0)) := by
  unfold Quant.wide
  rw [← qscale_at, ← qcodes_at]
  generalize hc : qcodes x t = w
  generalize hs : qscale t = z
  pointwise [qwide]
  subst hc hs
  rfl

end Cert.KernelIdeal.Body

end
-- ==== Proof.KernelIdeal.Weights.lean ====
/-
The scaled weight blocks the loops put in their buffer, at an index.
-/
module

public import proofs.«01_k».proof.Proof.KernelIdeal.Quant
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.Tactic

/-- The first weights' scales of expert `e`, off the flat table. -/
def s1Of (x0 : Vec Ideal S2112 .f32) (e : Fin 4) (a : Fin 24) (b : Fin 22) : EReal := x0 (ix1 ⟨528 * e.val + 22 * a.val + b.val, by omega⟩)

/-- The second weights' scales of expert `e`, off the flat table. -/
def s2Of (x1 : Vec Ideal S1056 .f32) (e : Fin 4) (a : Fin 11) (b : Fin 24) : EReal := x1 (ix1 ⟨264 * e.val + 24 * a.val + b.val, by omega⟩)

/-- The first weights of a block. -/
def w1Of (x4 : Vec Ideal S1x3072x2816 .fp8e4m3) (d : Fin 3072) (c : Fin 2816) : EReal := x4 (ix3 0 d c)

/-- The second weights of a block. -/
def w2Of (x5 : Vec Ideal S1x1408x3072 .fp8e4m3) (f : Fin 1408) (c : Fin 3072) : EReal := x5 (ix3 0 f c)

/-- The expert a grid point runs. -/
def expertOf (i : grid0.Coords) : Fin 4 := ⟨(i 1).val, (i 1).isLt⟩

theorem block_at (s : Elt Ideal .f32) (v : Vec Ideal S1x128x128 .fp8e4m3) (a b : Fin 128) :
    k0_pay237 (F := Ideal) s v (ix2 a b) = v (ix3 0 a b) * s := by
  pointwise [k0_pay237]

/-- The column of the first weights that column `j` of the buffer holds in trip `k`: a gate column in
    its left half, the matching up column in its right half. -/
def upCol (k : Fin 11) (j : Fin 256) : Fin 2816 :=
  ⟨if j.val < 128 then 128 * k.val + j.val else 1408 + 128 * k.val + (j.val - 128), by split <;> omega⟩

/-- The buffer in trip `k` of the first loop. -/
def upBuf (x0 : Vec Ideal S2112 .f32) (x4 : Vec Ideal S1x3072x2816 .fp8e4m3) (e : Fin 4) (k : Fin 11) : S3072x256.Idx → EReal :=
  fun y => w1Of x4 (y 0) (upCol k (y 1)) * s1Of x0 e ⟨(y 0).val / 128, by have := (y 0).isLt; change _ < 3072 at this; omega⟩ ⟨(upCol k (y 1)).val / 128, by omega⟩

/-- The buffer's rows below 1408 in trip `k` of the second loop. -/
def downBuf (x1 : Vec Ideal S1056 .f32) (x5 : Vec Ideal S1x1408x3072 .fp8e4m3) (e : Fin 4) (k : Fin 12) : S3072x256.Idx → EReal :=
  fun y => if h : (y 0).val < 1408 then
      w2Of x5 ⟨(y 0).val, h⟩ ⟨256 * k.val + (y 1).val, by have := (y 1).isLt; change _ < 256 at this; omega⟩
        * s2Of x1 e ⟨(y 0).val / 128, by omega⟩ ⟨(256 * k.val + (y 1).val) / 128, by have := (y 1).isLt; change _ < 256 at this; omega⟩
    else 0

/-- A block of the first weights, scaled: the columns from `cc`, stored at column `oc`. -/
theorem up_piece (arg3 : Memref sig .tc .smem S2112 .f32) (harg3 : arg3.IsWhole) (arg7 : Memref sig .tc .vmem S1x3072x2816 .fp8e4m3)
    (harg7 : arg7.IsWhole) (x0 : Vec Ideal S2112 .f32) (x4 : Vec Ideal S1x3072x2816 .fp8e4m3) (e : Fin 4) (k : Fin 11) (g oc cc cb : ℕ)
    (hg : g < 24) (hoc : oc = 0 ∧ cc = 128 * k.val ∧ cb = k.val ∨ oc = 128 ∧ cc = 128 * k.val + 1408 ∧ cb = k.val + 11)
    {o2 : Fin 1 → ℕ} (h2 : o2 = ![528 * e.val + 22 * g + cb]) {o7 : Fin 3 → ℕ} (h7 : o7 = ![0, 128 * g, cc]) {o : Fin 2 → ℕ} (ho : o = ![128 * g, oc])
    (inb2 : ∀ a, o2 a + S1.size a ≤ S2112.size a) (hn : 0 < S1.numel) (inb7 : ∀ a, o7 a + S1x128x128.size a ≤ S1x3072x2816.size a)
    (inb : ∀ a, o a + S128x128.size a ≤ S3072x256.size a) (x : S128x128.Idx) :
    k0_pay237 (F := Ideal) (View.readAt (Elt Ideal) arg3.view (Rect.unit (s := S2112) o2 S1.size inb2).toLoadRect (harg3.unread x0) (Shape.Idx.first hn))
        (View.readAt (Elt Ideal) arg7.view (Rect.unit (s := S1x3072x2816) o7 S1x128x128.size inb7).toLoadRect (harg7.unread x4)) x
      = upBuf x0 x4 e k ((Rect.unit (s := S3072x256) o S128x128.size inb).emb x) := by
  obtain ⟨a, b, rfl⟩ : ∃ (a : Fin 128) (b : Fin 128), x = ix2 a b := ⟨_, _, eq_ix2 x⟩
  rw [block_at]
  subst h2 h7 ho
  rw [View.readAt_eq_ld, View.readAt_eq_ld, harg3.read_unread, harg7.read_unread]
  have hcol : (upCol k ⟨oc + b.val, by rcases hoc with h | h <;> omega⟩).val = cc + b.val := by
    unfold upCol; dsimp only
    rcases hoc with h | h
    · rw [if_pos (by omega)]; omega
    · rw [if_neg (by omega)]; omega
  have e0 : ((Rect.unit (s := S3072x256) ![128 * g, oc] S128x128.size inb).emb (ix2 a b)) 0 = (⟨128 * g + a.val, by omega⟩ : Fin 3072) :=
    Fin.ext (by show 128 * g + 1 * a.val = 128 * g + a.val; omega)
  have e1 : ((Rect.unit (s := S3072x256) ![128 * g, oc] S128x128.size inb).emb (ix2 a b)) 1 = (⟨oc + b.val, by rcases hoc with h | h <;> omega⟩ : Fin 256) :=
    Fin.ext (by show oc + 1 * b.val = oc + b.val; omega)
  unfold upBuf
  simp only [e0, e1]
  unfold w1Of s1Of
  refine congrArg₂ (· * ·) (congrArg x4 (funext fun z => Fin.ext ?_)) (congrArg x0 (funext fun z => Fin.ext ?_))
  · match z with
    | 0 => rfl
    | 1 => exact (by show 128 * g + 1 * a.val = 128 * g + a.val; omega)
    | 2 => exact (by show cc + 1 * b.val = _; rw [Nat.one_mul]; exact hcol.symm)
  · match z with
    | 0 => exact (by
        show 528 * e.val + 22 * g + cb + 1 * 0 = 528 * e.val + 22 * ((128 * g + a.val) / 128) + (upCol k _).val / 128
        rw [hcol]
        rcases hoc with h | h <;> omega)

/-- A block of the second weights, scaled. -/
theorem down_piece (arg4 : Memref sig .tc .smem S1056 .f32) (harg4 : arg4.IsWhole) (arg8 : Memref sig .tc .vmem S1x1408x3072 .fp8e4m3)
    (harg8 : arg8.IsWhole) (x1 : Vec Ideal S1056 .f32) (x5 : Vec Ideal S1x1408x3072 .fp8e4m3) (e : Fin 4) (k : Fin 12) (g h : ℕ)
    (hg : g < 11) (hh : h < 2)
    {o4 : Fin 1 → ℕ} (h4 : o4 = ![264 * e.val + 24 * g + 2 * k.val + h]) {o8 : Fin 3 → ℕ} (h8 : o8 = ![0, 128 * g, 256 * k.val + 128 * h])
    {o : Fin 2 → ℕ} (ho : o = ![128 * g, 128 * h])
    (inb4 : ∀ a, o4 a + S1.size a ≤ S1056.size a) (hn : 0 < S1.numel) (inb8 : ∀ a, o8 a + S1x128x128.size a ≤ S1x1408x3072.size a)
    (inb : ∀ a, o a + S128x128.size a ≤ S3072x256.size a) (x : S128x128.Idx) :
    k0_pay237 (F := Ideal) (View.readAt (Elt Ideal) arg4.view (Rect.unit (s := S1056) o4 S1.size inb4).toLoadRect (harg4.unread x1) (Shape.Idx.first hn))
        (View.readAt (Elt Ideal) arg8.view (Rect.unit (s := S1x1408x3072) o8 S1x128x128.size inb8).toLoadRect (harg8.unread x5)) x
      = downBuf x1 x5 e k ((Rect.unit (s := S3072x256) o S128x128.size inb).emb x) := by
  obtain ⟨a, b, rfl⟩ : ∃ (a : Fin 128) (b : Fin 128), x = ix2 a b := ⟨_, _, eq_ix2 x⟩
  rw [block_at]
  subst h4 h8 ho
  rw [View.readAt_eq_ld, View.readAt_eq_ld, harg4.read_unread, harg8.read_unread]
  have e0 : ((Rect.unit (s := S3072x256) ![128 * g, 128 * h] S128x128.size inb).emb (ix2 a b)) 0 = (⟨128 * g + a.val, by omega⟩ : Fin 3072) :=
    Fin.ext (by show 128 * g + 1 * a.val = 128 * g + a.val; omega)
  have e1 : ((Rect.unit (s := S3072x256) ![128 * g, 128 * h] S128x128.size inb).emb (ix2 a b)) 1 = (⟨128 * h + b.val, by omega⟩ : Fin 256) :=
    Fin.ext (by show 128 * h + 1 * b.val = 128 * h + b.val; omega)
  unfold downBuf
  simp only [e0, e1]
  rw [dif_pos (by omega : 128 * g + a.val < 1408)]
  unfold w2Of s2Of
  refine congrArg₂ (· * ·) (congrArg x5 (funext fun z => Fin.ext ?_)) (congrArg x1 (funext fun z => Fin.ext ?_))
  · match z with
    | 0 => rfl
    | 1 => exact (by show 128 * g + 1 * a.val = 128 * g + a.val; omega)
    | 2 => exact (by show 256 * k.val + 128 * h + 1 * b.val = 256 * k.val + (128 * h + b.val); omega)
  · match z with
    | 0 => exact (by
        show 264 * e.val + 24 * g + 2 * k.val + h + 1 * 0 = 264 * e.val + 24 * ((128 * g + a.val) / 128) + (256 * k.val + (128 * h + b.val)) / 128
        omega)

end Cert.KernelIdeal.Body

end
-- ==== Proof.KernelIdeal.UpBuf.lean ====
/-
The weight buffer in a trip of the first loop: every block stored holds the scaled first weights.
-/
module

public import proofs.«01_k».proof.Proof.KernelIdeal.Weights
public import proofs.«01_k».proof.Proof.Gen.KernelIdeal.Loops
public import Idealize.ShloMosaic.Lib.Ring

@[expose] public section

set_option maxRecDepth 100000

noncomputable section

namespace Cert.KernelIdeal.Body

open Cert.KernelIdeal Cert.KernelIdeal.Gen
open Idealize.ShloMosaic Idealize.ShloMosaic.TcCoe Idealize.ShloMosaic.Tactic Idealize.SL.Sem

/-- A gate block. -/
theorem gate_piece (arg3 : Memref sig .tc .smem S2112 .f32) (harg3 : arg3.IsWhole) (arg7 : Memref sig .tc .vmem S1x3072x2816 .fp8e4m3)
    (harg7 : arg7.IsWhole) (x0 : Vec Ideal S2112 .f32) (x4 : Vec Ideal S1x3072x2816 .fp8e4m3) (e : Fin 4) (k : Fin 11) (g : ℕ) (hg : g < 24)
    {o2 : Fin 1 → ℕ} (h2 : o2 = ![528 * e.val + 22 * g + k.val]) {o7 : Fin 3 → ℕ} (h7 : o7 = ![0, 128 * g, 128 * k.val]) {o : Fin 2 → ℕ} (ho : o = ![128 * g, 0])
    (inb2 : ∀ a, o2 a + S1.size a ≤ S2112.size a) (hn : 0 < S1.numel) (inb7 : ∀ a, o7 a + S1x128x128.size a ≤ S1x3072x2816.size a)
    (inb : ∀ a, o a + S128x128.size a ≤ S3072x256.size a) (x : S128x128.Idx) :
    k0_pay237 (F := Ideal) (View.readAt (Elt Ideal) arg3.view (Rect.unit (s := S2112) o2 S1.size inb2).toLoadRect (harg3.unread x0) (Shape.Idx.first hn))
        (View.readAt (Elt Ideal) arg7.view (Rect.unit (s := S1x3072x2816) o7 S1x128x128.size inb7).toLoadRect (harg7.unread x4)) x
      = upBuf x0 x4 e k ((Rect.unit (s := S3072x256) o S128x128.size inb).emb x) :=
  up_piece arg3 harg3 arg7 harg7 x0 x4 e k g 0 (128 * k.val) k.val hg (.inl ⟨rfl, rfl, rfl⟩) h2 h7 ho inb2 hn inb7 inb x

/-- An up block. -/
theorem lift_piece (arg3 : Memref sig .tc .smem S2112 .f32) (harg3 : arg3.IsWhole) (arg7 : Memref sig .tc .vmem S1x3072x2816 .fp8e4m3)
    (harg7 : arg7.IsWhole) (x0 : Vec Ideal S2112 .f32) (x4 : Vec Ideal S1x3072x2816 .fp8e4m3) (e : Fin 4) (k : Fin 11) (g : ℕ) (hg : g < 24)
    {o2 : Fin 1 → ℕ} (h2 : o2 = ![528 * e.val + 22 * g + k.val + 11]) {o7 : Fin 3 → ℕ} (h7 : o7 = ![0, 128 * g, 128 * k.val + 1408]) {o : Fin 2 → ℕ} (ho : o = ![128 * g, 128])
    (inb2 : ∀ a, o2 a + S1.size a ≤ S2112.size a) (hn : 0 < S1.numel) (inb7 : ∀ a, o7 a + S1x128x128.size a ≤ S1x3072x2816.size a)
    (inb : ∀ a, o a + S128x128.size a ≤ S3072x256.size a) (x : S128x128.Idx) :
    k0_pay237 (F := Ideal) (View.readAt (Elt Ideal) arg3.view (Rect.unit (s := S2112) o2 S1.size inb2).toLoadRect (harg3.unread x0) (Shape.Idx.first hn))
        (View.readAt (Elt Ideal) arg7.view (Rect.unit (s := S1x3072x2816) o7 S1x128x128.size inb7).toLoadRect (harg7.unread x4)) x
      = upBuf x0 x4 e k ((Rect.unit (s := S3072x256) o S128x128.size inb).emb x) :=
  up_piece arg3 harg3 arg7 harg7 x0 x4 e k g 128 (128 * k.val + 1408) (k.val + 11) hg (.inr ⟨rfl, rfl, rfl⟩)
    (h2.trans (by rw [Nat.add_assoc (528 * e.val + 22 * g)])) h7 ho inb2 hn inb7 inb x

/-- The 48 blocks stored in a trip. -/
theorem upBuf_pieces (i : grid0.Coords) (arg3 : Memref sig .tc .smem S2112 .f32) (harg3 : arg3.IsWhole) (arg7 : Memref sig .tc .vmem S1x3072x2816 .fp8e4m3)
    (harg7 : arg7.IsWhole) (x0 : Vec Ideal S2112 .f32) (x4 : Vec Ideal S1x3072x2816 .fp8e4m3) (k : Fin k0_t1_loop.trips) :
    ∀ p ∈ trip_k0_t1.sl.HW_arg13_48 (F := Ideal) i arg3 arg7 (harg3.unread x0) (harg7.unread x4) k, ∀ x : p.1.shape.Idx,
      p.2 x = upBuf x0 x4 (expertOf i) k (p.1.emb x) := by
  sl_unfold_words
  simp only [List.forall_mem_cons, List.not_mem_nil, false_imp_iff, implies_true, and_true]
  exact ⟨lift_piece arg3 harg3 arg7 harg7 x0 x4 (expertOf i) k 23 (by decide) (k0_off27_eq i k 23) (k0_off51_eq k) rfl _ _ _ _,
    lift_piece arg3 harg3 arg7 harg7 x0 x4 (expertOf i) k 22 (by decide) (k0_off27_eq i k 22) (k0_off50_eq k) rfl _ _ _ _,
    lift_piece arg3 harg3 arg7 harg7 x0 x4 (expertOf i) k 21 (by decide) (k0_off27_eq i k 21) (k0_off49_eq k) rfl _ _ _ _,
    lift_piece arg3 harg3 arg7 harg7 x0 x4 (expertOf i) k 20 (by decide) (k0_off27_eq i k 20) (k0_off48_eq k) rfl _ _ _ _,
    lift_piece arg3 harg3 arg7 harg7 x0 x4 (expertOf i) k 19 (by decide) (k0_off27_eq i k 19) (k0_off47_eq k) rfl _ _ _ _,
    lift_piece arg3 harg3 arg7 harg7 x0 x4 (expertOf i) k 18 (by decide) (k0_off27_eq i k 18) (k0_off46_eq k) rfl _ _ _ _,
    lift_piece arg3 harg3 arg7 harg7 x0 x4 (expertOf i) k 17 (by decide) (k0_off27_eq i k 17) (k0_off45_eq k) rfl _ _ _ _,
    lift_piece arg3 harg3 arg7 harg7 x0 x4 (expertOf i) k 16 (by decide) (k0_off27_eq i k 16) (k0_off44_eq k) rfl _ _ _ _,
    lift_piece arg3 harg3 arg7 harg7 x0 x4 (expertOf i) k 15 (by decide) (k0_off27_eq i k 15) (k0_off43_eq k) rfl _ _ _ _,
    lift_piece arg3 harg3 arg7 harg7 x0 x4 (expertOf i) k 14 (by decide) (k0_off27_eq i k 14) (k0_off42_eq k) rfl _ _ _ _,
    lift_piece arg3 harg3 arg7 harg7 x0 x4 (expertOf i) k 13 (by decide) (k0_off27_eq i k 13) (k0_off41_eq k) rfl _ _ _ _,
    lift_piece arg3 harg3 arg7 harg7 x0 x4 (expertOf i) k 12 (by decide) (k0_off27_eq i k 12) (k0_off40_eq k) rfl _ _ _ _,
    lift_piece arg3 harg3 arg7 harg7 x0 x4 (expertOf i) k 11 (by decide) (k0_off27_eq i k 11) (k0_off39_eq k) rfl _ _ _ _,
    lift_piece arg3 harg3 arg7 harg7 x0 x4 (expertOf i) k 10 (by decide) (k0_off27_eq i k 10) (k0_off38_eq k) rfl _ _ _ _,
    lift_piece arg3 harg3 arg7 harg7 x0 x4 (expertOf i) k 9 (by decide) (k0_off27_eq i k 9) (k0_off37_eq k) rfl _ _ _ _,
    lift_piece arg3 harg3 arg7 harg7 x0 x4 (expertOf i) k 8 (by decide) (k0_off27_eq i k 8) (k0_off36_eq k) rfl _ _ _ _,
    lift_piece arg3 harg3 arg7 harg7 x0 x4 (expertOf i) k 7 (by decide) (k0_off27_eq i k 7) (k0_off35_eq k) rfl _ _ _ _,
    lift_piece arg3 harg3 arg7 harg7 x0 x4 (expertOf i) k 6 (by decide) (k0_off27_eq i k 6) (k0_off34_eq k) rfl _ _ _ _,
    lift_piece arg3 harg3 arg7 harg7 x0 x4 (expertOf i) k 5 (by decide) (k0_off27_eq i k 5) (k0_off33_eq k) rfl _ _ _ _,
    lift_piece arg3 harg3 arg7 harg7 x0 x4 (expertOf i) k 4 (by decide) (k0_off27_eq i k 4) (k0_off32_eq k) rfl _ _ _ _,
    lift_piece arg3 harg3 arg7 harg7 x0 x4 (expertOf i) k 3 (by decide) (k0_off27_eq i k 3) (k0_off31_eq k) rfl _ _ _ _,
    lift_piece arg3 harg3 arg7 harg7 x0 x4 (expertOf i) k 2 (by decide) (k0_off27_eq i k 2) (k0_off30_eq k) rfl _ _ _ _,
    lift_piece arg3 harg3 arg7 harg7 x0 x4 (expertOf i) k 1 (by decide) (k0_off27_eq i k 1) (k0_off29_eq k) rfl _ _ _ _,
    lift_piece arg3 harg3 arg7 harg7 x0 x4 (expertOf i) k 0 (by decide) (k0_off27_eq i k 0) (k0_off28_eq k) rfl _ _ _ _,
    gate_piece arg3 harg3 arg7 harg7 x0 x4 (expertOf i) k 23 (by decide) (k0_off2_eq i k 23) (k0_off26_eq k) rfl _ _ _ _,
    gate_piece arg3 harg3 arg7 harg7 x0 x4 (expertOf i) k 22 (by decide) (k0_off2_eq i k 22) (k0_off25_eq k) rfl _ _ _ _,
    gate_piece arg3 harg3 arg7 harg7 x0 x4 (expertOf i) k 21 (by decide) (k0_off2_eq i k 21) (k0_off24_eq k) rfl _ _ _ _,
    gate_piece arg3 harg3 arg7 harg7 x0 x4 (expertOf i) k 20 (by decide) (k0_off2_eq i k 20) (k0_off23_eq k) rfl _ _ _ _,
    gate_piece arg3 harg3 arg7 harg7 x0 x4 (expertOf i) k 19 (by decide) (k0_off2_eq i k 19) (k0_off22_eq k) rfl _ _ _ _,
    gate_piece arg3 harg3 arg7 harg7 x0 x4 (expertOf i) k 18 (by decide) (k0_off2_eq i k 18) (k0_off21_eq k) rfl _ _ _ _,
    gate_piece arg3 harg3 arg7 harg7 x0 x4 (expertOf i) k 17 (by decide) (k0_off2_eq i k 17) (k0_off20_eq k) rfl _ _ _ _,
    gate_piece arg3 harg3 arg7 harg7 x0 x4 (expertOf i) k 16 (by decide) (k0_off2_eq i k 16) (k0_off19_eq k) rfl _ _ _ _,
    gate_piece arg3 harg3 arg7 harg7 x0 x4 (expertOf i) k 15 (by decide) (k0_off2_eq i k 15) (k0_off18_eq k) rfl _ _ _ _,
    gate_piece arg3 harg3 arg7 harg7 x0 x4 (expertOf i) k 14 (by decide) (k0_off2_eq i k 14) (k0_off17_eq k) rfl _ _ _ _,
    gate_piece arg3 harg3 arg7 harg7 x0 x4 (expertOf i) k 13 (by decide) (k0_off2_eq i k 13) (k0_off16_eq k) rfl _ _ _ _,
    gate_piece arg3 harg3 arg7 harg7 x0 x4 (expertOf i) k 12 (by decide) (k0_off2_eq i k 12) (k0_off15_eq k) rfl _ _ _ _,
    gate_piece arg3 harg3 arg7 harg7 x0 x4 (expertOf i) k 11 (by decide) (k0_off2_eq i k 11) (k0_off14_eq k) rfl _ _ _ _,
    gate_piece arg3 harg3 arg7 harg7 x0 x4 (expertOf i) k 10 (by decide) (k0_off2_eq i k 10) (k0_off13_eq k) rfl _ _ _ _,
    gate_piece arg3 harg3 arg7 harg7 x0 x4 (expertOf i) k 9 (by decide) (k0_off2_eq i k 9) (k0_off12_eq k) rfl _ _ _ _,
    gate_piece arg3 harg3 arg7 harg7 x0 x4 (expertOf i) k 8 (by decide) (k0_off2_eq i k 8) (k0_off11_eq k) rfl _ _ _ _,
    gate_piece arg3 harg3 arg7 harg7 x0 x4 (expertOf i) k 7 (by decide) (k0_off2_eq i k 7) (k0_off10_eq k) rfl _ _ _ _,
    gate_piece arg3 harg3 arg7 harg7 x0 x4 (expertOf i) k 6 (by decide) (k0_off2_eq i k 6) (k0_off9_eq k) rfl _ _ _ _,
    gate_piece arg3 harg3 arg7 harg7 x0 x4 (expertOf i) k 5 (by decide) (k0_off2_eq i k 5) (k0_off8_eq k) rfl _ _ _ _,
    gate_piece arg3 harg3 arg7 harg7 x0 x4 (expertOf i) k 4 (by decide) (k0_off2_eq i k 4) (k0_off7_eq k) rfl _ _ _ _,
    gate_piece arg3 harg3 arg7 harg7 x0 x4 (expertOf i) k 3 (by decide) (k0_off2_eq i k 3) (k0_off6_eq k) rfl _ _ _ _,
    gate_piece arg3 harg3 arg7 harg7 x0 x4 (expertOf i) k 2 (by decide) (k0_off2_eq i k 2) (k0_off5_eq k) rfl _ _ _ _,
    gate_piece arg3 harg3 arg7 harg7 x0 x4 (expertOf i) k 1 (by decide) (k0_off2_eq i k 1) (k0_off4_eq k) rfl _ _ _ _,
    gate_piece arg3 harg3 arg7 harg7 x0 x4 (expertOf i) k 0 (by decide) (k0_off2_eq i k 0) (k0_off3_eq k) rfl _ _ _ _⟩

/-- What the buffer reads back as. -/
theorem upBuf_read (i : grid0.Coords) (arg3 : Memref sig .tc .smem S2112 .f32) (harg3 : arg3.IsWhole) (arg7 : Memref sig .tc .vmem S1x3072x2816 .fp8e4m3)
    (harg7 : arg7.IsWhole) (x0 : Vec Ideal S2112 .f32) (x4 : Vec Ideal S1x3072x2816 .fp8e4m3) (arg13 : Memref sig .tc .vmem S3072x256 .bf16) (k : Fin k0_t1_loop.trips) :
    trip_k0_t1.sl.v798 (F := Ideal) i arg3 arg7 arg13 (harg3.unread x0) (harg7.unread x4) k = upBuf x0 x4 (expertOf i) k := by
  unfold trip_k0_t1.sl.v798
  rw [View.readCov_eq_canon']
  refine funext fun j => ?_
  rw [View.canon_apply_of_pieces (Val := Elt Ideal) (e := .bf16) (upBuf x0 x4 (expertOf i) k) _ (upBuf_pieces i arg3 harg3 arg7 harg7 x0 x4 k) _
    (View.cover_of_tiledL _ ![128, 128] (by sl_kernel_rfl) _)]
  refine congrArg _ (funext fun a => Fin.ext ?_)
  match a with
  | 0 => exact (by show 0 + 1 * (j 0).val = (j 0).val; omega)
  | 1 => exact (by show 0 + 1 * (j 1).val = (j 1).val; omega)

end Cert.KernelIdeal.Body

end
-- ==== Proof.KernelIdeal.TileA.lean ====
/-
What the first block leaves: the tile's codes, its scales and its widened values, row by row, and a
zero accumulator.
-/
module

public import proofs.«01_k».proof.Proof.KernelIdeal.RunA
public import proofs.«01_k».proof.Proof.KernelIdeal.Quant
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A row of a tile. -/
def rowOf (x : Vec Ideal S512x3072 .bf16) (r : Fin 512) : Fin 3072 → EReal := fun d => x (ix2 r d)

/-- The codes of a tile. -/
def codeTile (x : Vec Ideal S512x3072 .bf16) : Vec Ideal S512x3072 .fp8e4m3 :=
  fun y => Ffn.codeRow (rowOf x (y 0)) (y 1)

/-- The scales of a tile. -/
def scaleTile (x : Vec Ideal S512x3072 .bf16) : Vec Ideal S512x24 .f32 :=
  fun y => Ffn.scaleRow (rowOf x (y 0)) (y 1)

/-- The widened values of a tile. -/
def wideTile (x : Vec Ideal S512x3072 .bf16) : Vec Ideal S512x3072 .bf16 :=
  fun y => Ffn.wideRow (rowOf x (y 0)) (y 1)

/-- A group of 128 columns read off a window, at an index. -/
theorem group_at (arg5 : Memref sig .tc .vmem S512x3072 .bf16) (harg5 : arg5.IsWhole) (x2 : Vec Ideal S512x3072 .bf16)
    (k : ℕ) {off : Fin 2 → ℕ} (ho : off = ![0, 128 * k]) (hk : k < 24) (inb : ∀ a, off a + S512x128.size a ≤ S512x3072.size a)
    (r : Fin 512) (j : Fin 128) :
    View.readAt (Elt Ideal) arg5.view (Rect.unit (s := S512x3072) off S512x128.size inb).toLoadRect (harg5.unread x2) (ix2 r j)
      = rowOf x2 r ⟨128 * k + j.val, by omega⟩ := by
  subst ho
  rw [View.readAt_eq_ld, harg5.read_unread]
  unfold rowOf
  refine congrArg x2 (funext fun a => Fin.ext ?_)
  match a with
  | 0 => exact (by show 0 + 1 * r.val = r.val; omega)
  | 1 => exact (by show 128 * k + 1 * j.val = 128 * k + j.val; omega)

/-- The number a group's scale is chosen from. -/
theorem thr_group (arg5 : Memref sig .tc .vmem S512x3072 .bf16) (harg5 : arg5.IsWhole) (x2 : Vec Ideal S512x3072 .bf16)
    (k : ℕ) {off : Fin 2 → ℕ} (ho : off = ![0, 128 * k]) (hk : k < 24) (inb : ∀ a, off a + S512x128.size a ≤ S512x3072.size a)
    (r : Fin 512) :
    k0_pay8 (F := Ideal) (View.readAt (Elt Ideal) arg5.view (Rect.unit (s := S512x3072) off S512x128.size inb).toLoadRect (harg5.unread x2)) (ix2 r 0)
      = Ffn.thr (rowOf x2 r) k := by
  rw [qthr_pay, qthr_at]
  unfold Ffn.thr
  rw [Ffn.slice_of_lt _ k (by omega)]
  intro j
  rw [pay7_at, group_at arg5 harg5 x2 k ho hk]

/-- A group's stored codes are the tile's, at the group's columns. -/
theorem code_piece (arg5 : Memref sig .tc .vmem S512x3072 .bf16) (harg5 : arg5.IsWhole) (x2 : Vec Ideal S512x3072 .bf16)
    (k : ℕ) {off : Fin 2 → ℕ} (ho : off = ![0, 128 * k]) (hk : k < 24) (inb inb' : ∀ a, off a + S512x128.size a ≤ S512x3072.size a)
    (x : S512x128.Idx) :
    qcodes (F := Ideal) (k0_pay7 (View.readAt (Elt Ideal) arg5.view (Rect.unit (s := S512x3072) off S512x128.size inb).toLoadRect (harg5.unread x2)))
        (k0_pay8 (View.readAt (Elt Ideal) arg5.view (Rect.unit (s := S512x3072) off S512x128.size inb).toLoadRect (harg5.unread x2))) x
      = codeTile x2 ((Rect.unit (s := S512x3072) off S512x128.size inb').emb x) := by
  obtain ⟨r, j, rfl⟩ : ∃ (r : Fin 512) (j : Fin 128), x = ix2 r j := ⟨_, _, eq_ix2 x⟩
  rw [qcodes_at, thr_group arg5 harg5 x2 k ho hk, pay7_at, group_at arg5 harg5 x2 k ho hk]
  subst ho
  have e0 : ((Rect.unit (s := S512x3072) ![0, 128 * k] S512x128.size inb').emb (ix2 r j)) 0 = r :=
    Fin.ext (by show 0 + 1 * r.val = r.val; omega)
  have e1 : ((Rect.unit (s := S512x3072) ![0, 128 * k] S512x128.size inb').emb (ix2 r j)) 1 = (⟨128 * k + j.val, by omega⟩ : Fin 3072) :=
    Fin.ext (by show 128 * k + 1 * j.val = 128 * k + j.val; omega)
  unfold codeTile Ffn.codeRow
  rw [e0, e1]
  have hd : (128 * k + j.val) / 128 = k := by omega
  show _ = Quant.code _ (Ffn.thr _ ((128 * k + j.val) / 128))
  rw [hd]

theorem wide_piece (arg5 : Memref sig .tc .vmem S512x3072 .bf16) (harg5 : arg5.IsWhole) (x2 : Vec Ideal S512x3072 .bf16)
    (k : ℕ) {off : Fin 2 → ℕ} (ho : off = ![0, 128 * k]) (hk : k < 24) (inb inb' : ∀ a, off a + S512x128.size a ≤ S512x3072.size a)
    (x : S512x128.Idx) :
    qwide (F := Ideal) (k0_pay7 (View.readAt (Elt Ideal) arg5.view (Rect.unit (s := S512x3072) off S512x128.size inb).toLoadRect (harg5.unread x2)))
        (k0_pay8 (View.readAt (Elt Ideal) arg5.view (Rect.unit (s := S512x3072) off S512x128.size inb).toLoadRect (harg5.unread x2))) x
      = wideTile x2 ((Rect.unit (s := S512x3072) off S512x128.size inb').emb x) := by
  obtain ⟨r, j, rfl⟩ : ∃ (r : Fin 512) (j : Fin 128), x = ix2 r j := ⟨_, _, eq_ix2 x⟩
  rw [qwide_at, thr_group arg5 harg5 x2 k ho hk, pay7_at, group_at arg5 harg5 x2 k ho hk]
  subst ho
  have e0 : ((Rect.unit (s := S512x3072) ![0, 128 * k] S512x128.size inb').emb (ix2 r j)) 0 = r :=
    Fin.ext (by show 0 + 1 * r.val = r.val; omega)
  have e1 : ((Rect.unit (s := S512x3072) ![0, 128 * k] S512x128.size inb').emb (ix2 r j)) 1 = (⟨128 * k + j.val, by omega⟩ : Fin 3072) :=
    Fin.ext (by show 128 * k + 1 * j.val = 128 * k + j.val; omega)
  unfold wideTile Ffn.wideRow
  rw [e0, e1]
  have hd : (128 * k + j.val) / 128 = k := by omega
  show _ = Quant.wide _ (Ffn.thr _ ((128 * k + j.val) / 128))
  rw [hd]

/-- The same where the program casts the values to their own shape before the store. -/
theorem code_piece' (arg5 : Memref sig .tc .vmem S512x3072 .bf16) (harg5 : arg5.IsWhole) (x2 : Vec Ideal S512x3072 .bf16)
    (k : ℕ) {off : Fin 2 → ℕ} (ho : off = ![0, 128 * k]) (hk : k < 24) (inb inb' : ∀ a, off a + S512x128.size a ≤ S512x3072.size a)
    (h : S512x128.ShapeCasts S512x128) (x : S512x128.Idx) :
    shapeCast S512x128 (qcodes (F := Ideal) (k0_pay7 (View.readAt (Elt Ideal) arg5.view (Rect.unit (s := S512x3072) off S512x128.size inb).toLoadRect (harg5.unread x2)))
        (k0_pay8 (View.readAt (Elt Ideal) arg5.view (Rect.unit (s := S512x3072) off S512x128.size inb).toLoadRect (harg5.unread x2)))) h x
      = codeTile x2 ((Rect.unit (s := S512x3072) off S512x128.size inb').emb x) := by
  rw [shapeCast_self]; exact code_piece arg5 harg5 x2 k ho hk inb inb' x

theorem wide_piece' (arg5 : Memref sig .tc .vmem S512x3072 .bf16) (harg5 : arg5.IsWhole) (x2 : Vec Ideal S512x3072 .bf16)
    (k : ℕ) {off : Fin 2 → ℕ} (ho : off = ![0, 128 * k]) (hk : k < 24) (inb inb' : ∀ a, off a + S512x128.size a ≤ S512x3072.size a)
    (h : S512x128.ShapeCasts S512x128) (x : S512x128.Idx) :
    shapeCast S512x128 (qwide (F := Ideal) (k0_pay7 (View.readAt (Elt Ideal) arg5.view (Rect.unit (s := S512x3072) off S512x128.size inb).toLoadRect (harg5.unread x2)))
        (k0_pay8 (View.readAt (Elt Ideal) arg5.view (Rect.unit (s := S512x3072) off S512x128.size inb).toLoadRect (harg5.unread x2)))) h x
      = wideTile x2 ((Rect.unit (s := S512x3072) off S512x128.size inb').emb x) := by
  rw [shapeCast_self]; exact wide_piece arg5 harg5 x2 k ho hk inb inb' x

/-- A group's stored scale is the tile's, at the group's column. -/
theorem scale_piece (arg5 : Memref sig .tc .vmem S512x3072 .bf16) (harg5 : arg5.IsWhole) (x2 : Vec Ideal S512x3072 .bf16)
    (k : ℕ) {off off' : Fin 2 → ℕ} (ho : off = ![0, 128 * k]) (ho' : off' = ![0, k]) (hk : k < 24)
    (inb : ∀ a, off a + S512x128.size a ≤ S512x3072.size a) (inb' : ∀ a, off' a + S512x1.size a ≤ S512x24.size a)
    (x : S512x1.Idx) :
    qscale (F := Ideal) (k0_pay8 (View.readAt (Elt Ideal) arg5.view (Rect.unit (s := S512x3072) off S512x128.size inb).toLoadRect (harg5.unread x2))) x
      = scaleTile x2 ((Rect.unit (s := S512x24) off' S512x1.size inb').emb x) := by
  obtain ⟨r, rfl⟩ : ∃ r : Fin 512, x = ix2 r 0 :=
    ⟨x 0, (eq_ix2 x).trans (congrArg (fun z : Fin 1 => ix2 (x 0) z) (Subsingleton.elim (α := Fin 1) _ _))⟩
  rw [qscale_at, thr_group arg5 harg5 x2 k ho hk]
  subst ho'
  have e0 : ((Rect.unit (s := S512x24) ![0, k] S512x1.size inb').emb (ix2 r 0)) 0 = r :=
    Fin.ext (by show 0 + 1 * r.val = r.val; omega)
  have e1 : ((Rect.unit (s := S512x24) ![0, k] S512x1.size inb').emb (ix2 r 0)) 1 = (⟨k, hk⟩ : Fin 24) :=
    Fin.ext (by show k + 1 * 0 = k; omega)
  unfold scaleTile Ffn.scaleRow
  rw [e0, e1]

theorem scale_piece' (arg5 : Memref sig .tc .vmem S512x3072 .bf16) (harg5 : arg5.IsWhole) (x2 : Vec Ideal S512x3072 .bf16)
    (k : ℕ) {off off' : Fin 2 → ℕ} (ho : off = ![0, 128 * k]) (ho' : off' = ![0, k]) (hk : k < 24)
    (inb : ∀ a, off a + S512x128.size a ≤ S512x3072.size a) (inb' : ∀ a, off' a + S512x1.size a ≤ S512x24.size a)
    (h : S512x1.ShapeCasts S512x1) (x : S512x1.Idx) :
    shapeCast S512x1 (qscale (F := Ideal) (k0_pay8 (View.readAt (Elt Ideal) arg5.view (Rect.unit (s := S512x3072) off S512x128.size inb).toLoadRect (harg5.unread x2)))) h x
      = scaleTile x2 ((Rect.unit (s := S512x24) off' S512x1.size inb').emb x) := by
  rw [shapeCast_self]; exact scale_piece arg5 harg5 x2 k ho ho' hk inb inb' x

end Cert.KernelIdeal.Body

end
-- ==== Proof.KernelIdeal.Up.lean ====
/-
The first loop: after it the hidden buffer holds the tile's hidden layer, quantised.
-/
module

public import proofs.«01_k».proof.Proof.KernelIdeal.UpBuf
public import proofs.«01_k».proof.Proof.KernelIdeal.TileA

@[expose] public section

set_option maxRecDepth 100000

noncomputable section

namespace Cert.KernelIdeal.Body

open Cert.KernelIdeal Cert.KernelIdeal.Gen
open Idealize.ShloMosaic Idealize.ShloMosaic.TcCoe Idealize.ShloMosaic.Tactic Idealize.SL.Sem

theorem hid_pay {F : FTy → Type} [FloatOps F] (v797 : Vec F S512x3072 .bf16) (v798 : Vec F S3072x256 .bf16) :
    k0_pay3 (k0_pay294 v797 v798) (k0_pay299 (k0_pay295 v797 v798) (k0_pay296 v797 v798) (k0_pay297 v797 v798) (k0_pay298 v797 v798))
        (k0_pay300 (k0_pay295 v797 v798) (k0_pay296 v797 v798) (k0_pay297 v797 v798) (k0_pay298 v797 v798)) k0_pay301
      = shapeCast S512x128 (qwide (k0_pay294 v797 v798) (qthr (k0_pay294 v797 v798))) shapeCasts_S512x128_S512x128 := rfl

theorem hraw_at (v797 : Vec Ideal S512x3072 .bf16) (v798 : Vec Ideal S3072x256 .bf16) (r : Fin 512) (j : Fin 128) :
    k0_pay294 v797 v798 (ix2 r j)
      = (∑ x : Fin 3072, v797 (ix2 r x) * v798 (ix2 x (⟨j.val, by omega⟩ : Fin 256)))
          * Ideal.logistic (∑ x : Fin 3072, v797 (ix2 r x) * v798 (ix2 x (⟨j.val, by omega⟩ : Fin 256)))
          * ∑ x : Fin 3072, v797 (ix2 r x) * v798 (ix2 x (⟨128 + j.val, by omega⟩ : Fin 256)) := by
  pointwise [k0_pay294]

/-- The hidden layer of a tile, quantised. -/
def hidTile (x0 : Vec Ideal S2112 .f32) (x4 : Vec Ideal S1x3072x2816 .fp8e4m3) (xw : Vec Ideal S512x3072 .bf16) (e : Fin 4) : Vec Ideal S512x1408 .bf16 :=
  fun y => Ffn.wideRow (Ffn.hid (rowOf xw (y 0)) (w1Of x4) (s1Of x0 e)) (y 1)

/-- The gated unit off the buffer, at a column. -/
theorem hraw_upBuf (x0 : Vec Ideal S2112 .f32) (x4 : Vec Ideal S1x3072x2816 .fp8e4m3) (xw : Vec Ideal S512x3072 .bf16) (e : Fin 4)
    (k : Fin 11) (r : Fin 512) (j : Fin 128) :
    k0_pay294 (F := Ideal) xw (upBuf x0 x4 e k) (ix2 r j)
      = Ffn.hid (rowOf xw r) (w1Of x4) (s1Of x0 e) ⟨128 * k.val + j.val, by omega⟩ := by
  rw [hraw_at]
  have h1 : upCol k ⟨j.val, by omega⟩ = ⟨128 * k.val + j.val, by omega⟩ := Fin.ext (by unfold upCol; dsimp only; rw [if_pos j.isLt])
  have h2 : upCol k ⟨128 + j.val, by omega⟩ = ⟨1408 + (128 * k.val + j.val), by omega⟩ :=
    Fin.ext (by unfold upCol; dsimp only; rw [if_neg (by omega)]; omega)
  have g1 : (∑ x : Fin 3072, xw (ix2 r x) * upBuf x0 x4 e k (ix2 x (⟨j.val, by omega⟩ : Fin 256)))
      = Ffn.up (rowOf xw r) (w1Of x4) (s1Of x0 e) ⟨128 * k.val + j.val, by omega⟩ := by
    rw [← h1]; rfl
  have g2 : (∑ x : Fin 3072, xw (ix2 r x) * upBuf x0 x4 e k (ix2 x (⟨128 + j.val, by omega⟩ : Fin 256)))
      = Ffn.up (rowOf xw r) (w1Of x4) (s1Of x0 e) ⟨1408 + (128 * k.val + j.val), by omega⟩ := by
    rw [← h2]; rfl
  rw [g1, g2]
  rfl

/-- What a trip stores in the hidden buffer, at an index of its block. -/
theorem hid_block (x0 : Vec Ideal S2112 .f32) (x4 : Vec Ideal S1x3072x2816 .fp8e4m3) (xw : Vec Ideal S512x3072 .bf16) (e : Fin 4)
    (k : Fin 11) {off : Fin 2 → ℕ} (ho : off = ![0, 128 * k.val]) (inb : ∀ a, off a + S512x128.size a ≤ S512x1408.size a) (x : S512x128.Idx) :
    qwide (F := Ideal) (k0_pay294 xw (upBuf x0 x4 e k)) (qthr (k0_pay294 xw (upBuf x0 x4 e k))) x
      = hidTile x0 x4 xw e ((Rect.unit (s := S512x1408) off S512x128.size inb).emb x) := by
  obtain ⟨r, j, rfl⟩ : ∃ (r : Fin 512) (j : Fin 128), x = ix2 r j := ⟨_, _, eq_ix2 x⟩
  subst ho
  rw [qwide_at, qthr_at, hraw_upBuf]
  have e0 : ((Rect.unit (s := S512x1408) ![0, 128 * k.val] S512x128.size inb).emb (ix2 r j)) 0 = r :=
    Fin.ext (by show 0 + 1 * r.val = r.val; omega)
  have e1 : ((Rect.unit (s := S512x1408) ![0, 128 * k.val] S512x128.size inb).emb (ix2 r j)) 1 = (⟨128 * k.val + j.val, by omega⟩ : Fin 1408) :=
    Fin.ext (by show 128 * k.val + 1 * j.val = 128 * k.val + j.val; omega)
  unfold hidTile Ffn.wideRow
  rw [e0, e1]
  have hd : (128 * k.val + j.val) / 128 = k.val := by omega
  show _ = Quant.wide _ (Ffn.thr _ ((128 * k.val + j.val) / 128))
  rw [hd]
  unfold Ffn.thr
  rw [Ffn.slice_of_lt _ k.val (by omega) _ fun j => hraw_upBuf x0 x4 xw e k r j]

/-- A trip's one piece of the hidden buffer. -/
theorem trip_hid (c : Dev nD) (i : grid0.Coords) (arg2 : Memref sig .tc .smem S128 .i32) (harg2 : arg2.IsWhole) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (b : BitVec 32)
    (x0 : Vec Ideal S2112 .f32) (x4 : Vec Ideal S1x3072x2816 .fp8e4m3) (xw : Vec Ideal S512x3072 .bf16) (k : Fin k0_t1_loop.trips)
    (f13 : BufTy.Contents (Elt Ideal) arg13.view.ty) (f14 : BufTy.Contents (Elt Ideal) arg14.view.ty) :
    ∀ p ∈ (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 b (harg3.unread x0) (harg7.unread x4) (harg12.unread xw) k).2.1 f13 f14, ∀ x : p.1.shape.Idx,
      p.2 x = hidTile x0 x4 xw (expertOf i) (p.1.emb x) := by
  unfold trip_k0_t1
  dsimp only
  simp only [List.forall_mem_cons, List.not_mem_nil, false_imp_iff, implies_true, and_true]
  intro x
  have hr : View.readAt (Elt Ideal) arg12.view (Rect.unit ![0, 0] S512x3072.size inb_S512x3072_S512x3072_0_0).toLoadRect (harg12.unread xw) = xw := by
    rw [View.readAt_eq_ld, harg12.read_unread]
    exact View.ld_unit_zero (by decide) _ _
  have key := hid_block x0 x4 xw (expertOf i) k (k0_off52_eq k) (k0_off52_inb k) x
  rw [← key, ← upBuf_read i arg3 harg3 arg7 harg7 x0 x4 arg13 k]
  have hs := congrFun (hid_pay (F := Ideal) xw (trip_k0_t1.sl.v798 (F := Ideal) i arg3 arg7 arg13 (harg3.unread x0) (harg7.unread x4) k)) x
  rw [shapeCast_self] at hs
  rw [← hs]
  conv_rhs => rw [← hr]
  rfl

/-- The pieces of the trips before the `n`-th. -/
theorem hid_pieces (c : Dev nD) (i : grid0.Coords) (arg2 : Memref sig .tc .smem S128 .i32) (harg2 : arg2.IsWhole) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (b : BitVec 32)
    (x0 : Vec Ideal S2112 .f32) (x4 : Vec Ideal S1x3072x2816 .fp8e4m3) (xw : Vec Ideal S512x3072 .bf16)
    (g13 : BufTy.Contents (Elt Ideal) arg13.view.ty) (g14 : BufTy.Contents (Elt Ideal) arg14.view.ty) :
    ∀ n : ℕ, n ≤ k0_t1_loop.trips → ∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 b (harg3.unread x0) (harg7.unread x4) (harg12.unread xw) g13 g14 n).2, ∀ x : p.1.shape.Idx,
      p.2 x = hidTile x0 x4 xw (expertOf i) (p.1.emb x)
  | 0, _ => fun p hp => absurd hp List.not_mem_nil
  | n + 1, hn => by
      have hs := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 b (harg3.unread x0) (harg7.unread x4) (harg12.unread xw) g13 g14 ⟨n, hn⟩
      intro p hp
      rw [hs] at hp
      rcases List.mem_append.mp hp with h | h
      · exact trip_hid c i arg2 harg2 arg3 harg3 arg4 harg4 arg5 harg5 arg6 harg6 arg7 harg7 arg8 harg8 arg9 harg9 arg10 harg10 arg11 harg11 arg12 harg12 arg13 harg13 arg14 harg14 arg15 harg15 b x0 x4 xw ⟨n, hn⟩ _ _ p h
      · exact hid_pieces c i arg2 harg2 arg3 harg3 arg4 harg4 arg5 harg5 arg6 harg6 arg7 harg7 arg8 harg8 arg9 harg9 arg10 harg10 arg11 harg11 arg12 harg12 arg13 harg13 arg14 harg14 arg15 harg15 b x0 x4 xw g13 g14 n (by omega) p h

/-- The hidden buffer after the loop. -/
theorem hid_read (c : Dev nD) (i : grid0.Coords) (arg2 : Memref sig .tc .smem S128 .i32) (harg2 : arg2.IsWhole) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (b : BitVec 32)
    (x0 : Vec Ideal S2112 .f32) (x4 : Vec Ideal S1x3072x2816 .fp8e4m3) (xw : Vec Ideal S512x3072 .bf16)
    (g13 : BufTy.Contents (Elt Ideal) arg13.view.ty) (g14 : BufTy.Contents (Elt Ideal) arg14.view.ty) :
    arg14.view.read (Elt Ideal) (arg14.view.writes (Elt Ideal) g14 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 b (harg3.unread x0) (harg7.unread x4) (harg12.unread xw) g13 g14 k0_t1_loop.trips).2)
      = hidTile x0 x4 xw (expertOf i) :=
  funext fun y => View.read_writes_apply_of_pieces _ _ _ _ (hid_pieces c i arg2 harg2 arg3 harg3 arg4 harg4 arg5 harg5 arg6 harg6 arg7 harg7 arg8 harg8 arg9 harg9 arg10 harg10 arg11 harg11 arg12 harg12 arg13 harg13 arg14 harg14 arg15 harg15 b x0 x4 xw g13 g14 _ (le_refl _)) y
    (View.cover_of_tiledL (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 b (harg3.unread x0) (harg7.unread x4) (harg12.unread xw) g13 g14 k0_t1_loop.trips).2 ![512, 128] (by sl_kernel_rfl) y)

end Cert.KernelIdeal.Body

end
-- ==== Proof.KernelIdeal.DownBuf.lean ====
/-
The weight buffer in a trip of the second loop: every block stored holds the scaled second weights.
-/
module

public import proofs.«01_k».proof.Proof.KernelIdeal.Weights
public import proofs.«01_k».proof.Proof.Gen.KernelIdeal.Loops
public import Idealize.ShloMosaic.Lib.Ring

@[expose] public section

set_option maxRecDepth 100000

noncomputable section

namespace Cert.KernelIdeal.Body

open Cert.KernelIdeal Cert.KernelIdeal.Gen
open Idealize.ShloMosaic Idealize.ShloMosaic.TcCoe Idealize.ShloMosaic.Tactic Idealize.SL.Sem

/-- The 22 blocks stored in a trip. -/
theorem downBuf_pieces (i : grid0.Coords) (arg4 : Memref sig .tc .smem S1056 .f32) (harg4 : arg4.IsWhole) (arg8 : Memref sig .tc .vmem S1x1408x3072 .fp8e4m3)
    (harg8 : arg8.IsWhole) (x1 : Vec Ideal S1056 .f32) (x5 : Vec Ideal S1x1408x3072 .fp8e4m3) (k : Fin k0_t2_loop.trips) :
    ∀ p ∈ trip_k0_t2.sl.HW_arg13_22 (F := Ideal) i arg4 arg8 (harg4.unread x1) (harg8.unread x5) k, ∀ x : p.1.shape.Idx,
      p.2 x = downBuf x1 x5 (expertOf i) k (p.1.emb x) := by
  sl_unfold_words
  simp only [List.forall_mem_cons, List.not_mem_nil, false_imp_iff, implies_true, and_true]
  exact ⟨down_piece arg4 harg4 arg8 harg8 x1 x5 (expertOf i) k 10 1 (by decide) (by decide) (k0_off53_eq i k 10 1) (k0_off64_eq k 1) rfl _ _ _ _,
    down_piece arg4 harg4 arg8 harg8 x1 x5 (expertOf i) k 9 1 (by decide) (by decide) (k0_off53_eq i k 9 1) (k0_off63_eq k 1) rfl _ _ _ _,
    down_piece arg4 harg4 arg8 harg8 x1 x5 (expertOf i) k 8 1 (by decide) (by decide) (k0_off53_eq i k 8 1) (k0_off62_eq k 1) rfl _ _ _ _,
    down_piece arg4 harg4 arg8 harg8 x1 x5 (expertOf i) k 7 1 (by decide) (by decide) (k0_off53_eq i k 7 1) (k0_off61_eq k 1) rfl _ _ _ _,
    down_piece arg4 harg4 arg8 harg8 x1 x5 (expertOf i) k 6 1 (by decide) (by decide) (k0_off53_eq i k 6 1) (k0_off60_eq k 1) rfl _ _ _ _,
    down_piece arg4 harg4 arg8 harg8 x1 x5 (expertOf i) k 5 1 (by decide) (by decide) (k0_off53_eq i k 5 1) (k0_off59_eq k 1) rfl _ _ _ _,
    down_piece arg4 harg4 arg8 harg8 x1 x5 (expertOf i) k 4 1 (by decide) (by decide) (k0_off53_eq i k 4 1) (k0_off58_eq k 1) rfl _ _ _ _,
    down_piece arg4 harg4 arg8 harg8 x1 x5 (expertOf i) k 3 1 (by decide) (by decide) (k0_off53_eq i k 3 1) (k0_off57_eq k 1) rfl _ _ _ _,
    down_piece arg4 harg4 arg8 harg8 x1 x5 (expertOf i) k 2 1 (by decide) (by decide) (k0_off53_eq i k 2 1) (k0_off56_eq k 1) rfl _ _ _ _,
    down_piece arg4 harg4 arg8 harg8 x1 x5 (expertOf i) k 1 1 (by decide) (by decide) (k0_off53_eq i k 1 1) (k0_off55_eq k 1) rfl _ _ _ _,
    down_piece arg4 harg4 arg8 harg8 x1 x5 (expertOf i) k 0 1 (by decide) (by decide) (k0_off53_eq i k 0 1) (k0_off54_eq k 1) rfl _ _ _ _,
    down_piece arg4 harg4 arg8 harg8 x1 x5 (expertOf i) k 10 0 (by decide) (by decide) (k0_off53_eq i k 10 0) (k0_off64_eq k 0) rfl _ _ _ _,
    down_piece arg4 harg4 arg8 harg8 x1 x5 (expertOf i) k 9 0 (by decide) (by decide) (k0_off53_eq i k 9 0) (k0_off63_eq k 0) rfl _ _ _ _,
    down_piece arg4 harg4 arg8 harg8 x1 x5 (expertOf i) k 8 0 (by decide) (by decide) (k0_off53_eq i k 8 0) (k0_off62_eq k 0) rfl _ _ _ _,
    down_piece arg4 harg4 arg8 harg8 x1 x5 (expertOf i) k 7 0 (by decide) (by decide) (k0_off53_eq i k 7 0) (k0_off61_eq k 0) rfl _ _ _ _,
    down_piece arg4 harg4 arg8 harg8 x1 x5 (expertOf i) k 6 0 (by decide) (by decide) (k0_off53_eq i k 6 0) (k0_off60_eq k 0) rfl _ _ _ _,
    down_piece arg4 harg4 arg8 harg8 x1 x5 (expertOf i) k 5 0 (by decide) (by decide) (k0_off53_eq i k 5 0) (k0_off59_eq k 0) rfl _ _ _ _,
    down_piece arg4 harg4 arg8 harg8 x1 x5 (expertOf i) k 4 0 (by decide) (by decide) (k0_off53_eq i k 4 0) (k0_off58_eq k 0) rfl _ _ _ _,
    down_piece arg4 harg4 arg8 harg8 x1 x5 (expertOf i) k 3 0 (by decide) (by decide) (k0_off53_eq i k 3 0) (k0_off57_eq k 0) rfl _ _ _ _,
    down_piece arg4 harg4 arg8 harg8 x1 x5 (expertOf i) k 2 0 (by decide) (by decide) (k0_off53_eq i k 2 0) (k0_off56_eq k 0) rfl _ _ _ _,
    down_piece arg4 harg4 arg8 harg8 x1 x5 (expertOf i) k 1 0 (by decide) (by decide) (k0_off53_eq i k 1 0) (k0_off55_eq k 0) rfl _ _ _ _,
    down_piece arg4 harg4 arg8 harg8 x1 x5 (expertOf i) k 0 0 (by decide) (by decide) (k0_off53_eq i k 0 0) (k0_off54_eq k 0) rfl _ _ _ _⟩

theorem spare_inb (a : Fin 13) (b : Fin 2) (z : Fin 2) : ![1408 + 128 * a.val, 128 * b.val] z + ![128, 128] z ≤ S3072x256.size z :=
  match z with
  | 0 => by show 1408 + 128 * a.val + 128 ≤ 3072; omega
  | 1 => by show 128 * b.val + 128 ≤ 256; omega

/-- Blocks over the buffer's rows no trip of the second loop writes. -/
def spare : List (View.Piece (Elt Ideal) S3072x256 .bf16) :=
  (List.finRange 13).flatMap fun a => (List.finRange 2).map fun b =>
    ⟨Rect.unit (s := S3072x256) ![1408 + 128 * a.val, 128 * b.val] ![128, 128] (spare_inb a b), fun _ => (0 : EReal)⟩

theorem spare_row {p : View.Piece (Elt Ideal) S3072x256 .bf16} (hp : p ∈ spare) {y : S3072x256.Idx} (hy : y ∈ p.1.set) : 1408 ≤ (y 0).val := by
  unfold spare at hp
  simp only [List.mem_flatMap, List.mem_map] at hp
  obtain ⟨a, -, b, -, rfl⟩ := hp
  have h : 1408 + 128 * a.val ≤ (y 0).val := ((Rect.mem_set_unit (s := S3072x256) (inb := spare_inb a b) (i := y)).mp hy 0).1
  omega

/-- What the buffer's first 1408 rows read back as. -/
theorem downBuf_read (i : grid0.Coords) (arg4 : Memref sig .tc .smem S1056 .f32) (harg4 : arg4.IsWhole) (arg8 : Memref sig .tc .vmem S1x1408x3072 .fp8e4m3)
    (harg8 : arg8.IsWhole) (x1 : Vec Ideal S1056 .f32) (x5 : Vec Ideal S1x1408x3072 .fp8e4m3) (arg13 : Memref sig .tc .vmem S3072x256 .bf16) (k : Fin k0_t2_loop.trips) (f : Fin 1408) (c : Fin 256) :
    trip_k0_t2.sl.v385 (F := Ideal) i arg4 arg8 arg13 (harg4.unread x1) (harg8.unread x5) k (ix2 f c)
      = downBuf x1 x5 (expertOf i) k (ix2 ⟨f.val, by omega⟩ c) := by
  unfold trip_k0_t2.sl.v385
  rw [View.readCov_eq_canon']
  have hidx : ((Rect.unit (s := S3072x256) ![0, 0] S1408x256.size inb_S3072x256_S1408x256_0_0).toLoadRect.idx (ix2 f c) : S3072x256.Idx)
      = ix2 (⟨f.val, by omega⟩ : Fin 3072) c := by
    refine funext fun a => Fin.ext ?_
    match a with
    | 0 => exact (by show 0 + 1 * f.val = f.val; omega)
    | 1 => exact (by show 0 + 1 * c.val = c.val; omega)
  show View.canon _ ((Rect.unit (s := S3072x256) ![0, 0] S1408x256.size inb_S3072x256_S1408x256_0_0).toLoadRect.idx (ix2 f c)) = _
  rw [hidx]
  refine View.canon_apply_of_pieces (Val := Elt Ideal) (e := .bf16) (downBuf x1 x5 (expertOf i) k) (trip_k0_t2.sl.HW_arg13_22 (F := Ideal) i arg4 arg8 (harg4.unread x1) (harg8.unread x5) k) (downBuf_pieces i arg4 harg4 arg8 harg8 x1 x5 k) _ ?_
  obtain ⟨p, hp, hy⟩ := View.cover_of_tiledL (trip_k0_t2.sl.HW_arg13_22 (F := Ideal) i arg4 arg8 (harg4.unread x1) (harg8.unread x5) k ++ spare)
    ![128, 128] (by sl_kernel_rfl) (ix2 (⟨f.val, by omega⟩ : Fin 3072) c)
  rcases List.mem_append.mp hp with h | h
  · exact ⟨p, h, hy⟩
  · have h0 := spare_row h hy
    have h1 : 1408 ≤ f.val := h0
    omega

end Cert.KernelIdeal.Body

end
-- ==== Proof.KernelIdeal.Down.lean ====
/-
The second loop: what it adds to the accumulator.
-/
module

public import proofs.«01_k».proof.Proof.KernelIdeal.DownBuf
public import proofs.«01_k».proof.Proof.KernelIdeal.TileA

@[expose] public section

set_option maxRecDepth 100000

noncomputable section

namespace Cert.KernelIdeal.Body

open Cert.KernelIdeal Cert.KernelIdeal.Gen
open Idealize.ShloMosaic Idealize.ShloMosaic.TcCoe Idealize.ShloMosaic.Tactic Idealize.SL.Sem

/-- A sum over the experts that keeps one of them. -/
theorem sum_pick (g : Fin 4 → EReal) (e : Fin 4) :
    (∑ x : Fin 4, Scalar.select (IntOp.cmpi .eq (BitVec.ofNat 32 x.val) (BitVec.ofNat 32 e.val)) (g x) (0 : EReal)) = g e := by
  fin_cases e <;> simp [Fin.sum_univ_four, Scalar.select, IntOp.cmpi]

theorem acc_at (i : grid0.Coords) (v17 : Vec Ideal S512x4 .f32) (v384 : Vec Ideal S512x1408 .bf16) (v385 : Vec Ideal S1408x256 .bf16) (v391 : Vec Ideal S512x256 .f32)
    (r : Fin 512) (j : Fin 256) :
    k0_pay5 i v17 v384 v385 v391 (ix2 r j)
      = v391 (ix2 r j) + (∑ x : Fin 1408, v384 (ix2 r x) * v385 (ix2 x j))
          * ∑ x : Fin 4, Scalar.select (IntOp.cmpi .eq (BitVec.ofNat 32 x.val) (BitVec.ofNat 32 (i 1).val)) (v17 (ix2 r x)) (0 : EReal) := by
  pointwise [k0_pay5]

/-- What the accumulator holds after an expert's block: its output on the tile's rows, times their weights, added. -/
def accTile (x1 : Vec Ideal S1056 .f32) (x3 : Vec Ideal S512x4 .f32) (x5 : Vec Ideal S1x1408x3072 .fp8e4m3) (hw : Vec Ideal S512x1408 .bf16) (e : Fin 4)
    (xs3 : Vec Ideal S512x3072 .f32) : Vec Ideal S512x3072 .f32 :=
  fun y => (xs3 y + Ffn.down (fun f => hw (ix2 (y 0) f)) (w2Of x5) (s2Of x1 e) (y 1) * x3 (ix2 (y 0) e) : EReal)

/-- A trip's sum, off the buffer. -/
theorem acc_block (i : grid0.Coords) (arg4 : Memref sig .tc .smem S1056 .f32) (harg4 : arg4.IsWhole) (arg8 : Memref sig .tc .vmem S1x1408x3072 .fp8e4m3)
    (harg8 : arg8.IsWhole) (x1 : Vec Ideal S1056 .f32) (x5 : Vec Ideal S1x1408x3072 .fp8e4m3) (arg13 : Memref sig .tc .vmem S3072x256 .bf16) (k : Fin k0_t2_loop.trips)
    (x3 : Vec Ideal S512x4 .f32) (hw : Vec Ideal S512x1408 .bf16) (xs3 : Vec Ideal S512x3072 .f32) (old : Vec Ideal S512x256 .f32)
    {off : Fin 2 → ℕ} (ho : off = ![0, 256 * k.val]) (inb : ∀ a, off a + S512x256.size a ≤ S512x3072.size a)
    (hold : ∀ x, old x = xs3 ((Rect.unit (s := S512x3072) off S512x256.size inb).emb x)) (x : S512x256.Idx) :
    k0_pay5 (F := Ideal) i x3 hw (trip_k0_t2.sl.v385 (F := Ideal) i arg4 arg8 arg13 (harg4.unread x1) (harg8.unread x5) k) old x
      = accTile x1 x3 x5 hw (expertOf i) xs3 ((Rect.unit (s := S512x3072) off S512x256.size inb).emb x) := by
  obtain ⟨r, j, rfl⟩ : ∃ (r : Fin 512) (j : Fin 256), x = ix2 r j := ⟨_, _, eq_ix2 x⟩
  subst ho
  have hk : k.val < 12 := k.isLt
  rw [acc_at, hold]
  have hg : (∑ x : Fin 4, Scalar.select (IntOp.cmpi .eq (BitVec.ofNat 32 x.val) (BitVec.ofNat 32 (i 1).val)) (x3 (ix2 r x)) (0 : EReal))
      = x3 (ix2 r (expertOf i)) := sum_pick (fun x => x3 (ix2 r x)) (expertOf i)
  rw [hg]
  have e0 : ((Rect.unit (s := S512x3072) ![0, 256 * k.val] S512x256.size inb).emb (ix2 r j)) 0 = r :=
    Fin.ext (by show 0 + 1 * r.val = r.val; omega)
  have e1 : ((Rect.unit (s := S512x3072) ![0, 256 * k.val] S512x256.size inb).emb (ix2 r j)) 1 = (⟨256 * k.val + j.val, by omega⟩ : Fin 3072) :=
    Fin.ext (by show 256 * k.val + 1 * j.val = 256 * k.val + j.val; omega)
  unfold accTile
  rw [e0, e1]
  have hs : (∑ x : Fin 1408, hw (ix2 r x) * trip_k0_t2.sl.v385 (F := Ideal) i arg4 arg8 arg13 (harg4.unread x1) (harg8.unread x5) k (ix2 x j))
      = Ffn.down (fun f => hw (ix2 r f)) (w2Of x5) (s2Of x1 (expertOf i)) ⟨256 * k.val + j.val, by omega⟩ := by
    unfold Ffn.down
    refine Finset.sum_congr rfl fun f _ => ?_
    rw [downBuf_read i arg4 harg4 arg8 harg8 x1 x5 arg13 k f j]
    exact congrArg (fun z : EReal => (hw (ix2 r f) : EReal) * z) (dif_pos f.isLt)
  rw [hs]

/-- A trip's one piece of the accumulator, where the accumulator's block is as the loop found it. -/
theorem trip_acc (c : Dev nD) (i : grid0.Coords) (arg2 : Memref sig .tc .smem S128 .i32) (harg2 : arg2.IsWhole) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (b : BitVec 32)
    (x1 : Vec Ideal S1056 .f32) (x3 : Vec Ideal S512x4 .f32) (x5 : Vec Ideal S1x1408x3072 .fp8e4m3) (xs3 : Vec Ideal S512x3072 .f32)
    (X14 : BufTy.Contents (Elt Ideal) arg14.view.ty) (k : Fin k0_t2_loop.trips)
    (f13 : BufTy.Contents (Elt Ideal) arg13.view.ty) (f15 : BufTy.Contents (Elt Ideal) arg15.view.ty)
    (hold : ∀ y : S512x3072.Idx, 256 * k.val ≤ (y 1).val → arg15.view.read (Elt Ideal) f15 y = xs3 y) :
    ∀ p ∈ (trip_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 b x3 (harg4.unread x1) (harg8.unread x5) X14 k).2.1 f13 f15, ∀ x : p.1.shape.Idx,
      p.2 x = accTile x1 x3 x5 (arg14.view.read (Elt Ideal) X14) (expertOf i) xs3 (p.1.emb x) := by
  unfold trip_k0_t2
  dsimp only
  simp only [List.forall_mem_cons, List.not_mem_nil, false_imp_iff, implies_true, and_true]
  intro x
  have hr : View.readAt (Elt Ideal) arg14.view (Rect.unit ![0, 0] S512x1408.size inb_S512x1408_S512x1408_0_0).toLoadRect X14 = arg14.view.read (Elt Ideal) X14 := by
    rw [View.readAt_eq_ld]
    exact View.ld_unit_zero (by decide) _ _
  refine Eq.trans ?_ (acc_block i arg4 harg4 arg8 harg8 x1 x5 arg13 k x3 (arg14.view.read (Elt Ideal) X14) xs3
    (View.readAt (Elt Ideal) arg15.view (Rect.unit (s := S512x3072) (k0_off65 k) S512x256.size (k0_off65_inb k)).toLoadRect f15) (k0_off65_eq k) (k0_off65_inb k) ?_ x)
  · conv_rhs => rw [← hr]
  · intro x
    rw [View.readAt_eq_ld]
    refine hold ((Rect.unit (s := S512x3072) (k0_off65 k) S512x256.size (k0_off65_inb k)).emb x) ?_
    show 256 * k.val ≤ k0_off65 k 1 + 1 * (x 1).val
    rw [k0_off65_eq]
    show 256 * k.val ≤ 256 * k.val + 1 * (x 1).val
    omega

/-- The trip's piece lies in its block of columns. -/
theorem trip_miss (c : Dev nD) (i : grid0.Coords) (arg2 : Memref sig .tc .smem S128 .i32) (harg2 : arg2.IsWhole) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (b : BitVec 32)
    (x3 : Vec Ideal S512x4 .f32) (X4 : BufTy.Contents (Elt Ideal) arg4.view.ty) (X8 : BufTy.Contents (Elt Ideal) arg8.view.ty)
    (X14 : BufTy.Contents (Elt Ideal) arg14.view.ty) (k : Fin k0_t2_loop.trips)
    (f13 : BufTy.Contents (Elt Ideal) arg13.view.ty) (f15 g : BufTy.Contents (Elt Ideal) arg15.view.ty) (L : List (View.Piece (Elt Ideal) S512x3072 .f32))
    (y : S512x3072.Idx) (hy : 256 * (k.val + 1) ≤ (y 1).val) :
    arg15.view.read (Elt Ideal) (arg15.view.writes (Elt Ideal) g
        ((trip_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 b x3 X4 X8 X14 k).2.1 f13 f15 ++ L)) y
      = arg15.view.read (Elt Ideal) (arg15.view.writes (Elt Ideal) g L) y := by
  unfold trip_k0_t2
  dsimp only
  rw [List.cons_append, List.nil_append]
  refine View.read_writes_cons_miss_of_axis _ _ _ L y 1 (256 * k.val) 256 ?_ rfl rfl (Or.inr (by omega))
  show k0_off65 k 1 = 256 * k.val
  rw [k0_off65_eq]
  rfl

/-- The pieces of the trips before the `n`-th, and that the columns past them are as the loop found them. -/
theorem acc_pieces (c : Dev nD) (i : grid0.Coords) (arg2 : Memref sig .tc .smem S128 .i32) (harg2 : arg2.IsWhole) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (b : BitVec 32)
    (x1 : Vec Ideal S1056 .f32) (x3 : Vec Ideal S512x4 .f32) (x5 : Vec Ideal S1x1408x3072 .fp8e4m3) (xs3 : Vec Ideal S512x3072 .f32)
    (X14 : BufTy.Contents (Elt Ideal) arg14.view.ty) (g13 : BufTy.Contents (Elt Ideal) arg13.view.ty) :
    ∀ n : ℕ, n ≤ k0_t2_loop.trips →
      (∀ p ∈ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 b x3 (harg4.unread x1) (harg8.unread x5) X14 g13 (harg15.unread xs3) n).2, ∀ x : p.1.shape.Idx,
        p.2 x = accTile x1 x3 x5 (arg14.view.read (Elt Ideal) X14) (expertOf i) xs3 (p.1.emb x))
      ∧ ∀ y : S512x3072.Idx, 256 * n ≤ (y 1).val →
        arg15.view.read (Elt Ideal) (arg15.view.writes (Elt Ideal) (harg15.unread xs3) (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 b x3 (harg4.unread x1) (harg8.unread x5) X14 g13 (harg15.unread xs3) n).2) y = xs3 y
  | 0, _ => ⟨fun p hp => absurd hp List.not_mem_nil, fun y _ => congrFun (harg15.read_unread xs3) y⟩
  | n + 1, hn => by
      obtain ⟨hp0, hy0⟩ := acc_pieces c i arg2 harg2 arg3 harg3 arg4 harg4 arg5 harg5 arg6 harg6 arg7 harg7 arg8 harg8 arg9 harg9 arg10 harg10 arg11 harg11 arg12 harg12 arg13 harg13 arg14 harg14 arg15 harg15 b x1 x3 x5 xs3 X14 g13 n (by omega)
      have hs := pb_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 b x3 (harg4.unread x1) (harg8.unread x5) X14 g13 (harg15.unread xs3) ⟨n, hn⟩
      constructor
      · intro p hp
        rw [hs] at hp
        rcases List.mem_append.mp hp with h | h
        · exact trip_acc c i arg2 harg2 arg3 harg3 arg4 harg4 arg5 harg5 arg6 harg6 arg7 harg7 arg8 harg8 arg9 harg9 arg10 harg10 arg11 harg11 arg12 harg12 arg13 harg13 arg14 harg14 arg15 harg15 b x1 x3 x5 xs3 X14 ⟨n, hn⟩ _ _ hy0 p h
        · exact hp0 p h
      · intro y hy
        rw [hs]
        refine (trip_miss c i arg2 harg2 arg3 harg3 arg4 harg4 arg5 harg5 arg6 harg6 arg7 harg7 arg8 harg8 arg9 harg9 arg10 harg10 arg11 harg11 arg12 harg12 arg13 harg13 arg14 harg14 arg15 harg15 b x3 (harg4.unread x1) (harg8.unread x5) X14 ⟨n, hn⟩ _ _ _ _ y hy).trans (hy0 y (by omega))

end Cert.KernelIdeal.Body

end
-- ==== Proof.KernelIdeal.TileCodes.lean ====
/-
The first block's codes.
-/
module

public import proofs.«01_k».proof.Proof.KernelIdeal.TileA
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Every piece stored holds the tile's values at its own rows and columns. -/
theorem runA_codes (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (hc : first i) (x2 : Vec Ideal S512x3072 .bf16) :
    ∀ p ∈ (runA (F := Ideal) c i arg3 harg3 arg4 harg4 arg5 harg5 arg6 harg6 arg7 harg7 arg8 harg8 arg9 harg9 arg10 harg10 arg11 harg11 arg12 harg12 arg13 harg13 arg14 harg14 arg15 harg15 hc x2).1, ∀ x : p.1.shape.Idx, p.2 x = codeTile x2 (p.1.emb x) := by
  unfold runA
  dsimp only
  sl_unfold_words
  simp only [List.forall_mem_cons, List.not_mem_nil, false_imp_iff, implies_true, and_true]
  exact ⟨code_piece arg5 harg5 x2 23 rfl (by decide) _ _,
    code_piece arg5 harg5 x2 22 rfl (by decide) _ _,
    code_piece arg5 harg5 x2 21 rfl (by decide) _ _,
    code_piece arg5 harg5 x2 20 rfl (by decide) _ _,
    code_piece arg5 harg5 x2 19 rfl (by decide) _ _,
    code_piece arg5 harg5 x2 18 rfl (by decide) _ _,
    code_piece arg5 harg5 x2 17 rfl (by decide) _ _,
    code_piece arg5 harg5 x2 16 rfl (by decide) _ _,
    code_piece arg5 harg5 x2 15 rfl (by decide) _ _,
    code_piece arg5 harg5 x2 14 rfl (by decide) _ _,
    code_piece arg5 harg5 x2 13 rfl (by decide) _ _,
    code_piece arg5 harg5 x2 12 rfl (by decide) _ _,
    code_piece arg5 harg5 x2 11 rfl (by decide) _ _,
    code_piece arg5 harg5 x2 10 rfl (by decide) _ _,
    code_piece arg5 harg5 x2 9 rfl (by decide) _ _,
    code_piece arg5 harg5 x2 8 rfl (by decide) _ _,
    code_piece arg5 harg5 x2 7 rfl (by decide) _ _,
    code_piece arg5 harg5 x2 6 rfl (by decide) _ _,
    code_piece arg5 harg5 x2 5 rfl (by decide) _ _,
    code_piece arg5 harg5 x2 4 rfl (by decide) _ _,
    code_piece arg5 harg5 x2 3 rfl (by decide) _ _,
    code_piece arg5 harg5 x2 2 rfl (by decide) _ _,
    code_piece arg5 harg5 x2 1 rfl (by decide) _ _,
    code_piece arg5 harg5 x2 0 rfl (by decide) _ _⟩

end Cert.KernelIdeal.Body

end
-- ==== Proof.KernelIdeal.TileScales.lean ====
/-
The first block's scales.
-/
module

public import proofs.«01_k».proof.Proof.KernelIdeal.TileA
public import Idealize.ShloMosaic.Lib.Pipeline.ValueKit

@[expose] public section

set_option maxRecDepth 200000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Every piece stored holds the tile's values at its own rows and columns. -/
theorem runA_scales (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (hc : first i) (x2 : Vec Ideal S512x3072 .bf16) :
    ∀ p ∈ (runA (F := Ideal) c i arg3 harg3 arg4 harg4 arg5 harg5 arg6 harg6 arg7 harg7 arg8 harg8 arg9 harg9 arg10 harg10 arg11 harg11 arg12 harg12 arg13 harg13 arg14 harg14 arg15 harg15 hc x2).2.1, ∀ x : p.1.shape.Idx, p.2 x = scaleTile x2 (p.1.emb x) := by
  unfold runA
  dsimp only
  sl_unfold_words
  simp only [List.forall_mem_cons, List.not_mem_nil, false_imp_iff, implies_true, and_true]
  exact ⟨scale_piece arg5 harg5 x2 23 rfl rfl (by decide) _ _,
    scale_piece arg5 harg5 x2 22 rfl rfl (by decide) _ _,
    scale_piece arg5 harg5 x2 21 rfl rfl (by decide) _ _,
    scale_piece arg5 harg5 x2 20 rfl rfl (by decide) _ _,
    scale_piece arg5 harg5 x2 19 rfl rfl (by decide) _ _,
    scale_piece arg5 harg5 x2 18 rfl rfl (by decide) _ _,
    scale_piece arg5 harg5 x2 17 rfl rfl (by decide) _ _,
    scale_piece arg5 harg5 x2 16 rfl rfl (by decide) _ _,
    scale_piece arg5 harg5 x2 15 rfl rfl (by decide) _ _,
    scale_piece arg5 harg5 x2 14 rfl rfl (by decide) _ _,
    scale_piece arg5 harg5 x2 13 rfl rfl (by decide) _ _,
    scale_piece arg5 harg5 x2 12 rfl rfl (by decide) _ _,
    scale_piece arg5 harg5 x2 11 rfl rfl (by decide) _ _,
    scale_piece arg5 harg5 x2 10 rfl rfl (by decide) _ _,
    scale_piece arg5 harg5 x2 9 rfl rfl (by decide) _ _,
    scale_piece arg5 harg5 x2 8 rfl rfl (by decide) _ _,
    scale_piece arg5 harg5 x2 7 rfl rfl (by decide) _ _,
    scale_piece arg5 harg5 x2 6 rfl rfl (by decide) _ _,
    scale_piece arg5 harg5 x2 5 rfl rfl (by decide) _ _,
    scale_piece arg5 harg5 x2 4 rfl rfl (by decide) _ _,
    scale_piece arg5 harg5 x2 3 rfl rfl (by decide) _ _,
    scale_piece arg5 harg5 x2 2 rfl rfl (by decide) _ _,
    scale_piece arg5 harg5 x2 1 rfl rfl (by decide) _ _,
    scale_piece arg5 harg5 x2 0 rfl rfl (by decide) _ _⟩

end Cert.KernelIdeal.Body

end
-- ==== Proof.KernelIdeal.TileWide.lean ====
/-
The first block's widened values.
-/
module

public import proofs.«01_k».proof.Proof.KernelIdeal.TileA
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Every piece stored holds the tile's values at its own rows and columns. -/
theorem runA_wide (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (hc : first i) (x2 : Vec Ideal S512x3072 .bf16) :
    ∀ p ∈ (runA (F := Ideal) c i arg3 harg3 arg4 harg4 arg5 harg5 arg6 harg6 arg7 harg7 arg8 harg8 arg9 harg9 arg10 harg10 arg11 harg11 arg12 harg12 arg13 harg13 arg14 harg14 arg15 harg15 hc x2).2.2.1, ∀ x : p.1.shape.Idx, p.2 x = wideTile x2 (p.1.emb x) := by
  unfold runA
  dsimp only
  sl_unfold_words
  simp only [List.forall_mem_cons, List.not_mem_nil, false_imp_iff, implies_true, and_true]
  exact ⟨wide_piece' arg5 harg5 x2 23 rfl (by decide) _ _ _,
    wide_piece' arg5 harg5 x2 22 rfl (by decide) _ _ _,
    wide_piece' arg5 harg5 x2 21 rfl (by decide) _ _ _,
    wide_piece' arg5 harg5 x2 20 rfl (by decide) _ _ _,
    wide_piece' arg5 harg5 x2 19 rfl (by decide) _ _ _,
    wide_piece' arg5 harg5 x2 18 rfl (by decide) _ _ _,
    wide_piece' arg5 harg5 x2 17 rfl (by decide) _ _ _,
    wide_piece' arg5 harg5 x2 16 rfl (by decide) _ _ _,
    wide_piece' arg5 harg5 x2 15 rfl (by decide) _ _ _,
    wide_piece' arg5 harg5 x2 14 rfl (by decide) _ _ _,
    wide_piece' arg5 harg5 x2 13 rfl (by decide) _ _ _,
    wide_piece' arg5 harg5 x2 12 rfl (by decide) _ _ _,
    wide_piece' arg5 harg5 x2 11 rfl (by decide) _ _ _,
    wide_piece' arg5 harg5 x2 10 rfl (by decide) _ _ _,
    wide_piece' arg5 harg5 x2 9 rfl (by decide) _ _ _,
    wide_piece' arg5 harg5 x2 8 rfl (by decide) _ _ _,
    wide_piece' arg5 harg5 x2 7 rfl (by decide) _ _ _,
    wide_piece' arg5 harg5 x2 6 rfl (by decide) _ _ _,
    wide_piece' arg5 harg5 x2 5 rfl (by decide) _ _ _,
    wide_piece' arg5 harg5 x2 4 rfl (by decide) _ _ _,
    wide_piece' arg5 harg5 x2 3 rfl (by decide) _ _ _,
    wide_piece' arg5 harg5 x2 2 rfl (by decide) _ _ _,
    wide_piece' arg5 harg5 x2 1 rfl (by decide) _ _ _,
    wide_piece' arg5 harg5 x2 0 rfl (by decide) _ _ _⟩

end Cert.KernelIdeal.Body

end
-- ==== Proof.KernelIdeal.TileSpec.lean ====
/-
The first block as a step: from a tile's values to its codes, its scales, its widened values and a
zero accumulator.
-/
module

public import proofs.«01_k».proof.Proof.KernelIdeal.TileCodes
public import proofs.«01_k».proof.Proof.KernelIdeal.TileScales
public import proofs.«01_k».proof.Proof.KernelIdeal.TileWide
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The accumulator's one store writes zeros. -/
theorem runA_zero (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (hc : first i) (x2 : Vec Ideal S512x3072 .bf16) :
    ∀ p ∈ (runA (F := Ideal) c i arg3 harg3 arg4 harg4 arg5 harg5 arg6 harg6 arg7 harg7 arg8 harg8 arg9 harg9 arg10 harg10 arg11 harg11 arg12 harg12 arg13 harg13 arg14 harg14 arg15 harg15 hc x2).2.2.2.1, ∀ x : p.1.shape.Idx, p.2 x = (fun _ => (0 : EReal) : S512x3072.Idx → EReal) (p.1.emb x) := by
  unfold runA
  dsimp only
  simp only [List.forall_mem_cons, List.not_mem_nil, false_imp_iff, implies_true, and_true]
  intro x
  show k0_pay2 (F := Ideal) x = 0
  unfold k0_pay2
  rw [shapeCast_self]
  exact Ideal.ofBits_zero_f32

/-- Contents written by pieces that all hold one function's values, and reach every index, read as
    that function. -/
theorem owns_of_pieces (c : Dev nD) {sp : Space} {S : Shape} {e : EltTy} (M : Memref sig .tc sp S e)
    (L : List (View.Piece (Elt Ideal) S e)) (G : S.Idx → Elt Ideal e)
    (hG : ∀ p ∈ L, ∀ x : p.1.shape.Idx, p.2 x = G (p.1.emb x)) (hL : ∀ y : S.Idx, ∃ p ∈ L, y ∈ p.1.set) :
    (iprop(∃ f, M.view.loc (c : Thread nD τ) ↦[M.view.set]{fullShare} M.view.writes (Elt Ideal) f L) : sProp 𝕄)
      ⊢ owns (c : Thread nD τ) M fullShare G := by
  unfold owns
  iintro ⟨%f, H⟩
  iexists _
  isplitr; swap
  · iexact H
  ipureintro
  exact funext fun y => View.read_writes_apply_of_pieces _ _ G L hG y (hL y)

set_option maxHeartbeats 1000000 in
theorem specA_first (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (hc : first i) (x2 : Vec Ideal S512x3072 .bf16) (E : Set ℕ) (K : PUnit → sProp 𝕄) :
    iprop(owns (c : Thread nD τ) arg5 fullShare x2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg15 fullShare d) ∗ (iprop(owns (c : Thread nD τ) arg5 fullShare x2 ∗ owns (c : Thread nD τ) arg10 fullShare (codeTile x2) ∗ owns (c : Thread nD τ) arg11 fullShare (scaleTile x2) ∗ owns (c : Thread nD τ) arg12 fullShare (wideTile x2) ∗ owns (c : Thread nD τ) arg15 fullShare (fun _ => (0 : EReal))) -∗ K ⟨⟩))
      ⊢ wp frame (wpE (defs₀ (F := Ideal)) Variants.none c none) E (blockA i tbM0_0 htbM0_0 arg3 harg3 arg4 harg4 arg5 harg5 arg6 harg6 arg7 harg7 arg8 harg8 arg9 harg9 arg10 harg10 arg11 harg11 arg12 harg12 arg13 harg13 arg14 harg14 arg15 harg15) K := by
  iintro ⟨H5, H10, H11, H12, H15, Hk⟩
  iapply ((runA (F := Ideal) c i arg3 harg3 arg4 harg4 arg5 harg5 arg6 harg6 arg7 harg7 arg8 harg8 arg9 harg9 arg10 harg10 arg11 harg11 arg12 harg12 arg13 harg13 arg14 harg14 arg15 harg15 hc x2).2.2.2.2 E K)
  isplitl [H5]; · iexact H5
  isplitl [H10]; · iexact H10
  isplitl [H11]; · iexact H11
  isplitl [H12]; · iexact H12
  isplitl [H15]; · iexact H15
  iintro ⟨H5, H10, H11, H12, H15⟩
  iapply Hk
  isplitl [H5]; · iexact H5
  isplitl [H10]
  · iapply (owns_of_pieces c arg10 _ (codeTile x2) (runA_codes c i arg3 harg3 arg4 harg4 arg5 harg5 arg6 harg6 arg7 harg7 arg8 harg8 arg9 harg9 arg10 harg10 arg11 harg11 arg12 harg12 arg13 harg13 arg14 harg14 arg15 harg15 hc x2) (View.cover_of_tiledL _ ![512, 128] (by sl_kernel_rfl)))
    iexact H10
  isplitl [H11]
  · iapply (owns_of_pieces c arg11 _ (scaleTile x2) (runA_scales c i arg3 harg3 arg4 harg4 arg5 harg5 arg6 harg6 arg7 harg7 arg8 harg8 arg9 harg9 arg10 harg10 arg11 harg11 arg12 harg12 arg13 harg13 arg14 harg14 arg15 harg15 hc x2) (View.cover_of_tiledL _ ![512, 1] (by sl_kernel_rfl)))
    iexact H11
  isplitl [H12]
  · iapply (owns_of_pieces c arg12 _ (wideTile x2) (runA_wide c i arg3 harg3 arg4 harg4 arg5 harg5 arg6 harg6 arg7 harg7 arg8 harg8 arg9 harg9 arg10 harg10 arg11 harg11 arg12 harg12 arg13 harg13 arg14 harg14 arg15 harg15 hc x2) (View.cover_of_tiledL _ ![512, 128] (by sl_kernel_rfl)))
    iexact H12
  · iapply (owns_of_pieces c arg15 _ (fun _ => (0 : EReal)) (runA_zero c i arg3 harg3 arg4 harg4 arg5 harg5 arg6 harg6 arg7 harg7 arg8 harg8 arg9 harg9 arg10 harg10 arg11 harg11 arg12 harg12 arg13 harg13 arg14 harg14 arg15 harg15 hc x2) (View.cover_of_tiledL _ ![512, 3072] (by sl_kernel_rfl)))
    iexact H15

end Cert.KernelIdeal.Body

end
-- ==== Proof.KernelIdeal.Live.lean ====
/-
The expert block and the last block, with what they leave named.
-/
module

public import proofs.«01_k».proof.Proof.KernelIdeal.Idle
public import proofs.«01_k».proof.Proof.KernelIdeal.RunL
public import proofs.«01_k».proof.Proof.KernelIdeal.RunC
public import proofs.«01_k».proof.Proof.KernelIdeal.Up
public import proofs.«01_k».proof.Proof.KernelIdeal.Down
public import proofs.«01_k».proof.Proof.KernelIdeal.TileSpec

@[expose] public section

set_option maxRecDepth 100000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

theorem runL_acc (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole)
    (x0 : Vec Ideal S2112 .f32) (x1 : Vec Ideal S1056 .f32) (x3 : Vec Ideal S512x4 .f32) (x4 : Vec Ideal S1x3072x2816 .fp8e4m3) (x5 : Vec Ideal S1x1408x3072 .fp8e4m3) (xs0 : Vec Ideal S512x3072 .bf16) (xs3 : Vec Ideal S512x3072 .f32) (g13 : BufTy.Contents (Elt Ideal) arg13.view.ty) (g14 : BufTy.Contents (Elt Ideal) arg14.view.ty) :
    ∀ p ∈ (runL (F := Ideal) c i arg3 harg3 arg4 harg4 arg5 harg5 arg6 harg6 arg7 harg7 arg8 harg8 arg9 harg9 arg10 harg10 arg11 harg11 arg12 harg12 arg13 harg13 arg14 harg14 arg15 harg15 x0 x1 x3 x4 x5 xs0 xs3 g13 g14).1, ∀ x : p.1.shape.Idx,
      p.2 x = accTile x1 x3 x5 (hidTile x0 x4 xs0 (expertOf i)) (expertOf i) xs3 (p.1.emb x) := by
  unfold runL
  dsimp only
  have hr : View.readAt (Elt Ideal) arg6.view (Rect.unit ![0, 0] S512x4.size inb_S512x4_S512x4_0_0).toLoadRect (harg6.unread x3) = x3 := by
    rw [View.readAt_eq_ld, harg6.read_unread]
    exact View.ld_unit_zero (by decide) _ _
  have hh := hid_read c i tbM0_0 htbM0_0 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) x0 x4 xs0 g13 g14
  rw [← hh]
  have key := fun g13' => (acc_pieces c i tbM0_0 htbM0_0 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) x1 x3 x5 xs3
    (arg14.view.writes (Elt Ideal) g14 (pb_k0_t1 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) (harg3.unread x0) (harg7.unread x4) (harg12.unread xs0) g13 g14 k0_t1_loop.trips).2)
    g13' k0_t2_loop.trips (le_refl _)).1
  rw [show View.readAt (Elt Ideal) arg6.view (Rect.unit ![0, 0] ![512, 4] inb_S512x4_S512x4_0_0).toLoadRect (harg6.unread x3) = x3 from hr]
  exact key _

set_option maxHeartbeats 1000000 in
/-- The expert block. -/
theorem specL (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole)
    (x0 : Vec Ideal S2112 .f32) (x1 : Vec Ideal S1056 .f32) (x3 : Vec Ideal S512x4 .f32) (x4 : Vec Ideal S1x3072x2816 .fp8e4m3) (x5 : Vec Ideal S1x1408x3072 .fp8e4m3) (xs0 : Vec Ideal S512x3072 .bf16) (xs3 : Vec Ideal S512x3072 .f32) (E : Set ℕ) (K : PUnit → sProp 𝕄) :
    iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg8 fullShare x5 ∗ owns (c : Thread nD τ) arg12 fullShare xs0 ∗ (∃ d, owns (c : Thread nD τ) arg13 fullShare d) ∗ (∃ d, owns (c : Thread nD τ) arg14 fullShare d) ∗ owns (c : Thread nD τ) arg15 fullShare xs3 ∗ (iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg8 fullShare x5 ∗ owns (c : Thread nD τ) arg12 fullShare xs0 ∗ (∃ d, owns (c : Thread nD τ) arg13 fullShare d) ∗ (∃ d, owns (c : Thread nD τ) arg14 fullShare d) ∗ owns (c : Thread nD τ) arg15 fullShare (accTile x1 x3 x5 (hidTile x0 x4 xs0 (expertOf i)) (expertOf i) xs3)) -∗ K ⟨⟩))
      ⊢ wp frame (wpE (defs₀ (F := Ideal)) Variants.none c none) E (blockLive i tbM0_0 htbM0_0 arg3 harg3 arg4 harg4 arg5 harg5 arg6 harg6 arg7 harg7 arg8 harg8 arg9 harg9 arg10 harg10 arg11 harg11 arg12 harg12 arg13 harg13 arg14 harg14 arg15 harg15) K := by
  rw [any_raw c arg13, any_raw c arg14]
  iintro ⟨H3, H4, H6, H7, H8, H12, ⟨%g13, H13⟩, ⟨%g14, H14⟩, H15, Hk⟩
  iapply ((runL (F := Ideal) c i arg3 harg3 arg4 harg4 arg5 harg5 arg6 harg6 arg7 harg7 arg8 harg8 arg9 harg9 arg10 harg10 arg11 harg11 arg12 harg12 arg13 harg13 arg14 harg14 arg15 harg15 x0 x1 x3 x4 x5 xs0 xs3 g13 g14).2 E K)
  isplitl [H3]; · iexact H3
  isplitl [H4]; · iexact H4
  isplitl [H6]; · iexact H6
  isplitl [H7]; · iexact H7
  isplitl [H8]; · iexact H8
  isplitl [H12]; · iexact H12
  isplitl [H13]; · iexact H13
  isplitl [H14]; · iexact H14
  isplitl [H15]; · iexact H15
  iintro ⟨H3, H4, H6, H7, H8, H12, H13, H14, H15⟩
  iapply Hk
  isplitl [H3]; · iexact H3
  isplitl [H4]; · iexact H4
  isplitl [H6]; · iexact H6
  isplitl [H7]; · iexact H7
  isplitl [H8]; · iexact H8
  isplitl [H12]; · iexact H12
  rw [← any_raw c arg13, ← any_raw c arg14]
  isplitl [H13]; · iexact H13
  isplitl [H14]; · iexact H14
  iapply (owns_of_pieces c arg15 _ (accTile x1 x3 x5 (hidTile x0 x4 xs0 (expertOf i)) (expertOf i) xs3) (runL_acc c i arg3 harg3 arg4 harg4 arg5 harg5 arg6 harg6 arg7 harg7 arg8 harg8 arg9 harg9 arg10 harg10 arg11 harg11 arg12 harg12 arg13 harg13 arg14 harg14 arg15 harg15 x0 x1 x3 x4 x5 xs0 xs3 g13 g14) (View.cover_of_tiledL _ ![512, 256] (by sl_kernel_rfl)))
  iexact H15

theorem runC_y (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (hc : last i) (xs3 : Vec Ideal S512x3072 .f32) :
    ∀ p ∈ (runC (F := Ideal) c i arg3 harg3 arg4 harg4 arg5 harg5 arg6 harg6 arg7 harg7 arg8 harg8 arg9 harg9 arg10 harg10 arg11 harg11 arg12 harg12 arg13 harg13 arg14 harg14 arg15 harg15 hc xs3).1, ∀ x : p.1.shape.Idx, p.2 x = (fun y => (xs3 y : EReal)) (p.1.emb x) := by
  unfold runC
  dsimp only
  simp only [List.forall_mem_cons, List.not_mem_nil, false_imp_iff, implies_true, and_true]
  intro x
  have hr : View.readAt (Elt Ideal) arg15.view (Rect.unit ![0, 0] S512x3072.size inb_S512x3072_S512x3072_0_0).toLoadRect (harg15.unread xs3) = xs3 := by
    rw [View.readAt_eq_ld, harg15.read_unread]
    exact View.ld_unit_zero (by decide) _ _
  have he : (Rect.unit ![0, 0] S512x3072.size inb_S512x3072_S512x3072_0_0).emb x = x := by
    refine funext fun a => Fin.ext ?_
    match a with
    | 0 => exact (by show 0 + 1 * (x 0).val = (x 0).val; omega)
    | 1 => exact (by show 0 + 1 * (x 1).val = (x 1).val; omega)
  refine Eq.trans ?_ (congrArg (fun y => (xs3 y : EReal)) he.symm)
  exact congrFun hr x

/-- The last block. -/
theorem specC_last (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (hc : last i) (xs3 : Vec Ideal S512x3072 .f32) (E : Set ℕ) (K : PUnit → sProp 𝕄) :
    iprop((∃ d, owns (c : Thread nD τ) arg9 fullShare d) ∗ owns (c : Thread nD τ) arg15 fullShare xs3 ∗ (iprop(owns (c : Thread nD τ) arg9 fullShare (fun y => (xs3 y : EReal)) ∗ owns (c : Thread nD τ) arg15 fullShare xs3) -∗ K ⟨⟩))
      ⊢ wp frame (wpE (defs₀ (F := Ideal)) Variants.none c none) E (blockC i tbM0_0 htbM0_0 arg3 harg3 arg4 harg4 arg5 harg5 arg6 harg6 arg7 harg7 arg8 harg8 arg9 harg9 arg10 harg10 arg11 harg11 arg12 harg12 arg13 harg13 arg14 harg14 arg15 harg15) K := by
  iintro ⟨H9, H15, Hk⟩
  iapply ((runC (F := Ideal) c i arg3 harg3 arg4 harg4 arg5 harg5 arg6 harg6 arg7 harg7 arg8 harg8 arg9 harg9 arg10 harg10 arg11 harg11 arg12 harg12 arg13 harg13 arg14 harg14 arg15 harg15 hc xs3).2 E K)
  isplitl [H9]; · iexact H9
  isplitl [H15]; · iexact H15
  iintro ⟨H9, H15⟩
  iapply Hk
  isplitl [H9]
  · iapply (owns_of_pieces c arg9 _ (fun y => (xs3 y : EReal)) (runC_y c i arg3 harg3 arg4 harg4 arg5 harg5 arg6 harg6 arg7 harg7 arg8 harg8 arg9 harg9 arg10 harg10 arg11 harg11 arg12 harg12 arg13 harg13 arg14 harg14 arg15 harg15 hc xs3) (View.cover_of_tiledL _ ![512, 3072] (by sl_kernel_rfl)))
    iexact H9
  iexact H15

end Cert.KernelIdeal.Body

end
-- ==== Proof.KernelIdeal.Steps.lean ====
/-
The body at the first, a middle and the last expert of a tile, with what it leaves named.
-/
module

public import proofs.«01_k».proof.Proof.KernelIdeal.Live

@[expose] public section

set_option maxRecDepth 100000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Classical in
/-- The accumulator after an expert's block: unchanged where the expert has no token in the tile. -/
def stepAcc (c : Dev nD) (xt : TbBuf0 (F := Ideal) c tbM0_0) (i : grid0.Coords) (x0 : Vec Ideal S2112 .f32) (x1 : Vec Ideal S1056 .f32) (x3 : Vec Ideal S512x4 .f32) (x4 : Vec Ideal S1x3072x2816 .fp8e4m3) (x5 : Vec Ideal S1x1408x3072 .fp8e4m3) (xs0 : Vec Ideal S512x3072 .bf16) (xs3 : Vec Ideal S512x3072 .f32) : Vec Ideal S512x3072 .f32 :=
  if live c xt i then accTile x1 x3 x5 (hidTile x0 x4 xs0 (expertOf i)) (expertOf i) xs3 else xs3

set_option maxHeartbeats 1000000 in
theorem specB_named (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole)
    (x0 : Vec Ideal S2112 .f32) (x1 : Vec Ideal S1056 .f32) (x3 : Vec Ideal S512x4 .f32) (x4 : Vec Ideal S1x3072x2816 .fp8e4m3) (x5 : Vec Ideal S1x1408x3072 .fp8e4m3) (xs0 : Vec Ideal S512x3072 .bf16) (xs3 : Vec Ideal S512x3072 .f32) (xt : TbBuf0 (F := Ideal) c tbM0_0) (E : Set ℕ) (K : PUnit → sProp 𝕄) :
    iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg8 fullShare x5 ∗ owns (c : Thread nD τ) arg12 fullShare xs0 ∗ (∃ d, owns (c : Thread nD τ) arg13 fullShare d) ∗ (∃ d, owns (c : Thread nD τ) arg14 fullShare d) ∗ owns (c : Thread nD τ) arg15 fullShare xs3 ∗ tbPt0 c tbM0_0 xt ∗ (iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg8 fullShare x5 ∗ owns (c : Thread nD τ) arg12 fullShare xs0 ∗ (∃ d, owns (c : Thread nD τ) arg13 fullShare d) ∗ (∃ d, owns (c : Thread nD τ) arg14 fullShare d) ∗ owns (c : Thread nD τ) arg15 fullShare (stepAcc c xt i x0 x1 x3 x4 x5 xs0 xs3) ∗ tbPt0 c tbM0_0 xt) -∗ K ⟨⟩))
      ⊢ wp frame (wpE (defs₀ (F := Ideal)) Variants.none c none) E (blockB i tbM0_0 htbM0_0 arg3 harg3 arg4 harg4 arg5 harg5 arg6 harg6 arg7 harg7 arg8 harg8 arg9 harg9 arg10 harg10 arg11 harg11 arg12 harg12 arg13 harg13 arg14 harg14 arg15 harg15) K := by
  by_cases h : live c xt i
  · rw [stepAcc, if_pos h]
    iintro ⟨H3, H4, H6, H7, H8, H12, H13, H14, H15, HT, Hk⟩
    iapply (specB_live c i arg3 harg3 arg4 harg4 arg5 harg5 arg6 harg6 arg7 harg7 arg8 harg8 arg9 harg9 arg10 harg10 arg11 harg11 arg12 harg12 arg13 harg13 arg14 harg14 arg15 harg15 xt h E K)
    isplitl [HT]; · iexact HT
    iintro HT
    iapply (specL c i arg3 harg3 arg4 harg4 arg5 harg5 arg6 harg6 arg7 harg7 arg8 harg8 arg9 harg9 arg10 harg10 arg11 harg11 arg12 harg12 arg13 harg13 arg14 harg14 arg15 harg15 x0 x1 x3 x4 x5 xs0 xs3 E K)
    isplitl [H3]; · iexact H3
    isplitl [H4]; · iexact H4
    isplitl [H6]; · iexact H6
    isplitl [H7]; · iexact H7
    isplitl [H8]; · iexact H8
    isplitl [H12]; · iexact H12
    isplitl [H13]; · iexact H13
    isplitl [H14]; · iexact H14
    isplitl [H15]; · iexact H15
    iintro ⟨H3, H4, H6, H7, H8, H12, H13, H14, H15⟩
    iapply Hk
    isplitl [H3]; · iexact H3
    isplitl [H4]; · iexact H4
    isplitl [H6]; · iexact H6
    isplitl [H7]; · iexact H7
    isplitl [H8]; · iexact H8
    isplitl [H12]; · iexact H12
    isplitl [H13]; · iexact H13
    isplitl [H14]; · iexact H14
    isplitl [H15]; · iexact H15
    iexact HT
  · rw [stepAcc, if_neg h]
    iintro ⟨H3, H4, H6, H7, H8, H12, H13, H14, H15, HT, Hk⟩
    iapply (specB_idle c i arg3 harg3 arg4 harg4 arg5 harg5 arg6 harg6 arg7 harg7 arg8 harg8 arg9 harg9 arg10 harg10 arg11 harg11 arg12 harg12 arg13 harg13 arg14 harg14 arg15 harg15 xt h E K)
    isplitl [HT]; · iexact HT
    iintro HT
    iapply Hk
    isplitl [H3]; · iexact H3
    isplitl [H4]; · iexact H4
    isplitl [H6]; · iexact H6
    isplitl [H7]; · iexact H7
    isplitl [H8]; · iexact H8
    isplitl [H12]; · iexact H12
    isplitl [H13]; · iexact H13
    isplitl [H14]; · iexact H14
    isplitl [H15]; · iexact H15
    iexact HT

set_option maxHeartbeats 1000000 in
/-- At a tile's first expert. -/
theorem body_first (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (hc : first i) (hl : ¬ last i)
    (x0 : Vec Ideal S2112 .f32) (x1 : Vec Ideal S1056 .f32) (x2 : Vec Ideal S512x3072 .bf16) (x3 : Vec Ideal S512x4 .f32) (x4 : Vec Ideal S1x3072x2816 .fp8e4m3) (x5 : Vec Ideal S1x1408x3072 .fp8e4m3) (xt : TbBuf0 (F := Ideal) c tbM0_0) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg10 fullShare (codeTile x2) ∗ owns (c : Thread nD τ) arg11 fullShare (scaleTile x2) ∗ owns (c : Thread nD τ) arg12 fullShare (wideTile x2) ∗ (∃ d, owns (c : Thread nD τ) arg13 fullShare d) ∗ (∃ d, owns (c : Thread nD τ) arg14 fullShare d) ∗ owns (c : Thread nD τ) arg15 fullShare (stepAcc c xt i x0 x1 x3 x4 x5 (wideTile x2) (fun _ => (0 : EReal))) ∗ tbPt0 c tbM0_0 xt) -∗ K ⟨⟩))
      ⊢ wp frame (wpE (defs₀ (F := Ideal)) Variants.none c none) E (cc0_moe_dense i tbM0_0 htbM0_0 arg3 harg3 arg4 harg4 arg5 harg5 arg6 harg6 arg7 harg7 arg8 harg8 arg9 harg9 arg10 harg10 arg11 harg11 arg12 harg12 arg13 harg13 arg14 harg14 arg15 harg15) K := by
  rw [body_eq, wp_bind]
  simp only [wp_bind]
  iintro ⟨H3, H4, H5, H6, H7, H8, H10, H11, H12, H13, H14, H15, HT, Hk⟩
  iapply (specA_first c i arg3 harg3 arg4 harg4 arg5 harg5 arg6 harg6 arg7 harg7 arg8 harg8 arg9 harg9 arg10 harg10 arg11 harg11 arg12 harg12 arg13 harg13 arg14 harg14 arg15 harg15 hc x2 E _)
  isplitl [H5]; · iexact H5
  isplitl [H10]; · iexact H10
  isplitl [H11]; · iexact H11
  isplitl [H12]; · iexact H12
  isplitl [H15]; · iexact H15
  iintro ⟨H5, H10, H11, H12, H15⟩
  iapply (specB_named c i arg3 harg3 arg4 harg4 arg5 harg5 arg6 harg6 arg7 harg7 arg8 harg8 arg9 harg9 arg10 harg10 arg11 harg11 arg12 harg12 arg13 harg13 arg14 harg14 arg15 harg15 x0 x1 x3 x4 x5 _ _ xt E _)
  isplitl [H3]; · iexact H3
  isplitl [H4]; · iexact H4
  isplitl [H6]; · iexact H6
  isplitl [H7]; · iexact H7
  isplitl [H8]; · iexact H8
  isplitl [H12]; · iexact H12
  isplitl [H13]; · iexact H13
  isplitl [H14]; · iexact H14
  isplitl [H15]; · iexact H15
  isplitl [HT]; · iexact HT
  iintro ⟨H3, H4, H6, H7, H8, H12, H13, H14, H15, HT⟩
  iapply (specC_idle c i arg3 harg3 arg4 harg4 arg5 harg5 arg6 harg6 arg7 harg7 arg8 harg8 arg9 harg9 arg10 harg10 arg11 harg11 arg12 harg12 arg13 harg13 arg14 harg14 arg15 harg15 hl E _)
  iapply Hk
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  isplitl [H15]; · iexact H15
  iexact HT

set_option maxHeartbeats 1000000 in
/-- At a tile's middle experts. -/
theorem body_mid (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (hc : ¬ first i) (hl : ¬ last i)
    (x0 : Vec Ideal S2112 .f32) (x1 : Vec Ideal S1056 .f32) (x2 : Vec Ideal S512x3072 .bf16) (x3 : Vec Ideal S512x4 .f32) (x4 : Vec Ideal S1x3072x2816 .fp8e4m3) (x5 : Vec Ideal S1x1408x3072 .fp8e4m3) (xs0 : Vec Ideal S512x3072 .bf16) (xs3 : Vec Ideal S512x3072 .f32) (xt : TbBuf0 (F := Ideal) c tbM0_0) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg12 fullShare xs0 ∗ (∃ d, owns (c : Thread nD τ) arg13 fullShare d) ∗ (∃ d, owns (c : Thread nD τ) arg14 fullShare d) ∗ owns (c : Thread nD τ) arg15 fullShare xs3 ∗ tbPt0 c tbM0_0 xt ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg12 fullShare xs0 ∗ (∃ d, owns (c : Thread nD τ) arg13 fullShare d) ∗ (∃ d, owns (c : Thread nD τ) arg14 fullShare d) ∗ owns (c : Thread nD τ) arg15 fullShare (stepAcc c xt i x0 x1 x3 x4 x5 xs0 xs3) ∗ tbPt0 c tbM0_0 xt) -∗ K ⟨⟩))
      ⊢ wp frame (wpE (defs₀ (F := Ideal)) Variants.none c none) E (cc0_moe_dense i tbM0_0 htbM0_0 arg3 harg3 arg4 harg4 arg5 harg5 arg6 harg6 arg7 harg7 arg8 harg8 arg9 harg9 arg10 harg10 arg11 harg11 arg12 harg12 arg13 harg13 arg14 harg14 arg15 harg15) K := by
  rw [body_eq, wp_bind]
  simp only [wp_bind]
  iintro ⟨H3, H4, H5, H6, H7, H8, H12, H13, H14, H15, HT, Hk⟩
  iapply (specA_idle c i arg3 harg3 arg4 harg4 arg5 harg5 arg6 harg6 arg7 harg7 arg8 harg8 arg9 harg9 arg10 harg10 arg11 harg11 arg12 harg12 arg13 harg13 arg14 harg14 arg15 harg15 hc E _)
  iapply (specB_named c i arg3 harg3 arg4 harg4 arg5 harg5 arg6 harg6 arg7 harg7 arg8 harg8 arg9 harg9 arg10 harg10 arg11 harg11 arg12 harg12 arg13 harg13 arg14 harg14 arg15 harg15 x0 x1 x3 x4 x5 _ _ xt E _)
  isplitl [H3]; · iexact H3
  isplitl [H4]; · iexact H4
  isplitl [H6]; · iexact H6
  isplitl [H7]; · iexact H7
  isplitl [H8]; · iexact H8
  isplitl [H12]; · iexact H12
  isplitl [H13]; · iexact H13
  isplitl [H14]; · iexact H14
  isplitl [H15]; · iexact H15
  isplitl [HT]; · iexact HT
  iintro ⟨H3, H4, H6, H7, H8, H12, H13, H14, H15, HT⟩
  iapply (specC_idle c i arg3 harg3 arg4 harg4 arg5 harg5 arg6 harg6 arg7 harg7 arg8 harg8 arg9 harg9 arg10 harg10 arg11 harg11 arg12 harg12 arg13 harg13 arg14 harg14 arg15 harg15 hl E _)
  iapply Hk
  isplitl [H3]; · iexact H3
  isplitl [H4]; · iexact H4
  isplitl [H5]; · iexact H5
  isplitl [H6]; · iexact H6
  isplitl [H7]; · iexact H7
  isplitl [H8]; · iexact H8
  isplitl [H12]; · iexact H12
  isplitl [H13]; · iexact H13
  isplitl [H14]; · iexact H14
  isplitl [H15]; · iexact H15
  iexact HT

set_option maxHeartbeats 1000000 in
/-- At a tile's last expert. -/
theorem body_last (c : Dev nD) (i : grid0.Coords) (arg3 : Memref sig .tc .smem S2112 .f32) (harg3 : arg3.IsWhole) (arg4 : Memref sig .tc .smem S1056 .f32) (harg4 : arg4.IsWhole) (arg5 : Memref sig .tc .vmem S512x3072 .bf16) (harg5 : arg5.IsWhole) (arg6 : Memref sig .tc .vmem S512x4 .f32) (harg6 : arg6.IsWhole) (arg7 : Memref sig .tc .vmem S1x3072x2816 .fp8e4m3) (harg7 : arg7.IsWhole) (arg8 : Memref sig .tc .vmem S1x1408x3072 .fp8e4m3) (harg8 : arg8.IsWhole) (arg9 : Memref sig .tc .vmem S512x3072 .bf16) (harg9 : arg9.IsWhole) (arg10 : Memref sig .tc .vmem S512x3072 .fp8e4m3) (harg10 : arg10.IsWhole) (arg11 : Memref sig .tc .vmem S512x24 .f32) (harg11 : arg11.IsWhole) (arg12 : Memref sig .tc .vmem S512x3072 .bf16) (harg12 : arg12.IsWhole) (arg13 : Memref sig .tc .vmem S3072x256 .bf16) (harg13 : arg13.IsWhole) (arg14 : Memref sig .tc .vmem S512x1408 .bf16) (harg14 : arg14.IsWhole) (arg15 : Memref sig .tc .vmem S512x3072 .f32) (harg15 : arg15.IsWhole) (hc : ¬ first i) (hl : last i)
    (x0 : Vec Ideal S2112 .f32) (x1 : Vec Ideal S1056 .f32) (x2 : Vec Ideal S512x3072 .bf16) (x3 : Vec Ideal S512x4 .f32) (x4 : Vec Ideal S1x3072x2816 .fp8e4m3) (x5 : Vec Ideal S1x1408x3072 .fp8e4m3) (xs0 : Vec Ideal S512x3072 .bf16) (xs3 : Vec Ideal S512x3072 .f32) (xt : TbBuf0 (F := Ideal) c tbM0_0) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg12 fullShare xs0 ∗ (∃ d, owns (c : Thread nD τ) arg13 fullShare d) ∗ (∃ d, owns (c : Thread nD τ) arg14 fullShare d) ∗ owns (c : Thread nD τ) arg15 fullShare xs3 ∗ tbPt0 c tbM0_0 xt ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (fun y => ((stepAcc c xt i x0 x1 x3 x4 x5 xs0 xs3) y : EReal)) ∗ owns (c : Thread nD τ) arg12 fullShare xs0 ∗ (∃ d, owns (c : Thread nD τ) arg13 fullShare d) ∗ (∃ d, owns (c : Thread nD τ) arg14 fullShare d) ∗ owns (c : Thread nD τ) arg15 fullShare (stepAcc c xt i x0 x1 x3 x4 x5 xs0 xs3) ∗ tbPt0 c tbM0_0 xt) -∗ K ⟨⟩))
      ⊢ wp frame (wpE (defs₀ (F := Ideal)) Variants.none c none) E (cc0_moe_dense i tbM0_0 htbM0_0 arg3 harg3 arg4 harg4 arg5 harg5 arg6 harg6 arg7 harg7 arg8 harg8 arg9 harg9 arg10 harg10 arg11 harg11 arg12 harg12 arg13 harg13 arg14 harg14 arg15 harg15) K := by
  rw [body_eq, wp_bind]
  simp only [wp_bind]
  iintro ⟨H3, H4, H5, H6, H7, H8, H9, H12, H13, H14, H15, HT, Hk⟩
  iapply (specA_idle c i arg3 harg3 arg4 harg4 arg5 harg5 arg6 harg6 arg7 harg7 arg8 harg8 arg9 harg9 arg10 harg10 arg11 harg11 arg12 harg12 arg13 harg13 arg14 harg14 arg15 harg15 hc E _)
  iapply (specB_named c i arg3 harg3 arg4 harg4 arg5 harg5 arg6 harg6 arg7 harg7 arg8 harg8 arg9 harg9 arg10 harg10 arg11 harg11 arg12 harg12 arg13 harg13 arg14 harg14 arg15 harg15 x0 x1 x3 x4 x5 _ _ xt E _)
  isplitl [H3]; · iexact H3
  isplitl [H4]; · iexact H4
  isplitl [H6]; · iexact H6
  isplitl [H7]; · iexact H7
  isplitl [H8]; · iexact H8
  isplitl [H12]; · iexact H12
  isplitl [H13]; · iexact H13
  isplitl [H14]; · iexact H14
  isplitl [H15]; · iexact H15
  isplitl [HT]; · iexact HT
  iintro ⟨H3, H4, H6, H7, H8, H12, H13, H14, H15, HT⟩
  iapply (specC_last c i arg3 harg3 arg4 harg4 arg5 harg5 arg6 harg6 arg7 harg7 arg8 harg8 arg9 harg9 arg10 harg10 arg11 harg11 arg12 harg12 arg13 harg13 arg14 harg14 arg15 harg15 hl _ E _)
  isplitl [H9]; · iexact H9
  isplitl [H15]; · iexact H15
  iintro ⟨H9, H15⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  isplitl [H14]; · iexact H14
  isplitl [H15]; · iexact H15
  iexact HT

end Cert.KernelIdeal.Body

end
-- ==== Proof.KernelIdeal.Named.lean ====
/-
The kernel's run with its three results named: what every grid point leaves, point by point.
-/
module

public import proofs.«01_k».proof.Proof.KernelIdeal.Steps
public import Idealize.ShloMosaic.Lib.Claim
public import Idealize.ShloMosaic.Lib.Pipeline.TableIdle

@[expose] public section

set_option maxRecDepth 16384

noncomputable section

namespace Cert.KernelIdeal.Named

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first grid point of a point's tile. -/
noncomputable def head (hO : Ok m) (t : Fin (cfgM m hO).N) : Fin (cfgM m hO).N := ⟨4 * (t.val / 4), by have := t.isLt; omega⟩

theorem head_first (hO : Ok m) (t : Fin (cfgM m hO).N) (h : t.val % 4 = 0) : head m hO t = t := Fin.ext (by show 4 * (t.val / 4) = t.val; omega)

theorem head_pred (hO : Ok m) (t : Fin (cfgM m hO).N) (h : ¬ t.val % 4 = 0) (hlt : t.val - 1 < (cfgM m hO).N) : head m hO ⟨t.val - 1, hlt⟩ = head m hO t :=
  Fin.ext (by show 4 * ((t.val - 1) / 4) = 4 * (t.val / 4); omega)

/-- The tile's activations, quantised: as codes, as scales, and widened back. -/
noncomputable def codesAt (hO : Ok m) (c : Dev nD) (t : Fin (cfgM m hO).N) : Vec Ideal S512x3072 .fp8e4m3 := codeTile (iblk m hO c 2 (head m hO t))
noncomputable def scalesAt (hO : Ok m) (c : Dev nD) (t : Fin (cfgM m hO).N) : Vec Ideal S512x24 .f32 := scaleTile (iblk m hO c 2 (head m hO t))
noncomputable def wideAt (hO : Ok m) (c : Dev nD) (t : Fin (cfgM m hO).N) : Vec Ideal S512x3072 .bf16 := wideTile (iblk m hO c 2 (head m hO t))

/-- One point's step of the accumulator. -/
noncomputable def accNext (hO : Ok m) (c : Dev nD) (t : Fin (cfgM m hO).N) (a : Vec Ideal S512x3072 .f32) : Vec Ideal S512x3072 .f32 :=
  stepAcc c (tbl m 0) (grid0.coords t) (iblk m hO c 0 t) (iblk m hO c 1 t) (iblk m hO c 3 t) (iblk m hO c 4 t) (iblk m hO c 5 t) (wideAt m hO c t) a

/-- The accumulator after each point: started at zero at a tile's first. -/
noncomputable def accAt (hO : Ok m) (c : Dev nD) : (n : ℕ) → n < (cfgM m hO).N → Vec Ideal S512x3072 .f32
  | 0, h => accNext m hO c ⟨0, h⟩ (fun _ => (0 : EReal))
  | n + 1, h => accNext m hO c ⟨n + 1, h⟩ (if (n + 1) % 4 = 0 then (fun _ => (0 : EReal)) else accAt hO c n (by omega))

theorem accAt_first (hO : Ok m) (c : Dev nD) (t : Fin (cfgM m hO).N) (h : t.val % 4 = 0) :
    accAt m hO c t.val t.isLt = accNext m hO c t (fun _ => (0 : EReal)) := by
  obtain ⟨n, hn⟩ := t
  cases n with
  | zero => rfl
  | succ n => rw [accAt, if_pos h]

theorem accAt_next (hO : Ok m) (c : Dev nD) (t : Fin (cfgM m hO).N) (h : ¬ t.val % 4 = 0) (hlt : t.val - 1 < (cfgM m hO).N) :
    accAt m hO c t.val t.isLt = accNext m hO c t (accAt m hO c (t.val - 1) hlt) := by
  obtain ⟨n, hn⟩ := t
  cases n with
  | zero => exact absurd rfl h
  | succ n => rw [accAt, if_neg h]; rfl

/-- The scratch before each point. -/
noncomputable def scratch (hO : Ok m) (c : Dev nD) : (n : ℕ) → n ≤ (cfgM m hO).N → sProp 𝕄
  | 0, _ => iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d))
  | n + 1, h => iprop(owns (c : Thread nD τ) scM0_0 fullShare (wideAt m hO c ⟨n, h⟩) ∗ (∃ d, owns (c : Thread nD τ) scM0_1 fullShare d) ∗ (∃ d, owns (c : Thread nD τ) scM0_2 fullShare d) ∗ owns (c : Thread nD τ) scM0_3 fullShare (accAt m hO c n h))

theorem scratch_any (hO : Ok m) (c : Dev nD) (n : ℕ) (h : n ≤ (cfgM m hO).N) :
    scratch m hO c n h ⊢ iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) := by
  cases n with
  | zero => exact Idealize.SL.BI.Entails.refl _
  | succ n =>
    unfold scratch
    iintro ⟨H0, H1, H2, H3⟩
    isplitl [H0]; · iexists _; iexact H0
    isplitl [H1]; · iexact H1
    isplitl [H2]; · iexact H2
    iexists _; iexact H3

theorem scratch_pred (hO : Ok m) (c : Dev nD) (t : Fin (cfgM m hO).N) (h : ¬ t.val % 4 = 0) (hlt : t.val - 1 < (cfgM m hO).N) (hle : t.val ≤ (cfgM m hO).N) :
    scratch m hO c t.val hle = iprop(owns (c : Thread nD τ) scM0_0 fullShare (wideAt m hO c t) ∗ (∃ d, owns (c : Thread nD τ) scM0_1 fullShare d) ∗ (∃ d, owns (c : Thread nD τ) scM0_2 fullShare d) ∗ owns (c : Thread nD τ) scM0_3 fullShare (accAt m hO c (t.val - 1) hlt)) := by
  have hw : wideAt m hO c ⟨t.val - 1, hlt⟩ = wideAt m hO c t := by unfold wideAt; rw [head_pred m hO t h hlt]
  rw [← hw]
  obtain ⟨n, hn⟩ := t
  cases n with
  | zero => exact absurd rfl h
  | succ n => rfl

noncomputable def dats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (fun y => (accAt m hO c t.val t.isLt y : EReal))
    | ⟨7, _⟩ => codesAt m hO c t
    | ⟨8, _⟩ => scalesAt m hO c t
  Φ t := iprop(iprop(scratch m hO c t.val (Nat.le_of_lt_succ t.isLt) ∗ (∃ r, prngReg c r)) ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

theorem after0_6 (hO : Ok m) (c : Dev nD) (t : Fin (cfgM m hO).N) : (dats m hO 0 c).after 6 t = (fun y => (accAt m hO c t.val t.isLt y : EReal)) := by dsimp only [dats]; try rfl
theorem after0_7 (hO : Ok m) (c : Dev nD) (t : Fin (cfgM m hO).N) : (dats m hO 0 c).after 7 t = codesAt m hO c t := by dsimp only [dats]; try rfl
theorem after0_8 (hO : Ok m) (c : Dev nD) (t : Fin (cfgM m hO).N) : (dats m hO 0 c).after 8 t = scalesAt m hO c t := by dsimp only [dats]; try rfl

/-! ## What an output's staging buffer holds between points -/

theorem idle6 (hO : Ok m) (t : Fin (cfgM m hO).N) : (cfgM m hO).idle 6 (grid0.coords t) = !decide (t.val % 4 = 3) := by
  show (!(k0_cond3 (grid0.coords t) == 1#1)) = _
  have h := hlast t
  unfold last at h
  simp only [beq_eq_decide, h]
theorem idle7 (hO : Ok m) (t : Fin (cfgM m hO).N) : (cfgM m hO).idle 7 (grid0.coords t) = !decide (t.val % 4 = 0) := by
  show (!(k0_cond1 (grid0.coords t) == 1#1)) = _
  have h := hfirst t
  unfold first at h
  simp only [beq_eq_decide, h]
theorem idle8 (hO : Ok m) (t : Fin (cfgM m hO).N) : (cfgM m hO).idle 8 (grid0.coords t) = !decide (t.val % 4 = 0) := idle7 m hO t

theorem flush6 (hO : Ok m) (t : Fin (cfgM m hO).N) : ((cfgM m hO).win 6).flush t = decide (t.val % 4 = 3) :=
  Bool.eq_iff_iff.mpr ((flush0_6 (adm m hO) t).trans (decide_eq_true_iff).symm)
theorem flush7 (hO : Ok m) (t : Fin (cfgM m hO).N) : ((cfgM m hO).win 7).flush t = decide (t.val % 4 = 3) :=
  Bool.eq_iff_iff.mpr ((flush0_7 (adm m hO) t).trans (decide_eq_true_iff).symm)
theorem flush8 (hO : Ok m) (t : Fin (cfgM m hO).N) : ((cfgM m hO).win 8).flush t = decide (t.val % 4 = 3) :=
  Bool.eq_iff_iff.mpr ((flush0_8 (adm m hO) t).trans (decide_eq_true_iff).symm)

theorem fresh7 (hO : Ok m) (t : Fin (cfgM m hO).N) : (cfgM m hO).fresh 7 t.val = decide (t.val % 4 = 0) :=
  (cfgM m hO).fresh_tab 7 (fun n => decide (n % 4 = 0)) rfl (fun t => by
    show decide ((t.val + 1) % 4 = 0) = (((cfgM m hO).win 7).flush t || ((cfgM m hO).idle 7 (grid0.coords t) && decide (t.val % 4 = 0)))
    rw [flush7, idle7]
    by_cases h0 : t.val % 4 = 0
    · have h1 : ¬ (t.val + 1) % 4 = 0 := by omega
      have h2 : ¬ t.val % 4 = 3 := by omega
      simp [h0, h1]
    · by_cases h3 : t.val % 4 = 3
      · have h1 : (t.val + 1) % 4 = 0 := by omega
        simp [h3, h1]
      · have h1 : ¬ (t.val + 1) % 4 = 0 := by omega
        simp [h0, h3, h1]) t.val (Nat.le_of_lt t.isLt)

theorem before0_7 (hO : Ok m) (c : Dev nD) (t : Fin (cfgM m hO).N) (h : ¬ t.val % 4 = 0) (d) : (dats m hO 0 c).before 7 t d = codesAt m hO c t := by
  have hp : ∀ (t : Fin (cfgM m hO).N) (h : ¬ t.val % 4 = 0), codesAt m hO c ⟨t.val - 1, by omega⟩ = codesAt m hO c t := fun t h => by
    unfold codesAt; rw [head_pred m hO t h]
  rw [(dats m hO 0 c).before_out_traj 7 rfl (fun _ _ => rfl) (fun t ht hi hf => by
    rw [after0_7, after0_7]
    rw [fresh7] at hf
    exact (hp t (of_decide_eq_false hf)).symm) t.val t rfl d, fresh7, decide_eq_false h, if_neg Bool.false_ne_true, after0_7]
  exact hp t h

theorem fresh8 (hO : Ok m) (t : Fin (cfgM m hO).N) : (cfgM m hO).fresh 8 t.val = decide (t.val % 4 = 0) :=
  (cfgM m hO).fresh_tab 8 (fun n => decide (n % 4 = 0)) rfl (fun t => by
    show decide ((t.val + 1) % 4 = 0) = (((cfgM m hO).win 8).flush t || ((cfgM m hO).idle 8 (grid0.coords t) && decide (t.val % 4 = 0)))
    rw [flush8, idle8]
    by_cases h0 : t.val % 4 = 0
    · have h1 : ¬ (t.val + 1) % 4 = 0 := by omega
      have h2 : ¬ t.val % 4 = 3 := by omega
      simp [h0, h1]
    · by_cases h3 : t.val % 4 = 3
      · have h1 : (t.val + 1) % 4 = 0 := by omega
        simp [h3, h1]
      · have h1 : ¬ (t.val + 1) % 4 = 0 := by omega
        simp [h0, h3, h1]) t.val (Nat.le_of_lt t.isLt)

theorem before0_8 (hO : Ok m) (c : Dev nD) (t : Fin (cfgM m hO).N) (h : ¬ t.val % 4 = 0) (d) : (dats m hO 0 c).before 8 t d = scalesAt m hO c t := by
  have hp : ∀ (t : Fin (cfgM m hO).N) (h : ¬ t.val % 4 = 0), scalesAt m hO c ⟨t.val - 1, by omega⟩ = scalesAt m hO c t := fun t h => by
    unfold scalesAt; rw [head_pred m hO t h]
  rw [(dats m hO 0 c).before_out_traj 8 rfl (fun _ _ => rfl) (fun t ht hi hf => by
    rw [after0_8, after0_8]
    rw [fresh8] at hf
    exact (hp t (of_decide_eq_false hf)).symm) t.val t rfl d, fresh8, decide_eq_false h, if_neg Bool.false_ne_true, after0_8]
  exact hp t h

/-! ## The body obligation, at a generic point -/

theorem leaves6_live (hO : Ok m) (c : Dev nD) (t : Fin (cfgM m hO).N) (h : t.val % 4 = 3) :
    (dats m hO 0 c).leavesExact 6 t = owns (c : Thread nD τ) (ms0_6 m hO t) fullShare ((dats m hO 0 c).after 6 t) := by
  unfold Dat.leavesExact
  rw [show (cfgM m hO).idle 6 ((cfgM m hO).grid.coords t) = false from (idle6 m hO t).trans (by rw [decide_eq_true h]; rfl)]
  rfl
theorem leaves6_idle (hO : Ok m) (c : Dev nD) (t : Fin (cfgM m hO).N) (h : ¬ t.val % 4 = 3) :
    (dats m hO 0 c).leavesExact 6 t = iprop(∃ d, owns (c : Thread nD τ) (ms0_6 m hO t) fullShare ((dats m hO 0 c).before 6 t d)) := by
  unfold Dat.leavesExact
  rw [show (cfgM m hO).idle 6 ((cfgM m hO).grid.coords t) = true from (idle6 m hO t).trans (by rw [decide_eq_false h]; rfl),
    show ((cfgM m hO).win 6).flush t = false from (flush6 m hO t).trans (decide_eq_false h)]
  rfl
theorem leaves7_live (hO : Ok m) (c : Dev nD) (t : Fin (cfgM m hO).N) (h : t.val % 4 = 0) :
    (dats m hO 0 c).leavesExact 7 t = owns (c : Thread nD τ) (ms0_7 m hO t) fullShare ((dats m hO 0 c).after 7 t) := by
  unfold Dat.leavesExact
  rw [show (cfgM m hO).idle 7 ((cfgM m hO).grid.coords t) = false from (idle7 m hO t).trans (by rw [decide_eq_true h]; rfl)]
  rfl
theorem leaves7_idle (hO : Ok m) (c : Dev nD) (t : Fin (cfgM m hO).N) (h : ¬ t.val % 4 = 0) (h3 : ¬ t.val % 4 = 3) :
    (dats m hO 0 c).leavesExact 7 t = iprop(∃ d, owns (c : Thread nD τ) (ms0_7 m hO t) fullShare ((dats m hO 0 c).before 7 t d)) := by
  unfold Dat.leavesExact
  rw [show (cfgM m hO).idle 7 ((cfgM m hO).grid.coords t) = true from (idle7 m hO t).trans (by rw [decide_eq_false h]; rfl),
    show ((cfgM m hO).win 7).flush t = false from (flush7 m hO t).trans (decide_eq_false h3)]
  rfl
theorem leaves7_last (hO : Ok m) (c : Dev nD) (t : Fin (cfgM m hO).N) (h : ¬ t.val % 4 = 0) (h3 : t.val % 4 = 3) :
    (dats m hO 0 c).leavesExact 7 t = owns (c : Thread nD τ) (ms0_7 m hO t) fullShare ((dats m hO 0 c).after 7 t) := by
  unfold Dat.leavesExact
  rw [show (cfgM m hO).idle 7 ((cfgM m hO).grid.coords t) = true from (idle7 m hO t).trans (by rw [decide_eq_false h]; rfl),
    show ((cfgM m hO).win 7).flush t = true from (flush7 m hO t).trans (decide_eq_true h3)]
  rfl
theorem leaves8_live (hO : Ok m) (c : Dev nD) (t : Fin (cfgM m hO).N) (h : t.val % 4 = 0) :
    (dats m hO 0 c).leavesExact 8 t = owns (c : Thread nD τ) (ms0_8 m hO t) fullShare ((dats m hO 0 c).after 8 t) := by
  unfold Dat.leavesExact
  rw [show (cfgM m hO).idle 8 ((cfgM m hO).grid.coords t) = false from (idle8 m hO t).trans (by rw [decide_eq_true h]; rfl)]
  rfl
theorem leaves8_idle (hO : Ok m) (c : Dev nD) (t : Fin (cfgM m hO).N) (h : ¬ t.val % 4 = 0) (h3 : ¬ t.val % 4 = 3) :
    (dats m hO 0 c).leavesExact 8 t = iprop(∃ d, owns (c : Thread nD τ) (ms0_8 m hO t) fullShare ((dats m hO 0 c).before 8 t d)) := by
  unfold Dat.leavesExact
  rw [show (cfgM m hO).idle 8 ((cfgM m hO).grid.coords t) = true from (idle8 m hO t).trans (by rw [decide_eq_false h]; rfl),
    show ((cfgM m hO).win 8).flush t = false from (flush8 m hO t).trans (decide_eq_false h3)]
  rfl
theorem leaves8_last (hO : Ok m) (c : Dev nD) (t : Fin (cfgM m hO).N) (h : ¬ t.val % 4 = 0) (h3 : t.val % 4 = 3) :
    (dats m hO 0 c).leavesExact 8 t = owns (c : Thread nD τ) (ms0_8 m hO t) fullShare ((dats m hO 0 c).after 8 t) := by
  unfold Dat.leavesExact
  rw [show (cfgM m hO).idle 8 ((cfgM m hO).grid.coords t) = true from (idle8 m hO t).trans (by rw [decide_eq_false h]; rfl),
    show ((cfgM m hO).win 8).flush t = true from (flush8 m hO t).trans (decide_eq_true h3)]
  rfl

noncomputable def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

noncomputable def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t)

set_option maxHeartbeats 2000000 in
theorem sound_body (hO : Ok m) (c : Dev nD) (t : Fin (cfgM m hO).N) :
    bodyPre m hO c t ⊢ wp frame (wpE (defs₀ (F := Ideal)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl]
  rw [show (dats m hO 0 c).Φ t.succ = iprop(iprop(scratch m hO c (t.val + 1) t.isLt ∗ (∃ r, prngReg c r)) ∗ Pipeline.ΦT pre0 (tbl m) c) from rfl,
    show (dats m hO 0 c).Φ t.castSucc = iprop(iprop(scratch m hO c t.val (Nat.le_of_lt t.isLt) ∗ (∃ r, prngReg c r)) ∗ Pipeline.ΦT pre0 (tbl m) c) from rfl, PhiT0_eq]
  rw [show scratch m hO c (t.val + 1) t.isLt = iprop(owns (c : Thread nD τ) scM0_0 fullShare (wideAt m hO c t) ∗ (∃ d, owns (c : Thread nD τ) scM0_1 fullShare d) ∗ (∃ d, owns (c : Thread nD τ) scM0_2 fullShare d) ∗ owns (c : Thread nD τ) scM0_3 fullShare (accAt m hO c t.val t.isLt)) from rfl]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  by_cases h0 : t.val % 4 = 0
  · have h3 : ¬ t.val % 4 = 3 := by omega
    rw [leaves6_idle m hO c t h3, leaves7_live m hO c t h0, leaves8_live m hO c t h0, after0_7, after0_8, accAt_first m hO c t h0]
    rw [show codesAt m hO c t = codeTile (iblk m hO c 2 t) from by unfold codesAt; rw [head_first m hO t h0],
      show scalesAt m hO c t = scaleTile (iblk m hO c 2 t) from by unfold scalesAt; rw [head_first m hO t h0]]
    unfold accNext
    rw [show wideAt m hO c t = wideTile (iblk m hO c 2 t) from by unfold wideAt; rw [head_first m hO t h0]]
    iintro ⟨⟨⟨HS, Hg⟩, HT0⟩, Ho, ⟨%d0, H0⟩, ⟨%d1, H1⟩, ⟨%d2, H2⟩, ⟨%d3, H3⟩, ⟨%d4, H4⟩, ⟨%d5, H5⟩, H6, ⟨%d7, H7⟩, ⟨%d8, H8⟩⟩
    ihave HS := (scratch_any m hO c t.val (Nat.le_of_lt t.isLt)) $$ HS
    icases HS with ⟨HS0, HS1, HS2, HS3⟩
    iapply (body_first c (grid0.coords t) _ _ _ _ _ _ _ _ _ _ _ _ _ _ _ _ _ _ _ _ _ _ _ _ _ _ ((hfirst t).mpr h0) (fun h => h3 ((hlast t).mp h)) (iblk m hO c 0 t) (iblk m hO c 1 t) (iblk m hO c 2 t) (iblk m hO c 3 t) (iblk m hO c 4 t) (iblk m hO c 5 t) (tbl m 0) Set.univ _)
    isplitl [H0]; · iexact H0
    isplitl [H1]; · iexact H1
    isplitl [H2]; · iexact H2
    isplitl [H3]; · iexact H3
    isplitl [H4]; · iexact H4
    isplitl [H5]; · iexact H5
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HT0]; · iexact HT0
    iintro ⟨H0, H1, H2, H3, H4, H5, H7, H8, HS0, HS1, HS2, HS3, HT0⟩
    isplitl [HS0 HS1 HS2 HS3 Hg HT0]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have hlt : t.val - 1 < (cfgM m hO).N := by have := t.isLt; omega
  rw [scratch_pred m hO c t h0 hlt, accAt_next m hO c t h0 hlt]
  unfold accNext
  by_cases h3 : t.val % 4 = 3
  · rw [leaves6_live m hO c t h3, leaves7_last m hO c t h0 h3, leaves8_last m hO c t h0 h3, after0_6, after0_7, after0_8, accAt_next m hO c t h0 hlt]
    unfold accNext
    simp only [before0_7 m hO c t h0, before0_8 m hO c t h0]
    iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_last c (grid0.coords t) _ _ _ _ _ _ _ _ _ _ _ _ _ _ _ _ _ _ _ _ _ _ _ _ _ _ (fun h => h0 ((hfirst t).mp h)) ((hlast t).mpr h3) (iblk m hO c 0 t) (iblk m hO c 1 t) (iblk m hO c 2 t) (iblk m hO c 3 t) (iblk m hO c 4 t) (iblk m hO c 5 t) (wideAt m hO c t) (accAt m hO c (t.val - 1) hlt) (tbl m 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    isplitl [HT0]; · iexact HT0
    iintro ⟨H0, H1, H2, H3, H4, H5, H6, HS0, HS1, HS2, HS3, HT0⟩
    isplitl [HS0 HS1 HS2 HS3 Hg HT0]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [leaves6_idle m hO c t h3, leaves7_idle m hO c t h0 h3, leaves8_idle m hO c t h0 h3]
    iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, H6, H7, H8⟩
    iapply (body_mid c (grid0.coords t) _ _ _ _ _ _ _ _ _ _ _ _ _ _ _ _ _ _ _ _ _ _ _ _ _ _ (fun h => h0 ((hfirst t).mp h)) (fun h => h3 ((hlast t).mp h)) (iblk m hO c 0 t) (iblk m hO c 1 t) (iblk m hO c 2 t) (iblk m hO c 3 t) (iblk m hO c 4 t) (iblk m hO c 5 t) (wideAt m hO c t) (accAt m hO c (t.val - 1) hlt) (tbl m 0) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HT0]; · iexact HT0
    iintro ⟨H0, H1, H2, H3, H4, H5, HS0, HS1, HS2, HS3, HT0⟩
    isplitl [HS0 HS1 HS2 HS3 Hg HT0]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats m hO 0 c) (defs₀ (F := Ideal)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = iprop(iprop(scratch m hO c 0 (Nat.zero_le _) ∗ (∃ r, prngReg c r)) ∗ Pipeline.ΦT pre0 (tbl m) c) from rfl, PhiA0_eq]
  exact Idealize.SL.BI.Entails.refl _

theorem hout (hO : Ok m) (c : Dev nD) : (dats m hO 0 c).Φ (Fin.last (cfgM m hO).N) ⊢ Pipeline.ΦA spec0 c := by
  rw [show (dats m hO 0 c).Φ (Fin.last (cfgM m hO).N) = iprop(iprop(scratch m hO c (cfgM m hO).N (le_refl _) ∗ (∃ r, prngReg c r)) ∗ Pipeline.ΦT pre0 (tbl m) c) from rfl, PhiA0_eq]
  iintro ⟨⟨HS, Hg⟩, -⟩
  ihave HS := (scratch_any m hO c (cfgM m hO).N (le_refl _)) $$ HS
  isplitl [HS]; · iexact HS
  iexact Hg

set_option backward.isDefEq.respectTransparency.types false in
/-- Every weakly fair run of the program ends, with each result array what the points above wrote back. -/
theorem run_main (hO : Ok m) : θ_run defs (onTc (τ := τ) (main (F := Ideal))) (s₀ m ρ) (Pipeline.FramePost (Pipeline.pin pcfgs fun _ => adm m hO) (dats m hO) 0 (V m)) :=
  Pipeline.θ_run_frameP_track pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

end Cert.KernelIdeal.Named

end
-- ==== Proof.Index.lean ====
/-
Indices from their coordinates' values.
-/
module

public import Idealize.ShloMosaic.Lib.Pointwise

@[expose] public section

namespace Cert.Index

open Idealize.ShloMosaic

theorem ext1 {a : ℕ} (f : Shape.Idx (⟨1, ![a]⟩ : Shape)) (r : Fin a) (h0 : (f 0).val = r.val) : f = ix1 r := by
  funext z
  match z with
  | 0 => exact Fin.ext h0

theorem ext2 {a b : ℕ} (f : Shape.Idx (⟨2, ![a, b]⟩ : Shape)) (r : Fin a) (d : Fin b) (h0 : (f 0).val = r.val) (h1 : (f 1).val = d.val) : f = ix2 r d := by
  funext z
  match z with
  | 0 => exact Fin.ext h0
  | 1 => exact Fin.ext h1

theorem ext3 {a b c : ℕ} (f : Shape.Idx (⟨3, ![a, b, c]⟩ : Shape)) (q : Fin a) (r : Fin b) (d : Fin c) (h0 : (f 0).val = q.val) (h1 : (f 1).val = r.val) (h2 : (f 2).val = d.val) : f = ix3 q r d := by
  funext z
  match z with
  | 0 => exact Fin.ext h0
  | 1 => exact Fin.ext h1
  | 2 => exact Fin.ext h2

end Cert.Index
-- ==== Proof.KernelIdeal.Place.lean ====
/-
Where the blocks lie in the arrays: each input's block at an index, each output's placement.
-/
module

public import proofs.«01_k».proof.Proof.KernelIdeal.Named
public import proofs.«01_k».proof.Proof.Index
public import Idealize.ShloMosaic.Lib.Pipeline.ValueKit
public import Idealize.ShloMosaic.Lib.Pipeline.Covers

@[expose] public section

set_option maxRecDepth 16384

noncomputable section

namespace Cert.KernelIdeal.Out

open Cert.KernelIdeal Cert.KernelIdeal.Gen Cert.KernelIdeal.Body Cert.KernelIdeal.Named
open Cert.Index Idealize.ShloMosaic Idealize.ShloMosaic.TcCoe Idealize.ShloMosaic.Tactic

variable (m : (ℓ : Loc nD τ sig) → Buf (Elt Ideal) ℓ)

theorem coord0 : ∀ t : Fin grid0.N, (grid0.coords t 0).val = t.val / 4 := by decide +kernel
theorem coord1 : ∀ t : Fin grid0.N, (grid0.coords t 1).val = t.val % 4 := by decide +kernel
theorem map0 : ∀ t : Fin grid0.N, cc0_transform_0 (grid0.coords t) = ![0] := by decide +kernel
theorem map1 : ∀ t : Fin grid0.N, cc0_transform_1 (grid0.coords t) = ![0] := by decide +kernel
theorem map2 : ∀ t : Fin grid0.N, cc0_transform_2 (grid0.coords t) = ![t.val / 4, 0] := by decide +kernel
theorem map3 : ∀ t : Fin grid0.N, cc0_transform_3 (grid0.coords t) = ![t.val / 4, 0] := by decide +kernel
theorem map6 : ∀ t : Fin grid0.N, cc0_transform_6 (grid0.coords t) = ![t.val / 4, 0] := by decide +kernel
theorem map7 : ∀ t : Fin grid0.N, cc0_transform_7 (grid0.coords t) = ![t.val / 4, 0] := by decide +kernel
theorem map8 : ∀ t : Fin grid0.N, cc0_transform_8 (grid0.coords t) = ![t.val / 4, 0] := by decide +kernel
theorem map4 : ∀ t : Fin grid0.N, cc0_transform_4 (grid0.coords t) = ![t.val % 4, 0, 0] := by decide +kernel
theorem map5 : ∀ t : Fin grid0.N, cc0_transform_5 (grid0.coords t) = ![t.val % 4, 0, 0] := by decide +kernel

/-! The blocks the body is given, off what the host left. -/

theorem tab0_at (hO : Ok m) (t : Fin (cfgM m hO).N) (i : Fin 2112) : iblk m hO 0 0 t (ix1 i) = V m 0 main_v13 (ix1 i) := by
  blk_simp [iblk]
  refine congrArg (V m 0 main_v13) (ext1 _ i ?_)
  show cc0_transform_0 (grid0.coords t) 0 * 2112 + 1 * i.val = i.val
  rw [map0 t]; show 0 * 2112 + 1 * i.val = _; omega

theorem tab1_at (hO : Ok m) (t : Fin (cfgM m hO).N) (i : Fin 1056) : iblk m hO 0 1 t (ix1 i) = V m 0 main_v14 (ix1 i) := by
  blk_simp [iblk]
  refine congrArg (V m 0 main_v14) (ext1 _ i ?_)
  show cc0_transform_1 (grid0.coords t) 0 * 1056 + 1 * i.val = i.val
  rw [map1 t]; show 0 * 1056 + 1 * i.val = _; omega

theorem row2_at (hO : Ok m) (t : Fin (cfgM m hO).N) (r : Fin 512) (d : Fin 3072) (R : Fin 16384) (hR : R.val = 512 * (t.val / 4) + r.val) :
    iblk m hO 0 2 t (ix2 r d) = V m 0 main_v15 (ix2 R d) := by
  blk_simp [iblk]
  refine congrArg (V m 0 main_v15) (ext2 _ R d ?_ ?_)
  · show cc0_transform_2 (grid0.coords t) 0 * 512 + 1 * r.val = R.val
    rw [map2 t, hR]; show t.val / 4 * 512 + 1 * r.val = _; omega
  · show cc0_transform_2 (grid0.coords t) 1 * 3072 + 1 * d.val = d.val
    rw [map2 t]; show 0 * 3072 + 1 * d.val = _; omega

theorem row3_at (hO : Ok m) (t : Fin (cfgM m hO).N) (r : Fin 512) (d : Fin 4) (R : Fin 16384) (hR : R.val = 512 * (t.val / 4) + r.val) :
    iblk m hO 0 3 t (ix2 r d) = V m 0 main_v8 (ix2 R d) := by
  blk_simp [iblk]
  refine congrArg (V m 0 main_v8) (ext2 _ R d ?_ ?_)
  · show cc0_transform_3 (grid0.coords t) 0 * 512 + 1 * r.val = R.val
    rw [map3 t, hR]; show t.val / 4 * 512 + 1 * r.val = _; omega
  · show cc0_transform_3 (grid0.coords t) 1 * 4 + 1 * d.val = d.val
    rw [map3 t]; show 0 * 4 + 1 * d.val = _; omega

theorem wts4_at (hO : Ok m) (t : Fin (cfgM m hO).N) (r : Fin 3072) (d : Fin 2816) (e : Fin 4) (he : e.val = t.val % 4) :
    iblk m hO 0 4 t (ix3 0 r d) = V m 0 main_arg3 (ix3 e r d) := by
  blk_simp [iblk]
  refine congrArg (V m 0 main_arg3) (ext3 _ e r d ?_ ?_ ?_)
  · show cc0_transform_4 (grid0.coords t) 0 * 1 + 1 * 0 = e.val
    rw [map4 t, he]; show t.val % 4 * 1 + 1 * 0 = _; omega
  · show cc0_transform_4 (grid0.coords t) 1 * 3072 + 1 * r.val = r.val
    rw [map4 t]; show 0 * 3072 + 1 * r.val = _; omega
  · show cc0_transform_4 (grid0.coords t) 2 * 2816 + 1 * d.val = d.val
    rw [map4 t]; show 0 * 2816 + 1 * d.val = _; omega

theorem wts5_at (hO : Ok m) (t : Fin (cfgM m hO).N) (r : Fin 1408) (d : Fin 3072) (e : Fin 4) (he : e.val = t.val % 4) :
    iblk m hO 0 5 t (ix3 0 r d) = V m 0 main_arg5 (ix3 e r d) := by
  blk_simp [iblk]
  refine congrArg (V m 0 main_arg5) (ext3 _ e r d ?_ ?_ ?_)
  · show cc0_transform_5 (grid0.coords t) 0 * 1 + 1 * 0 = e.val
    rw [map5 t, he]; show t.val % 4 * 1 + 1 * 0 = _; omega
  · show cc0_transform_5 (grid0.coords t) 1 * 1408 + 1 * r.val = r.val
    rw [map5 t]; show 0 * 1408 + 1 * r.val = _; omega
  · show cc0_transform_5 (grid0.coords t) 2 * 3072 + 1 * d.val = d.val
    rw [map5 t]; show 0 * 3072 + 1 * d.val = _; omega

/-! Where an output's blocks lie, and that they cover it. -/

theorem place6 (hO : Ok m) (t : Fin (cfgM m hO).N) (r : Fin 512) (d : Fin 3072) (R : Fin 16384) (hR : R.val = 512 * (t.val / 4) + r.val) :
    ((((cfgM m hO).win 6).blk t).view.emb (ix2 r d) : S16384x3072.Idx) = ix2 R d := by
  refine ext2 _ R d ?_ ?_
  · show cc0_transform_6 (grid0.coords t) 0 * 512 + 1 * r.val = R.val
    rw [map6 t, hR]; show t.val / 4 * 512 + 1 * r.val = _; omega
  · show cc0_transform_6 (grid0.coords t) 1 * 3072 + 1 * d.val = d.val
    rw [map6 t]; show 0 * 3072 + 1 * d.val = _; omega

theorem covers6 (hO : Ok m) : ((cfgM m hO).win 6).Covers := by
  refine Pipeline.Window.covers_of_index_surj _ rfl (by show ∀ a : Fin 2, 0 < (![512, 3072] : Fin 2 → ℕ) a; decide) fun (β : (a : Fin 2) → Fin (((cfgM m hO).win 6).nblk a)) => ?_
  have h0 : (β 0).val < 32 := by
    have h := (β 0).isLt
    change _ < (16384 + 512 - 1) / 512 at h
    omega
  have h1 : (β 1).val < 1 := by
    have h := (β 1).isLt
    change _ < (3072 + 3072 - 1) / 3072 at h
    omega
  have e := map6 ⟨4 * (β 0).val, by show _ < 128; omega⟩
  refine ⟨⟨4 * (β 0).val, by show _ < 128; omega⟩, fun (a : Fin 2) => ?_⟩
  match a with
  | 0 => exact (congrFun e 0).trans (by show 4 * (β 0).val / 4 = (β 0).val; omega)
  | 1 => exact (congrFun e 1).trans (by show 0 = (β 1).val; omega)

theorem place7 (hO : Ok m) (t : Fin (cfgM m hO).N) (r : Fin 512) (d : Fin 3072) (R : Fin 16384) (hR : R.val = 512 * (t.val / 4) + r.val) :
    ((((cfgM m hO).win 7).blk t).view.emb (ix2 r d) : S16384x3072.Idx) = ix2 R d := by
  refine ext2 _ R d ?_ ?_
  · show cc0_transform_7 (grid0.coords t) 0 * 512 + 1 * r.val = R.val
    rw [map7 t, hR]; show t.val / 4 * 512 + 1 * r.val = _; omega
  · show cc0_transform_7 (grid0.coords t) 1 * 3072 + 1 * d.val = d.val
    rw [map7 t]; show 0 * 3072 + 1 * d.val = _; omega

theorem covers7 (hO : Ok m) : ((cfgM m hO).win 7).Covers := by
  refine Pipeline.Window.covers_of_index_surj _ rfl (by show ∀ a : Fin 2, 0 < (![512, 3072] : Fin 2 → ℕ) a; decide) fun (β : (a : Fin 2) → Fin (((cfgM m hO).win 7).nblk a)) => ?_
  have h0 : (β 0).val < 32 := by
    have h := (β 0).isLt
    change _ < (16384 + 512 - 1) / 512 at h
    omega
  have h1 : (β 1).val < 1 := by
    have h := (β 1).isLt
    change _ < (3072 + 3072 - 1) / 3072 at h
    omega
  have e := map7 ⟨4 * (β 0).val, by show _ < 128; omega⟩
  refine ⟨⟨4 * (β 0).val, by show _ < 128; omega⟩, fun (a : Fin 2) => ?_⟩
  match a with
  | 0 => exact (congrFun e 0).trans (by show 4 * (β 0).val / 4 = (β 0).val; omega)
  | 1 => exact (congrFun e 1).trans (by show 0 = (β 1).val; omega)

theorem place8 (hO : Ok m) (t : Fin (cfgM m hO).N) (r : Fin 512) (d : Fin 24) (R : Fin 16384) (hR : R.val = 512 * (t.val / 4) + r.val) :
    ((((cfgM m hO).win 8).blk t).view.emb (ix2 r d) : S16384x24.Idx) = ix2 R d := by
  refine ext2 _ R d ?_ ?_
  · show cc0_transform_8 (grid0.coords t) 0 * 512 + 1 * r.val = R.val
    rw [map8 t, hR]; show t.val / 4 * 512 + 1 * r.val = _; omega
  · show cc0_transform_8 (grid0.coords t) 1 * 24 + 1 * d.val = d.val
    rw [map8 t]; show 0 * 24 + 1 * d.val = _; omega

theorem covers8 (hO : Ok m) : ((cfgM m hO).win 8).Covers := by
  refine Pipeline.Window.covers_of_index_surj _ rfl (by show ∀ a : Fin 2, 0 < (![512, 24] : Fin 2 → ℕ) a; decide) fun (β : (a : Fin 2) → Fin (((cfgM m hO).win 8).nblk a)) => ?_
  have h0 : (β 0).val < 32 := by
    have h := (β 0).isLt
    change _ < (16384 + 512 - 1) / 512 at h
    omega
  have h1 : (β 1).val < 1 := by
    have h := (β 1).isLt
    change _ < (24 + 24 - 1) / 24 at h
    omega
  have e := map8 ⟨4 * (β 0).val, by show _ < 128; omega⟩
  refine ⟨⟨4 * (β 0).val, by show _ < 128; omega⟩, fun (a : Fin 2) => ?_⟩
  match a with
  | 0 => exact (congrFun e 0).trans (by show 4 * (β 0).val / 4 = (β 0).val; omega)
  | 1 => exact (congrFun e 1).trans (by show 0 = (β 1).val; omega)

end Cert.KernelIdeal.Out

end
-- ==== Proof.Layer.lean ====
/-
The whole layer over the extended reals, as a function of the seven arguments: four experts on
every token, each weighted by the token's gate for it.
-/
module

public import proofs.«01_k».proof.Proof.Ffn

@[expose] public section

noncomputable section

namespace Cert.Layer

open Idealize.ShloMosaic

/-- The arguments, by token, expert, row and column. -/
structure Args where
  x : Fin 16384 → Fin 3072 → EReal
  ids : Fin 16384 → Fin 2 → BitVec 32
  wts : Fin 16384 → Fin 2 → EReal
  w1 : Fin 4 → Fin 3072 → Fin 2816 → EReal
  s1 : Fin 4 → Fin 24 → Fin 22 → EReal
  w2 : Fin 4 → Fin 1408 → Fin 3072 → EReal
  s2 : Fin 4 → Fin 11 → Fin 24 → EReal

/-- Whether a token's choice `k` is expert `e`. -/
def Args.hot (a : Args) (r : Fin 16384) (k : Fin 2) (e : Fin 4) : BitVec 1 :=
  IntOp.cmpi .eq (a.ids r k) (BitVec.ofNat 32 e.val)

/-- A token's weight for an expert: the weights of its choices that are that expert. -/
def Args.gate (a : Args) (r : Fin 16384) (e : Fin 4) : EReal :=
  ∑ k : Fin 2, Scalar.select (a.hot r k e) (a.wts r k) 0

/-- An expert's output on a token. -/
def Args.out (a : Args) (r : Fin 16384) (e : Fin 4) (c : Fin 3072) : EReal :=
  Ffn.expert (a.x r) (a.w1 e) (a.s1 e) (a.w2 e) (a.s2 e) c

/-- The layer's output: the experts in order, from zero. -/
def Args.y (a : Args) (r : Fin 16384) (c : Fin 3072) : EReal :=
  0 + a.out r 0 c * a.gate r 0 + a.out r 1 c * a.gate r 1 + a.out r 2 c * a.gate r 2 + a.out r 3 c * a.gate r 3

/-- The codes of the activations. -/
def Args.codes (a : Args) (r : Fin 16384) (d : Fin 3072) : EReal := Ffn.codeRow (a.x r) d

/-- The scales of the activations. -/
def Args.scales (a : Args) (r : Fin 16384) (k : Fin 24) : EReal := Ffn.scaleRow (a.x r) k

/-- A token that did not choose an expert has no weight for it. -/
theorem Args.gate_zero (a : Args) (r : Fin 16384) (e : Fin 4) (h : ∀ k, a.hot r k e = 0#1) : a.gate r e = 0 := by
  unfold Args.gate
  refine Finset.sum_eq_zero fun k _ => ?_
  rw [h k]
  rfl

/-! ## Counting bits in a word -/

/-- A sum of fewer than 2 ^ 32 bits in a 32-bit word is their sum. -/
theorem toNat_fold {ι : Type} [DecidableEq ι] (s : Finset ι) (f : ι → BitVec 1) (h : s.card < 2 ^ 32) :
    (Finset.fold IntOp.addi (0#32) (fun i => BitVec.setWidth 32 (f i)) s).toNat = ∑ i ∈ s, (f i).toNat := by
  have hle : ∀ s : Finset ι, ∑ i ∈ s, (f i).toNat ≤ s.card := fun s => by
    rw [Finset.card_eq_sum_ones]
    exact Finset.sum_le_sum fun i _ => by have := (f i).isLt; omega
  induction s using Finset.induction_on with
  | empty => rfl
  | insert a s ha ih =>
    rw [Finset.card_insert_of_notMem ha] at h
    rw [Finset.fold_insert ha, Finset.sum_insert ha]
    show (BitVec.setWidth 32 (f a) + _).toNat = _
    rw [BitVec.toNat_add, ih (by omega), BitVec.toNat_setWidth]
    have h1 := (f a).isLt
    have h2 := hle s
    rw [Nat.mod_eq_of_lt (show (f a).toNat < 2 ^ 32 by omega), Nat.mod_eq_of_lt (by omega)]

/-- A count that is not positive counts no bit. -/
theorem bits_zero {n : ℕ} (f : Fin n → BitVec 1) (hn : n < 2 ^ 31)
    (h : ¬ IntOp.cmpi .sgt (Finset.fold IntOp.addi (0#32) (fun i => BitVec.setWidth 32 (f i)) Finset.univ) 0#32 = 1#1) (i : Fin n) : f i = 0#1 := by
  have hs := toNat_fold Finset.univ f (by rw [Finset.card_univ, Fintype.card_fin]; omega)
  generalize Finset.fold IntOp.addi (0#32) (fun i => BitVec.setWidth 32 (f i)) Finset.univ = w at h hs
  have hle : ∑ i, (f i).toNat ≤ n := by
    calc ∑ i, (f i).toNat ≤ ∑ _i : Fin n, 1 := Finset.sum_le_sum fun i _ => by have := (f i).isLt; omega
      _ = n := by rw [Finset.sum_const, Finset.card_univ, Fintype.card_fin, smul_eq_mul, Nat.mul_one]
  have hw : w.toNat = 0 := by
    by_contra hne
    refine h ?_
    have hlt : (0#32).slt w = true := by
      rw [BitVec.slt_eq_decide, decide_eq_true_iff, BitVec.toInt_eq_toNat_cond, BitVec.toInt_eq_toNat_cond]
      rw [if_pos (by decide), if_pos (by omega)]
      have : (0#32 : BitVec 32).toNat = 0 := rfl
      omega
    show BitVec.ofBool ((0#32).slt w) = 1#1
    rw [hlt]; rfl
  have hi : (f i).toNat = 0 := by
    have := Finset.single_le_sum (f := fun i => (f i).toNat) (fun _ _ => Nat.zero_le _) (Finset.mem_univ i)
    omega
  exact BitVec.eq_of_toNat_eq hi

end Cert.Layer

end
-- ==== Proof.KernelIdeal.Host.lean ====
/-
What the host computes before the launch, at an index, over the launch contents of the arguments.
-/
module

public import proofs.«01_k».proof.Proof.KernelIdeal.Idle
public import proofs.«01_k».proof.Proof.Layer
public import Idealize.ShloMosaic.Lib.StableHlo.ReadAt
public import Idealize.ShloMosaic.Lib.Pointwise

@[expose] public section

set_option maxRecDepth 16384

noncomputable section

namespace Cert.KernelIdeal.Host

open Cert.KernelIdeal Cert.KernelIdeal.Gen Cert.KernelIdeal.Body
open Idealize.ShloMosaic Idealize.ShloMosaic.TcCoe Idealize.ShloMosaic.Tactic

variable (m : (ℓ : Loc nD τ sig) → Buf (Elt Ideal) ℓ)

/-- The layer's arguments on a device. -/
def args (c : Dev nD) : Layer.Args where
  x r d := m ((c : Thread nD τ).loc main_arg0) (ix3 ⟨r.val / 2048, by omega⟩ ⟨r.val % 2048, by omega⟩ d)
  ids r k := m ((c : Thread nD τ).loc main_arg1) (ix3 ⟨r.val / 2048, by omega⟩ ⟨r.val % 2048, by omega⟩ k)
  wts r k := m ((c : Thread nD τ).loc main_arg2) (ix3 ⟨r.val / 2048, by omega⟩ ⟨r.val % 2048, by omega⟩ k)
  w1 e d f := m ((c : Thread nD τ).loc main_arg3) (ix3 e d f)
  s1 e a b := m ((c : Thread nD τ).loc main_arg4) (ix3 e a b)
  w2 e f d := m ((c : Thread nD τ).loc main_arg5) (ix3 e f d)
  s2 e a b := m ((c : Thread nD τ).loc main_arg6) (ix3 e a b)

theorem x_at (c : Dev nD) (r : Fin 16384) (d : Fin 3072) : V m c main_v15 (ix2 r d) = (args m c).x r d := by
  unfold V
  after_reads_at
  rfl

theorem s1_at (c : Dev nD) (e : Fin 4) (a : Fin 24) (b : Fin 22) (h : 528 * e.val + 22 * a.val + b.val < 2112) :
    V m c main_v13 (ix1 ⟨528 * e.val + 22 * a.val + b.val, h⟩) = (args m c).s1 e a b := by
  unfold V
  after_reads_at
  rfl

theorem s2_at (c : Dev nD) (e : Fin 4) (a : Fin 11) (b : Fin 24) (h : 264 * e.val + 24 * a.val + b.val < 1056) :
    V m c main_v14 (ix1 ⟨264 * e.val + 24 * a.val + b.val, h⟩) = (args m c).s2 e a b := by
  unfold V
  after_reads_at
  rfl

theorem gate_at (c : Dev nD) (r : Fin 16384) (e : Fin 4) : V m c main_v8 (ix2 r e) = (args m c).gate r e := by
  unfold V
  after_reads_at
  unfold Layer.Args.gate
  rw [← Ideal.ofBits_zero_f32]
  rfl

/-- An expert's count in a tile is the number of the tile's choices that are it. -/
theorem cnt_at (c : Dev nD) (i : Fin 128) : V m c main_v12 (ix1 i)
    = Finset.fold IntOp.addi (0#32) (fun x : Fin 1024 => BitVec.setWidth 32
        ((args m c).hot ⟨i.val / 4 * 512 + x.val / 2, by omega⟩ ⟨x.val % 2, by omega⟩ ⟨i.val % 4, by omega⟩)) Finset.univ := by
  unfold V
  after_reads_at
  rfl

theorem off1_eq (i : grid0.Coords) : k0_off1 i = ![4 * (i 0).val + (i 1).val] := by
  have key : ∀ (a : Fin 32) (b : Fin 4), (Scalar.indexCast (Scalar.addi (Scalar.muli (BitVec.ofNat 32 a.val) 4#32) (BitVec.ofNat 32 b.val)) : Index).toNat = 4 * a.val + b.val := by
    decide +kernel
  exact congrArg (fun n : Nat => ![n]) (key (i 0) (i 1))

/-- The word a point reads from the table of counts. -/
theorem count_eq (i : grid0.Coords) (hi : 4 * (i 0).val + (i 1).val < 128) :
    Body.count 0 (tbl m 0) i = V m 0 main_v12 (ix1 ⟨4 * (i 0).val + (i 1).val, hi⟩) := by
  unfold Body.count
  have ho := off1_eq i
  revert ho
  generalize k0_off1_inb i = p
  revert p
  generalize k0_off1 i = o
  intro p ho
  subst ho
  refine congrArg (V m 0 main_v12) (funext fun z => Fin.ext ?_)
  match z with
  | 0 => show (4 * (i 0).val + (i 1).val) + 1 * 0 = 4 * (i 0).val + (i 1).val; omega

/-- Where a point's expert has no token in the point's tile, every token of the tile has no weight for it. -/
theorem gate_idle (i : grid0.Coords) (h : ¬ live 0 (tbl m 0) i) (r : Fin 512) (R : Fin 16384) (e : Fin 4)
    (hR : R.val = 512 * (i 0).val + r.val) (he : e.val = (i 1).val) : (args m 0).gate R e = 0 := by
  have h0 : (i 0).val < 32 := (i 0).isLt
  have h1 : (i 1).val < 4 := (i 1).isLt
  have hi : 4 * (i 0).val + (i 1).val < 128 := by omega
  refine Layer.Args.gate_zero _ _ _ fun k => ?_
  have hp : ¬ IntOp.cmpi .sgt (V m 0 main_v12 (ix1 ⟨4 * (i 0).val + (i 1).val, hi⟩)) 0#32 = 1#1 := by
    intro hp
    refine h ?_
    unfold live
    rw [count_eq m i hi]
    generalize V m 0 main_v12 (ix1 ⟨4 * (i 0).val + (i 1).val, hi⟩) = n at hp
    change Scalar.cmpi .ne (Scalar.extui (IntOp.cmpi .sgt n 0#32) : BitVec 32) 0#32 = 1#1
    rw [hp]
    rfl
  rw [cnt_at] at hp
  have hb := Layer.bits_zero _ (by norm_num) hp ⟨2 * r.val + k.val, by omega⟩
  refine Eq.trans ?_ hb
  have e1 : R = ⟨(4 * (i 0).val + (i 1).val) / 4 * 512 + (2 * r.val + k.val) / 2, by omega⟩ := Fin.ext (by show R.val = (4 * (i 0).val + (i 1).val) / 4 * 512 + (2 * r.val + k.val) / 2; omega)
  have e2 : k = ⟨(2 * r.val + k.val) % 2, by omega⟩ := Fin.ext (by show k.val = (2 * r.val + k.val) % 2; omega)
  have e3 : e = ⟨(4 * (i 0).val + (i 1).val) % 4, by omega⟩ := Fin.ext (by show e.val = (4 * (i 0).val + (i 1).val) % 4; omega)
  exact congr (congr (congrArg (args m 0).hot e1) e2) e3

end Cert.KernelIdeal.Host

end
-- ==== Proof.KernelIdeal.Acc.lean ====
/-
The accumulator at an index: the experts' outputs times their weights, in order.
-/
module

public import proofs.«01_k».proof.Proof.KernelIdeal.Place
public import proofs.«01_k».proof.Proof.KernelIdeal.Host

@[expose] public section

set_option maxRecDepth 16384

noncomputable section

namespace Cert.KernelIdeal.Out

open Cert.KernelIdeal Cert.KernelIdeal.Gen Cert.KernelIdeal.Body Cert.KernelIdeal.Named
open Cert.Index Idealize.ShloMosaic Idealize.ShloMosaic.TcCoe Idealize.ShloMosaic.Tactic

variable (m : (ℓ : Loc nD τ sig) → Buf (Elt Ideal) ℓ)

/-- A tile's row of the activations is the layer's row. -/
theorem row_eq (hO : Ok m) (t : Fin (cfgM m hO).N) (r : Fin 512) (R : Fin 16384) (hR : R.val = 512 * (t.val / 4) + r.val) :
    rowOf (iblk m hO 0 2 (head m hO t)) r = (Host.args m 0).x R := by
  funext d
  exact (row2_at m hO (head m hO t) r d R (by rw [hR]; show _ = 512 * (4 * (t.val / 4) / 4) + r.val; omega)).trans (Host.x_at m 0 R d)

theorem wide_eq (hO : Ok m) (t : Fin (cfgM m hO).N) (r : Fin 512) (R : Fin 16384) (hR : R.val = 512 * (t.val / 4) + r.val) :
    rowOf (wideAt m hO 0 t) r = Ffn.wideRow ((Host.args m 0).x R) := by
  rw [← row_eq m hO t r R hR]
  rfl

theorem w1_eq (hO : Ok m) (t : Fin (cfgM m hO).N) (e : Fin 4) (he : e.val = t.val % 4) : w1Of (iblk m hO 0 4 t) = (Host.args m 0).w1 e := by
  funext d c
  exact (wts4_at m hO t d c e he).trans (congrFun (V_main_arg3 m 0) _)

theorem w2_eq (hO : Ok m) (t : Fin (cfgM m hO).N) (e : Fin 4) (he : e.val = t.val % 4) : w2Of (iblk m hO 0 5 t) = (Host.args m 0).w2 e := by
  funext d c
  exact (wts5_at m hO t d c e he).trans (congrFun (V_main_arg5 m 0) _)

theorem s1_eq (hO : Ok m) (t : Fin (cfgM m hO).N) (e : Fin 4) : s1Of (iblk m hO 0 0 t) e = (Host.args m 0).s1 e := by
  funext a b
  exact (tab0_at m hO t _).trans (Host.s1_at m 0 e a b _)

theorem s2_eq (hO : Ok m) (t : Fin (cfgM m hO).N) (e : Fin 4) : s2Of (iblk m hO 0 1 t) e = (Host.args m 0).s2 e := by
  funext a b
  exact (tab1_at m hO t _).trans (Host.s2_at m 0 e a b _)

/-- One point adds its expert's output times its weight, whether or not the expert has a token in the tile. -/
theorem next_at (hO : Ok m) (t : Fin (cfgM m hO).N) (a : Vec Ideal S512x3072 .f32) (r : Fin 512) (c : Fin 3072) (R : Fin 16384) (e : Fin 4)
    (hR : R.val = 512 * (t.val / 4) + r.val) (he : e.val = t.val % 4) :
    accNext m hO 0 t a (ix2 r c) = (a (ix2 r c) + (Host.args m 0).out R e c * (Host.args m 0).gate R e : EReal) := by
  have hx : expertOf (grid0.coords t) = e := Fin.ext ((coord1 t).trans he.symm)
  have hg : iblk m hO 0 3 t (ix2 r e) = (Host.args m 0).gate R e := (row3_at m hO t r e R hR).trans (Host.gate_at m 0 R e)
  unfold accNext stepAcc
  by_cases hl : live 0 (tbl m 0) (grid0.coords t)
  · rw [if_pos hl, hx]
    refine (congrArg (fun g : EReal => (a (ix2 r c) + Ffn.down (Ffn.wideRow (Ffn.hid (rowOf (wideAt m hO 0 t) r) (w1Of (iblk m hO 0 4 t)) (s1Of (iblk m hO 0 0 t) e))) (w2Of (iblk m hO 0 5 t)) (s2Of (iblk m hO 0 1 t) e) c * g : EReal)) hg).trans ?_
    rw [wide_eq m hO t r R hR, w1_eq m hO t e he, w2_eq m hO t e he, s1_eq, s2_eq]
    rfl
  · rw [if_neg hl, Host.gate_idle m (grid0.coords t) hl r R e (by rw [coord0]; exact hR) (by rw [coord1]; exact he)]
    show a (ix2 r c) = (a (ix2 r c) + _ : EReal)
    rw [mul_zero, add_zero]

/-- After a tile's last point the accumulator holds the layer's output on the tile's rows. -/
theorem acc_at (hO : Ok m) (t : Fin (cfgM m hO).N) (ht : t.val % 4 = 3) (r : Fin 512) (c : Fin 3072) (R : Fin 16384)
    (hR : R.val = 512 * (t.val / 4) + r.val) : accAt m hO 0 t.val t.isLt (ix2 r c) = (Host.args m 0).y R c := by
  have hN : t.val < 128 := t.isLt
  have l1 : t.val - 1 < (cfgM m hO).N := by show _ < 128; omega
  have l2 : t.val - 1 - 1 < (cfgM m hO).N := by show _ < 128; omega
  have l3 : t.val - 1 - 1 - 1 < (cfgM m hO).N := by show _ < 128; omega
  have e3 := accAt_next m hO 0 t (by omega) l1
  have e2 : accAt m hO 0 (t.val - 1) l1 = accNext m hO 0 ⟨t.val - 1, l1⟩ (accAt m hO 0 (t.val - 1 - 1) l2) :=
    accAt_next m hO 0 ⟨t.val - 1, l1⟩ (by show ¬ (t.val - 1) % 4 = 0; omega) l2
  have e1 : accAt m hO 0 (t.val - 1 - 1) l2 = accNext m hO 0 ⟨t.val - 1 - 1, l2⟩ (accAt m hO 0 (t.val - 1 - 1 - 1) l3) :=
    accAt_next m hO 0 ⟨t.val - 1 - 1, l2⟩ (by show ¬ (t.val - 1 - 1) % 4 = 0; omega) l3
  have e0 : accAt m hO 0 (t.val - 1 - 1 - 1) l3 = accNext m hO 0 ⟨t.val - 1 - 1 - 1, l3⟩ (fun _ => (0 : EReal)) :=
    accAt_first m hO 0 ⟨t.val - 1 - 1 - 1, l3⟩ (by show (t.val - 1 - 1 - 1) % 4 = 0; omega)
  rw [e3, next_at m hO t _ r c R 3 hR (by show 3 = _; omega),
    e2, next_at m hO ⟨t.val - 1, l1⟩ _ r c R 2 (by rw [hR]; show _ = 512 * ((t.val - 1) / 4) + r.val; omega) (by show 2 = (t.val - 1) % 4; omega),
    e1, next_at m hO ⟨t.val - 1 - 1, l2⟩ _ r c R 1 (by rw [hR]; show _ = 512 * ((t.val - 1 - 1) / 4) + r.val; omega) (by show 1 = (t.val - 1 - 1) % 4; omega),
    e0, next_at m hO ⟨t.val - 1 - 1 - 1, l3⟩ _ r c R 0 (by rw [hR]; show _ = 512 * ((t.val - 1 - 1 - 1) / 4) + r.val; omega) (by show 0 = (t.val - 1 - 1 - 1) % 4; omega)]
  rfl

end Cert.KernelIdeal.Out

end
-- ==== Proof.KernelIdeal.Out.lean ====
/-
The kernel's results: the layer's output, its codes and its scales.
-/
module

public import proofs.«01_k».proof.Proof.KernelIdeal.Acc

@[expose] public section

set_option maxRecDepth 16384

noncomputable section

namespace Cert.KernelIdeal.Out

open Cert.KernelIdeal Cert.KernelIdeal.Gen Cert.KernelIdeal.Body Cert.KernelIdeal.Named
open Cert.Index Idealize.ShloMosaic Idealize.ShloMosaic.TcCoe Idealize.ShloMosaic.Tactic

variable (m : (ℓ : Loc nD τ sig) → Buf (Elt Ideal) ℓ)

/-- The row of the layer that a tile's row is. -/
theorem row_exists (hO : Ok m) (t : Fin (cfgM m hO).N) (r : Fin 512) : ∃ R : Fin 16384, R.val = 512 * (t.val / 4) + r.val := by
  have hN : t.val < 128 := t.isLt
  exact ⟨⟨512 * (t.val / 4) + r.val, by omega⟩, rfl⟩

/-- The output after the run. -/
theorem y_final (hO : Ok m) : (dats m hO 0 0).arrAt 6 (cfgM m hO).N = (fun z : S16384x3072.Idx => (Host.args m 0).y (z 0) (z 1) : Vec Ideal S16384x3072 .bf16) := by
  refine (dats m hO 0 0).arrAt_eq_of_covers 6 _ (covers6 m hO) fun t hf y => ?_
  blk_simp
  rw [after0_6]
  obtain ⟨r, d, rfl⟩ : ∃ (r : Fin 512) (d : Fin 3072), y = ix2 r d := ⟨_, _, eq_ix2 y⟩
  obtain ⟨R, hR⟩ := row_exists m hO t r
  refine Eq.trans ?_ (congrArg (fun z : S16384x3072.Idx => (Host.args m 0).y (z 0) (z 1)) (place6 m hO t r d R hR)).symm
  have ht : t.val % 4 = 3 := of_decide_eq_true ((flush6 m hO t).symm.trans hf)
  exact acc_at m hO t ht r d R hR

/-- The codes after the run. -/
theorem codes_final (hO : Ok m) : (dats m hO 0 0).arrAt 7 (cfgM m hO).N = (fun z : S16384x3072.Idx => (Host.args m 0).codes (z 0) (z 1) : Vec Ideal S16384x3072 .fp8e4m3) := by
  refine (dats m hO 0 0).arrAt_eq_of_covers 7 _ (covers7 m hO) fun t hf y => ?_
  blk_simp
  rw [after0_7]
  obtain ⟨r, d, rfl⟩ : ∃ (r : Fin 512) (d : Fin 3072), y = ix2 r d := ⟨_, _, eq_ix2 y⟩
  obtain ⟨R, hR⟩ := row_exists m hO t r
  refine Eq.trans ?_ (congrArg (fun z : S16384x3072.Idx => (Host.args m 0).codes (z 0) (z 1)) (place7 m hO t r d R hR)).symm
  show Ffn.codeRow (rowOf (iblk m hO 0 2 (head m hO t)) r) d = Ffn.codeRow ((Host.args m 0).x R) d
  rw [row_eq m hO t r R hR]

/-- The scales after the run. -/
theorem scales_final (hO : Ok m) : (dats m hO 0 0).arrAt 8 (cfgM m hO).N = (fun z : S16384x24.Idx => (Host.args m 0).scales (z 0) (z 1) : Vec Ideal S16384x24 .f32) := by
  refine (dats m hO 0 0).arrAt_eq_of_covers 8 _ (covers8 m hO) fun t hf y => ?_
  blk_simp
  rw [after0_8]
  obtain ⟨r, d, rfl⟩ : ∃ (r : Fin 512) (d : Fin 24), y = ix2 r d := ⟨_, _, eq_ix2 y⟩
  obtain ⟨R, hR⟩ := row_exists m hO t r
  refine Eq.trans ?_ (congrArg (fun z : S16384x24.Idx => (Host.args m 0).scales (z 0) (z 1)) (place8 m hO t r d R hR)).symm
  show Ffn.scaleRow (rowOf (iblk m hO 0 2 (head m hO t)) r) d = Ffn.scaleRow ((Host.args m 0).x R) d
  rw [row_eq m hO t r R hR]

/-- The run's results are the layer's, its arguments unchanged. -/
theorem run (ρ : Dev nD → PrngReg) (hO : Ok m) : θ_run defs (onTc (τ := τ) (main (F := Ideal))) ⟨m, fun _ => 0, ρ⟩ (fun r => ∀ c : Dev nD,
    r.2.mem ((c.tc : Thread nD τ).loc main_v16_0) = (fun z : S16384x3072.Idx => (Host.args m c).y (z 0) (z 1) : Vec Ideal S16384x3072 .bf16)
      ∧ r.2.mem ((c.tc : Thread nD τ).loc main_v16_1) = (fun z : S16384x3072.Idx => (Host.args m c).codes (z 0) (z 1) : Vec Ideal S16384x3072 .fp8e4m3)
      ∧ r.2.mem ((c.tc : Thread nD τ).loc main_v16_2) = (fun z : S16384x24.Idx => (Host.args m c).scales (z 0) (z 1) : Vec Ideal S16384x24 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    have hc : c = 0 := Subsingleton.elim c 0
    subst hc
    exact ⟨(Pipeline.FramePost.out_eq h 0 6).trans (y_final m hO),
      (Pipeline.FramePost.out_eq h 0 7).trans (codes_final m hO),
      (Pipeline.FramePost.out_eq h 0 8).trans (scales_final m hO),
      ((h 0).2 main_arg0 (by decide : main_arg0 ∈ Pipeline.restRefs sig spec0)).trans (V_main_arg0 m 0),
      ((h 0).2 main_arg1 (by decide : main_arg1 ∈ Pipeline.restRefs sig spec0)).trans (V_main_arg1 m 0),
      ((h 0).2 main_arg2 (by decide : main_arg2 ∈ Pipeline.restRefs sig spec0)).trans (V_main_arg2 m 0),
      (Pipeline.FramePost.in_eq h 0 4 rfl).trans ((A_eq m hO 0 4).trans (V_main_arg3 m 0)),
      ((h 0).2 main_arg4 (by decide : main_arg4 ∈ Pipeline.restRefs sig spec0)).trans (V_main_arg4 m 0),
      (Pipeline.FramePost.in_eq h 0 5 rfl).trans ((A_eq m hO 0 5).trans (V_main_arg5 m 0)),
      ((h 0).2 main_arg6 (by decide : main_arg6 ∈ Pipeline.restRefs sig spec0)).trans (V_main_arg6 m 0)⟩) (run_main m ρ hO)

end Cert.KernelIdeal.Out

end
-- ==== Proof.ReferenceIdeal.Quant.lean ====
/-
The reference's search for each group's exponent, at an index.
-/
module

public import proofs.«01_k».proof.Proof.Gen.ReferenceIdeal.Value
public import proofs.«01_k».proof.Proof.Ffn
public import Idealize.ShloMosaic.Lib.Pointwise

@[expose] public section

set_option maxRecDepth 16384

noncomputable section

namespace Cert.ReferenceIdeal.Out

open Cert.ReferenceIdeal Cert.ReferenceIdeal.Gen
open Idealize.ShloMosaic Idealize.ShloMosaic.TcCoe

variable {F : FTy → Type} [FloatOps F]

/-- The exponents, as words. -/
def qexps : IVec S1x1x256 32 := subi (iota .tc S1x1x256 32 [2] iota_S1x1x256_d2_w32) (broadcast S1x1x256 127#32)

/-- The largest magnitude of each group of the activations. -/
def qmax (v : FVec F S16384x24x128 .f32) : FVec F S16384x24 .f32 :=
  multiReduction .maximumf [2] S16384x24 (absf v) 0xFF800000#32 reduces_S16384x24x128_S16384x24 (.inl rfl) rfl

/-- The number each group's scale is chosen from. -/
def qthr (v : FVec F S16384x24x128 .f32) : FVec F S16384x24x1 .f32 :=
  mulf (shapeCast S16384x24x1 (qmax v) shapeCasts_S16384x24_S16384x24x1) (broadcast S16384x24x1 (Scalar.ofBits .f32 0x3B124925#32))

/-- The largest exponent of each group whose power of two does not exceed that number. -/
def qtop (t : FVec F S16384x24x1 .f32) : IVec S16384x24x1 32 :=
  shapeCast S16384x24x1 (multiReductionI .maxsi [2] S16384x24 (select (cmpf .ole (broadcastTo S16384x24x256 (bitcastToFloat .f32 (shli (addi qexps (broadcast S1x1x256 127#32)) (broadcast S1x1x256 23#32))) broadcasts_S1x1x256_S16384x24x256) (broadcastTo S16384x24x256 t broadcasts_S16384x24x1_S16384x24x256)) (broadcastTo S16384x24x256 (shapeCast S1x1x256 qexps shapeCasts_S1x1x256_S1x1x256) broadcasts_S1x1x256_S16384x24x256) (broadcast S16384x24x256 4294967169#32)) 2147483648#32 reduces_S16384x24x256_S16384x24 rfl) shapeCasts_S16384x24_S16384x24x1

/-- The exponent of each group's scale. -/
def qexp (t : FVec F S16384x24x1 .f32) : IVec S16384x24x1 32 :=
  select (cmpi .eq (qtop t) (broadcast S16384x24x1 4294967169#32)) (broadcast S16384x24x1 0#32) (addi (qtop t) (broadcast S16384x24x1 1#32))

theorem qmax_at (x : FVec Ideal S16384x24x128 .f32) (r : Fin 16384) (k : Fin 24) :
    qmax x (ix2 r k) = Quant.amax (fun j => x (ix3 r k j)) := by
  refine (Ideal.multiReduction_maximumf_single (absf x) 0xFF800000#32 reduces_S16384x24x128_S16384x24 (.inl rfl) rfl (ix2 r k)).trans ?_
  unfold Quant.amax
  refine congrArg (fun f => Finset.fold max (Ideal.ofBits .f32 4286578688#32) f (Finset.univ : Finset (Fin 128))) (funext fun j => ?_)
  refine congrArg (fun i => FloatOps.absf (F := Ideal) (φ := .f32) (x i)) (funext fun a => ?_)
  match a with
  | 0 => rfl
  | 1 => rfl
  | 2 => rfl

theorem mul_at (v : FVec Ideal S16384x24 .f32) (r : Fin 16384) (k : Fin 24) :
    mulf (shapeCast S16384x24x1 v shapeCasts_S16384x24_S16384x24x1) (broadcast S16384x24x1 (Scalar.ofBits .f32 0x3B124925#32)) (ix3 r k 0) = (v (ix2 r k) * Ideal.ofBits .f32 991054117#32 : EReal) := by
  pointwise

theorem qthr_at (x : FVec Ideal S16384x24x128 .f32) (r : Fin 16384) (k : Fin 24) :
    qthr x (ix3 r k 0) = Quant.thr (fun j => x (ix3 r k j)) := by
  have h := mul_at (qmax x) r k
  rw [qmax_at] at h
  exact h

theorem qtop_at (t : FVec Ideal S16384x24x1 .f32) (r : Fin 16384) (k : Fin 24) : qtop t (ix3 r k 0) = Quant.top (t (ix3 r k 0)) := by
  pointwise [qtop, qexps]
  rfl

theorem qexp_at (t : FVec Ideal S16384x24x1 .f32) (r : Fin 16384) (k : Fin 24) : qexp t (ix3 r k 0) = Quant.topN (t (ix3 r k 0)) := by
  unfold Quant.topN
  rw [← qtop_at]
  rfl

/-- The largest magnitude of each group of the hidden layer. -/
def qmaxh (v : FVec F S16384x11x128 .f32) : FVec F S16384x11 .f32 :=
  multiReduction .maximumf [2] S16384x11 (absf v) 0xFF800000#32 reduces_S16384x11x128_S16384x11 (.inl rfl) rfl

/-- The number each group's scale is chosen from. -/
def qthrh (v : FVec F S16384x11x128 .f32) : FVec F S16384x11x1 .f32 :=
  mulf (shapeCast S16384x11x1 (qmaxh v) shapeCasts_S16384x11_S16384x11x1) (broadcast S16384x11x1 (Scalar.ofBits .f32 0x3B124925#32))

/-- The largest exponent of each group whose power of two does not exceed that number. -/
def qtoph (t : FVec F S16384x11x1 .f32) : IVec S16384x11x1 32 :=
  shapeCast S16384x11x1 (multiReductionI .maxsi [2] S16384x11 (select (cmpf .ole (broadcastTo S16384x11x256 (bitcastToFloat .f32 (shli (addi qexps (broadcast S1x1x256 127#32)) (broadcast S1x1x256 23#32))) broadcasts_S1x1x256_S16384x11x256) (broadcastTo S16384x11x256 t broadcasts_S16384x11x1_S16384x11x256)) (broadcastTo S16384x11x256 (shapeCast S1x1x256 qexps shapeCasts_S1x1x256_S1x1x256) broadcasts_S1x1x256_S16384x11x256) (broadcast S16384x11x256 4294967169#32)) 2147483648#32 reduces_S16384x11x256_S16384x11 rfl) shapeCasts_S16384x11_S16384x11x1

/-- The exponent of each group's scale. -/
def qexph (t : FVec F S16384x11x1 .f32) : IVec S16384x11x1 32 :=
  select (cmpi .eq (qtoph t) (broadcast S16384x11x1 4294967169#32)) (broadcast S16384x11x1 0#32) (addi (qtoph t) (broadcast S16384x11x1 1#32))

theorem qmaxh_at (x : FVec Ideal S16384x11x128 .f32) (r : Fin 16384) (k : Fin 11) :
    qmaxh x (ix2 r k) = Quant.amax (fun j => x (ix3 r k j)) := by
  refine (Ideal.multiReduction_maximumf_single (absf x) 0xFF800000#32 reduces_S16384x11x128_S16384x11 (.inl rfl) rfl (ix2 r k)).trans ?_
  unfold Quant.amax
  refine congrArg (fun f => Finset.fold max (Ideal.ofBits .f32 4286578688#32) f (Finset.univ : Finset (Fin 128))) (funext fun j => ?_)
  refine congrArg (fun i => FloatOps.absf (F := Ideal) (φ := .f32) (x i)) (funext fun a => ?_)
  match a with
  | 0 => rfl
  | 1 => rfl
  | 2 => rfl

theorem mulh_at (v : FVec Ideal S16384x11 .f32) (r : Fin 16384) (k : Fin 11) :
    mulf (shapeCast S16384x11x1 v shapeCasts_S16384x11_S16384x11x1) (broadcast S16384x11x1 (Scalar.ofBits .f32 0x3B124925#32)) (ix3 r k 0) = (v (ix2 r k) * Ideal.ofBits .f32 991054117#32 : EReal) := by
  pointwise

theorem qthrh_at (x : FVec Ideal S16384x11x128 .f32) (r : Fin 16384) (k : Fin 11) :
    qthrh x (ix3 r k 0) = Quant.thr (fun j => x (ix3 r k j)) := by
  have h := mulh_at (qmaxh x) r k
  rw [qmaxh_at] at h
  exact h

theorem qtoph_at (t : FVec Ideal S16384x11x1 .f32) (r : Fin 16384) (k : Fin 11) : qtoph t (ix3 r k 0) = Quant.top (t (ix3 r k 0)) := by
  pointwise [qtoph, qexps]
  rfl

theorem qexph_at (t : FVec Ideal S16384x11x1 .f32) (r : Fin 16384) (k : Fin 11) : qexph t (ix3 r k 0) = Quant.topN (t (ix3 r k 0)) := by
  unfold Quant.topN
  rw [← qtoph_at]
  rfl

end Cert.ReferenceIdeal.Out

end
-- ==== Proof.ReferenceIdeal.Acts.lean ====
/-
The reference's quantised activations, at an index.
-/
module

public import proofs.«01_k».proof.Proof.Gen.ReferenceIdeal.Value
public import proofs.«01_k».proof.Proof.Ffn
public import proofs.«01_k».proof.Proof.ReferenceIdeal.Quant
public import Idealize.ShloMosaic.Lib.Pointwise

@[expose] public section

set_option maxRecDepth 16384

noncomputable section

namespace Cert.ReferenceIdeal.Out

open Cert.ReferenceIdeal Cert.ReferenceIdeal.Gen
open Idealize.ShloMosaic Idealize.ShloMosaic.TcCoe

variable {F : FTy → Type} [FloatOps F]

/-- A row of the activations. -/
def row (v : Vec Ideal S16384x3072 .bf16) (r : Fin 16384) : Fin 3072 → EReal := fun d => v (ix2 r d)

theorem col (d : Fin 3072) (h : d.val / 128 * 128 + d.val % 128 < 3072) : (⟨d.val / 128 * 128 + d.val % 128, h⟩ : Fin 3072) = d :=
  Fin.ext (by show d.val / 128 * 128 + d.val % 128 = d.val; omega)

theorem pay3_eq (v : Vec F S16384x3072 .bf16) : k0_pay3 v = qexp (qthr (k0_pay2 v)) := rfl

theorem pay2_at (v : Vec Ideal S16384x3072 .bf16) (r : Fin 16384) (k : Fin 24) (j : Fin 128) :
    k0_pay2 v (ix3 r k j) = v (ix2 r ⟨k.val * 128 + j.val, by omega⟩) := by
  pointwise [k0_pay2]

theorem thr_at (v : Vec Ideal S16384x3072 .bf16) (r : Fin 16384) (k : Fin 24) :
    qthr (k0_pay2 v) (ix3 r k 0) = Ffn.thr (row v r) k.val := by
  rw [qthr_at]
  unfold Ffn.thr
  rw [Ffn.slice_of_lt (row v r) k.val (by omega) (fun j => k0_pay2 v (ix3 r k j)) fun j => (pay2_at v r k j).trans (congrArg (row v r) (Fin.ext (by show k.val * 128 + j.val = 128 * k.val + j.val; omega)))]

/-- The activations scaled, clipped from below. -/
theorem pay4_at (v : Vec Ideal S16384x3072 .bf16) (r : Fin 16384) (k : Fin 24) (j : Fin 128) :
    k0_pay4 v (ix3 r k j) = max (Ideal.ofBits .f32 3286237184#32) (v (ix2 r ⟨k.val * 128 + j.val, by omega⟩) * Quant.inv (Ffn.thr (row v r) k.val)) := by
  rw [← Quant.inv_top, ← thr_at, ← qexp_at, ← pay3_eq, ← pay2_at v r k j]
  unfold k0_pay4
  generalize k0_pay3 v = n
  generalize k0_pay2 v = x
  pointwise
  rfl

theorem codes_at (v : Vec Ideal S16384x3072 .bf16) (r : Fin 16384) (d : Fin 3072) :
    k0_pay7 (F := Ideal) (Scalar.ofBits .f32 0x43E00000#32) (k0_pay4 v) (ix2 r d) = Ffn.codeRow (row v r) d := by
  have h := pay4_at v r ⟨d.val / 128, by omega⟩ ⟨d.val % 128, by omega⟩
  generalize k0_pay4 v = x at h
  pointwise [k0_pay7, k0_pay5]
  rw [h, col]
  rfl

theorem scale_at (v : Vec Ideal S16384x3072 .bf16) (r : Fin 16384) (k : Fin 24) :
    k0_pay8 (F := Ideal) (k0_pay3 v) (ix2 r k) = Ffn.scaleRow (row v r) k := by
  unfold Ffn.scaleRow
  rw [← Quant.scale_top, ← thr_at, ← qexp_at, ← pay3_eq]
  generalize k0_pay3 v = n
  pointwise [k0_pay8, k0_pay6]
  rfl

theorem wide_at (v : Vec Ideal S16384x3072 .bf16) (r : Fin 16384) (d : Fin 3072) :
    k0_pay9 (F := Ideal) (k0_pay3 v) (Scalar.ofBits .f32 0x43E00000#32) (k0_pay4 v) (ix2 r d) = Ffn.wideRow (row v r) d := by
  have h := pay4_at v r ⟨d.val / 128, by omega⟩ ⟨d.val % 128, by omega⟩
  have hs : Quant.rd (IntOp.addi (k0_pay3 v (ix3 r ⟨d.val / 128, by omega⟩ 0)) 127#32) = Quant.scale (Ffn.thr (row v r) (d.val / 128)) := by
    rw [pay3_eq, qexp_at, thr_at, Quant.scale_top]
  generalize k0_pay4 v = x at h
  generalize k0_pay3 v = n at hs
  unfold Ffn.wideRow Quant.wide Quant.code
  rw [← hs]
  pointwise [k0_pay9, k0_pay6, k0_pay5]
  rw [h, col]
  rfl

end Cert.ReferenceIdeal.Out

end
-- ==== Proof.ReferenceIdeal.Expert.lean ====
/-
One expert of the reference, at an index.
-/
module

public import proofs.«01_k».proof.Proof.Gen.ReferenceIdeal.Value
public import proofs.«01_k».proof.Proof.Ffn
public import proofs.«01_k».proof.Proof.ReferenceIdeal.Acts
public import Idealize.ShloMosaic.Lib.Pointwise

@[expose] public section

set_option maxRecDepth 16384

noncomputable section

namespace Cert.ReferenceIdeal.Out

open Cert.ReferenceIdeal Cert.ReferenceIdeal.Gen
open Idealize.ShloMosaic Idealize.ShloMosaic.TcCoe

variable {F : FTy → Type} [FloatOps F]

/-- The hidden layer widened back, from its values and its groups' exponents. -/
def qwideh (v : FVec F S16384x11x128 .f32) (n : IVec S16384x11x1 32) : FVec F S16384x11x128 .bf16 :=
  mulf (extf .bf16 (truncf .fp8e4m3 (minimumf (broadcast S16384x11x128 (Scalar.ofBits .f32 0x43E00000#32)) (maximumf (broadcast S16384x11x128 (Scalar.ofBits .f32 0xC3E00000#32)) (mulf v (broadcastTo S16384x11x128 (bitcastToFloat .f32 (shli (addi (subi (broadcast S16384x11x1 0#32) n) (broadcast S16384x11x1 127#32)) (broadcast S16384x11x1 23#32))) broadcasts_S16384x11x1_S16384x11x128)))) bitsLt_fp8e4m3_f32) bitsLt_fp8e4m3_bf16)
    (broadcastTo S16384x11x128 (truncf .bf16 (bitcastToFloat .f32 (shli (addi n (broadcast S16384x11x1 127#32)) (broadcast S16384x11x1 23#32)) : FVec F S16384x11x1 .f32) bitsLt_bf16_f32) broadcasts_S16384x11x1_S16384x11x128)

theorem pay17_eq (v : FVec F S16384x11x128 .f32) (t : FVec F S16384x11x1 .f32) :
    k0_pay17 v t (iota .tc S1x1x256 32 [2] iota_S1x1x256_d2_w32) = qwideh v (qexph t) := rfl

theorem pay16_eq (xw : FVec F S16384x3072 .bf16) (w : Vec F S1x3072x2816 .fp8e4m3) (s : Vec F S1x24x22 .f32) :
    k0_pay16 xw w s = qthrh (k0_pay15 xw w s) := rfl

theorem qwideh_at (v : FVec Ideal S16384x11x128 .f32) (n : IVec S16384x11x1 32) (t : EReal) (r : Fin 16384) (k : Fin 11) (j : Fin 128)
    (hn : n (ix3 r k 0) = Quant.topN t) : qwideh v n (ix3 r k j) = Quant.wide (v (ix3 r k j)) t := by
  unfold Quant.wide Quant.code
  rw [← Quant.inv_top, ← Quant.scale_top, ← hn]
  pointwise [qwideh]
  rfl

theorem w1_congr (w : Vec Ideal S1x3072x2816 .fp8e4m3) {a a' : Fin 3072} {b b' : Fin 2816} (ha : a.val = a'.val) (hb : b.val = b'.val) :
    w (ix3 0 a b) = w (ix3 0 a' b') := by rw [Fin.ext ha, Fin.ext hb]
theorem s1_congr (w : Vec Ideal S1x24x22 .f32) {a a' : Fin 24} {b b' : Fin 22} (ha : a.val = a'.val) (hb : b.val = b'.val) :
    w (ix3 0 a b) = w (ix3 0 a' b') := by rw [Fin.ext ha, Fin.ext hb]
theorem w2_congr (w : Vec Ideal S1x1408x3072 .fp8e4m3) {a a' : Fin 1408} {b b' : Fin 3072} (ha : a.val = a'.val) (hb : b.val = b'.val) :
    w (ix3 0 a b) = w (ix3 0 a' b') := by rw [Fin.ext ha, Fin.ext hb]
theorem s2_congr (w : Vec Ideal S1x11x24 .f32) {a a' : Fin 11} {b b' : Fin 24} (ha : a.val = a'.val) (hb : b.val = b'.val) :
    w (ix3 0 a b) = w (ix3 0 a' b') := by rw [Fin.ext ha, Fin.ext hb]

/-- The gated unit. -/
theorem hid_at (xw : FVec Ideal S16384x3072 .bf16) (w : Vec Ideal S1x3072x2816 .fp8e4m3) (s : Vec Ideal S1x24x22 .f32)
    (r : Fin 16384) (k : Fin 11) (j : Fin 128) :
    k0_pay15 xw w s (ix3 r k j) = Ffn.hid (row xw r) (fun d c => w (ix3 0 d c)) (fun a b => s (ix3 0 a b)) ⟨k.val * 128 + j.val, by omega⟩ := by
  pointwise [k0_pay15]
  unfold Ffn.hid Ffn.up
  refine congrArg₂ (· * ·) (congrArg₂ (· * ·) ?_ (congrArg Ideal.logistic ?_)) ?_
  all_goals
    refine Finset.sum_congr rfl fun x _ => ?_
    refine congrArg₂ (· * ·) rfl (congrArg₂ (· * ·) (w1_congr w ?_ ?_) (s1_congr s ?_ ?_))
    all_goals (first | rfl | (dsimp only; omega))

/-- The number each of the hidden layer's groups takes its scale from. -/
theorem hthr_at (xw : FVec Ideal S16384x3072 .bf16) (w : Vec Ideal S1x3072x2816 .fp8e4m3) (s : Vec Ideal S1x24x22 .f32)
    (r : Fin 16384) (k : Fin 11) :
    qthrh (k0_pay15 xw w s) (ix3 r k 0) = Ffn.thr (Ffn.hid (row xw r) (fun d c => w (ix3 0 d c)) (fun a b => s (ix3 0 a b))) k.val := by
  rw [qthrh_at]
  unfold Ffn.thr
  rw [Ffn.slice_of_lt (Ffn.hid (row xw r) (fun d c => w (ix3 0 d c)) (fun a b => s (ix3 0 a b))) k.val (by omega) (fun j => k0_pay15 xw w s (ix3 r k j))
    fun j => (hid_at xw w s r k j).trans (congrArg _ (Fin.ext (by show k.val * 128 + j.val = 128 * k.val + j.val; omega)))]

/-- The hidden layer quantised and widened back. -/
def hw (xw : FVec F S16384x3072 .bf16) (w : Vec F S1x3072x2816 .fp8e4m3) (s : Vec F S1x24x22 .f32) : FVec F S16384x11x128 .bf16 :=
  k0_pay17 (k0_pay15 xw w s) (k0_pay16 xw w s) (iota .tc S1x1x256 32 [2] iota_S1x1x256_d2_w32)

theorem hw_at (xw : FVec Ideal S16384x3072 .bf16) (w : Vec Ideal S1x3072x2816 .fp8e4m3) (s : Vec Ideal S1x24x22 .f32)
    (r : Fin 16384) (k : Fin 11) (j : Fin 128) :
    hw xw w s (ix3 r k j) = Ffn.wideRow (Ffn.hid (row xw r) (fun d c => w (ix3 0 d c)) (fun a b => s (ix3 0 a b))) ⟨k.val * 128 + j.val, by omega⟩ := by
  unfold hw
  rw [pay17_eq, pay16_eq, qwideh_at _ _ _ r k j (qexph_at _ r k), hthr_at, hid_at]
  unfold Ffn.wideRow
  rw [show (k.val * 128 + j.val) / 128 = k.val by omega]

/-- The second matmul, added with its weight. -/
theorem add_at (y : FVec Ideal S16384x3072 .f32) (h : FVec Ideal S16384x11x128 .bf16) (w : Vec Ideal S1x1408x3072 .fp8e4m3) (s : Vec Ideal S1x11x24 .f32)
    (g : Vec Ideal S16384x1 .f32) (r : Fin 16384) (c : Fin 3072) :
    k0_pay18 y h w s g (ix2 r c) = y (ix2 r c) + Ffn.down (fun f => h (ix3 r ⟨f.val / 128, by omega⟩ ⟨f.val % 128, by omega⟩)) (fun f c => w (ix3 0 f c)) (fun a b => s (ix3 0 a b)) c * g (ix2 r 0) := by
  pointwise [k0_pay18]
  unfold Ffn.down
  refine congrArg₂ (· + ·) rfl (congrArg₂ (· * ·) (Finset.sum_congr rfl fun x _ => ?_) rfl)
  refine congrArg₂ (· * ·) rfl (congrArg₂ (· * ·) (w2_congr w ?_ ?_) (s2_congr s ?_ ?_))
  all_goals (first | rfl | (dsimp only; omega))

/-- One expert's step. -/
theorem expert_at (y : FVec Ideal S16384x3072 .f32) (xw : FVec Ideal S16384x3072 .bf16) (w1 : Vec Ideal S1x3072x2816 .fp8e4m3) (s1 : Vec Ideal S1x24x22 .f32)
    (w2 : Vec Ideal S1x1408x3072 .fp8e4m3) (s2 : Vec Ideal S1x11x24 .f32) (g : Vec Ideal S16384x1 .f32) (r : Fin 16384) (c : Fin 3072) :
    k0_pay18 y (hw xw w1 s1) w2 s2 g (ix2 r c)
      = y (ix2 r c) + Ffn.down (Ffn.wideRow (Ffn.hid (row xw r) (fun d c => w1 (ix3 0 d c)) (fun a b => s1 (ix3 0 a b)))) (fun f c => w2 (ix3 0 f c)) (fun a b => s2 (ix3 0 a b)) c * g (ix2 r 0) := by
  rw [add_at]
  refine congrArg (fun z : Fin 1408 → EReal => y (ix2 r c) + Ffn.down z (fun f c => w2 (ix3 0 f c)) (fun a b => s2 (ix3 0 a b)) c * g (ix2 r 0)) (funext fun f => ?_)
  rw [hw_at]
  exact congrArg _ (Fin.ext (by show f.val / 128 * 128 + f.val % 128 = f.val; omega))

end Cert.ReferenceIdeal.Out

end
-- ==== Proof.ReferenceIdeal.Sum.lean ====
/-
The reference's sum of the four experts, at an index.
-/
module

public import proofs.«01_k».proof.Proof.Gen.ReferenceIdeal.Value
public import proofs.«01_k».proof.Proof.Ffn
public import proofs.«01_k».proof.Proof.ReferenceIdeal.Expert
public import proofs.«01_k».proof.Proof.Layer
public import proofs.«01_k».proof.Proof.Index
public import Idealize.ShloMosaic.Lib.Pointwise

@[expose] public section

set_option maxRecDepth 16384

noncomputable section

namespace Cert.ReferenceIdeal.Out

open Cert.ReferenceIdeal Cert.ReferenceIdeal.Gen
open Cert.Index Idealize.ShloMosaic Idealize.ShloMosaic.TcCoe

variable {F : FTy → Type} [FloatOps F]

variable (m : (ℓ : Loc nD τ sig) → Buf (Elt Ideal) ℓ)

/-! Each expert's slices, read off the whole arrays. -/

theorem w1_0 (x : Vec Ideal S4x3072x2816 .fp8e4m3) (a : Fin 3072) (b : Fin 2816) : View.ld x r0_2 (ix3 0 a b) = x (ix3 0 a b) :=
  congrArg x (ext3 _ 0 a b rfl (by show 0 + 1 * a.val = a.val; omega) (by show 0 + 1 * b.val = b.val; omega))
theorem w1_1 (x : Vec Ideal S4x3072x2816 .fp8e4m3) (a : Fin 3072) (b : Fin 2816) : View.ld x r0_7 (ix3 0 a b) = x (ix3 1 a b) :=
  congrArg x (ext3 _ 1 a b rfl (by show 0 + 1 * a.val = a.val; omega) (by show 0 + 1 * b.val = b.val; omega))
theorem w1_2 (x : Vec Ideal S4x3072x2816 .fp8e4m3) (a : Fin 3072) (b : Fin 2816) : View.ld x r0_12 (ix3 0 a b) = x (ix3 2 a b) :=
  congrArg x (ext3 _ 2 a b rfl (by show 0 + 1 * a.val = a.val; omega) (by show 0 + 1 * b.val = b.val; omega))
theorem w1_3 (x : Vec Ideal S4x3072x2816 .fp8e4m3) (a : Fin 3072) (b : Fin 2816) : View.ld x r0_17 (ix3 0 a b) = x (ix3 3 a b) :=
  congrArg x (ext3 _ 3 a b rfl (by show 0 + 1 * a.val = a.val; omega) (by show 0 + 1 * b.val = b.val; omega))
theorem s1_0 (x : Vec Ideal S4x24x22 .f32) (a : Fin 24) (b : Fin 22) : View.ld x r0_3 (ix3 0 a b) = x (ix3 0 a b) :=
  congrArg x (ext3 _ 0 a b rfl (by show 0 + 1 * a.val = a.val; omega) (by show 0 + 1 * b.val = b.val; omega))
theorem s1_1 (x : Vec Ideal S4x24x22 .f32) (a : Fin 24) (b : Fin 22) : View.ld x r0_8 (ix3 0 a b) = x (ix3 1 a b) :=
  congrArg x (ext3 _ 1 a b rfl (by show 0 + 1 * a.val = a.val; omega) (by show 0 + 1 * b.val = b.val; omega))
theorem s1_2 (x : Vec Ideal S4x24x22 .f32) (a : Fin 24) (b : Fin 22) : View.ld x r0_13 (ix3 0 a b) = x (ix3 2 a b) :=
  congrArg x (ext3 _ 2 a b rfl (by show 0 + 1 * a.val = a.val; omega) (by show 0 + 1 * b.val = b.val; omega))
theorem s1_3 (x : Vec Ideal S4x24x22 .f32) (a : Fin 24) (b : Fin 22) : View.ld x r0_18 (ix3 0 a b) = x (ix3 3 a b) :=
  congrArg x (ext3 _ 3 a b rfl (by show 0 + 1 * a.val = a.val; omega) (by show 0 + 1 * b.val = b.val; omega))
theorem w2_0 (x : Vec Ideal S4x1408x3072 .fp8e4m3) (a : Fin 1408) (b : Fin 3072) : View.ld x r0_4 (ix3 0 a b) = x (ix3 0 a b) :=
  congrArg x (ext3 _ 0 a b rfl (by show 0 + 1 * a.val = a.val; omega) (by show 0 + 1 * b.val = b.val; omega))
theorem w2_1 (x : Vec Ideal S4x1408x3072 .fp8e4m3) (a : Fin 1408) (b : Fin 3072) : View.ld x r0_9 (ix3 0 a b) = x (ix3 1 a b) :=
  congrArg x (ext3 _ 1 a b rfl (by show 0 + 1 * a.val = a.val; omega) (by show 0 + 1 * b.val = b.val; omega))
theorem w2_2 (x : Vec Ideal S4x1408x3072 .fp8e4m3) (a : Fin 1408) (b : Fin 3072) : View.ld x r0_14 (ix3 0 a b) = x (ix3 2 a b) :=
  congrArg x (ext3 _ 2 a b rfl (by show 0 + 1 * a.val = a.val; omega) (by show 0 + 1 * b.val = b.val; omega))
theorem w2_3 (x : Vec Ideal S4x1408x3072 .fp8e4m3) (a : Fin 1408) (b : Fin 3072) : View.ld x r0_19 (ix3 0 a b) = x (ix3 3 a b) :=
  congrArg x (ext3 _ 3 a b rfl (by show 0 + 1 * a.val = a.val; omega) (by show 0 + 1 * b.val = b.val; omega))
theorem s2_0 (x : Vec Ideal S4x11x24 .f32) (a : Fin 11) (b : Fin 24) : View.ld x r0_5 (ix3 0 a b) = x (ix3 0 a b) :=
  congrArg x (ext3 _ 0 a b rfl (by show 0 + 1 * a.val = a.val; omega) (by show 0 + 1 * b.val = b.val; omega))
theorem s2_1 (x : Vec Ideal S4x11x24 .f32) (a : Fin 11) (b : Fin 24) : View.ld x r0_10 (ix3 0 a b) = x (ix3 1 a b) :=
  congrArg x (ext3 _ 1 a b rfl (by show 0 + 1 * a.val = a.val; omega) (by show 0 + 1 * b.val = b.val; omega))
theorem s2_2 (x : Vec Ideal S4x11x24 .f32) (a : Fin 11) (b : Fin 24) : View.ld x r0_15 (ix3 0 a b) = x (ix3 2 a b) :=
  congrArg x (ext3 _ 2 a b rfl (by show 0 + 1 * a.val = a.val; omega) (by show 0 + 1 * b.val = b.val; omega))
theorem s2_3 (x : Vec Ideal S4x11x24 .f32) (a : Fin 11) (b : Fin 24) : View.ld x r0_20 (ix3 0 a b) = x (ix3 3 a b) :=
  congrArg x (ext3 _ 3 a b rfl (by show 0 + 1 * a.val = a.val; omega) (by show 0 + 1 * b.val = b.val; omega))
theorem g_0 (x : Vec Ideal S16384x4 .f32) (r : Fin 16384) : View.ld x r0_6 (ix2 r 0) = x (ix2 r 0) :=
  congrArg x (ext2 _ r 0 (by show 0 + 1 * r.val = r.val; omega) rfl)
theorem g_1 (x : Vec Ideal S16384x4 .f32) (r : Fin 16384) : View.ld x r0_11 (ix2 r 0) = x (ix2 r 1) :=
  congrArg x (ext2 _ r 1 (by show 0 + 1 * r.val = r.val; omega) rfl)
theorem g_2 (x : Vec Ideal S16384x4 .f32) (r : Fin 16384) : View.ld x r0_16 (ix2 r 0) = x (ix2 r 2) :=
  congrArg x (ext2 _ r 2 (by show 0 + 1 * r.val = r.val; omega) rfl)
theorem g_3 (x : Vec Ideal S16384x4 .f32) (r : Fin 16384) : View.ld x r0_21 (ix2 r 0) = x (ix2 r 3) :=
  congrArg x (ext2 _ r 3 (by show 0 + 1 * r.val = r.val; omega) rfl)

theorem x_whole (x : Vec Ideal S16384x3072 .bf16) : View.ld x r0_0 = x := View.ld_unit_zero (by decide) _ _

/-! The four experts' payloads are one function. -/

theorem first_hw (n : IVec S16384x24x1 32) (k : F .f32) (v : FVec F S16384x24x128 .f32) (w : Vec F S1x3072x2816 .fp8e4m3) (s : Vec F S1x24x22 .f32) :
    k0_pay13 (k0_pay11 n k v w s) (k0_pay12 n k v w s) (iota .tc S1x1x256 32 [2] iota_S1x1x256_d2_w32) = hw (k0_pay9 n k v) w s := rfl
theorem third_hw (xw : FVec F S16384x3072 .bf16) (w : Vec F S1x3072x2816 .fp8e4m3) (s : Vec F S1x24x22 .f32) :
    k0_pay21 (k0_pay19 xw w s) (k0_pay20 xw w s) (iota .tc S1x1x256 32 [2] iota_S1x1x256_d2_w32) = hw xw w s := rfl
theorem fourth_hw (xw : FVec F S16384x3072 .bf16) (w : Vec F S1x3072x2816 .fp8e4m3) (s : Vec F S1x24x22 .f32) :
    k0_pay25 (k0_pay23 xw w s) (k0_pay24 xw w s) (iota .tc S1x1x256 32 [2] iota_S1x1x256_d2_w32) = hw xw w s := rfl
theorem first_add (y : FVec F S16384x3072 .f32) (h : FVec F S16384x11x128 .bf16) (w : Vec F S1x1408x3072 .fp8e4m3) (s : Vec F S1x11x24 .f32) (g : Vec F S16384x1 .f32) :
    k0_pay14 y h w s g = k0_pay18 y h w s g := rfl
theorem third_add (y : FVec F S16384x3072 .f32) (h : FVec F S16384x11x128 .bf16) (w : Vec F S1x1408x3072 .fp8e4m3) (s : Vec F S1x11x24 .f32) (g : Vec F S16384x1 .f32) :
    k0_pay22 y h w s g = k0_pay18 y h w s g := rfl
theorem fourth_add (y : FVec Ideal S16384x3072 .f32) (h : FVec Ideal S16384x11x128 .bf16) (w : Vec Ideal S1x1408x3072 .fp8e4m3) (s : Vec Ideal S1x11x24 .f32) (g : Vec Ideal S16384x1 .f32) (i : S16384x3072.Idx) :
    (k0_pay1 y h w s g i : EReal) = k0_pay18 y h w s g i := rfl

/-- One expert's step over the whole arrays. -/
theorem step_at (a : Layer.Args) (x : Vec Ideal S16384x3072 .bf16) (y : FVec Ideal S16384x3072 .f32) (w1 : Vec Ideal S1x3072x2816 .fp8e4m3) (s1 : Vec Ideal S1x24x22 .f32)
    (w2 : Vec Ideal S1x1408x3072 .fp8e4m3) (s2 : Vec Ideal S1x11x24 .f32) (g : Vec Ideal S16384x1 .f32) (e : Fin 4) (r : Fin 16384) (c : Fin 3072)
    (hx : row x r = a.x r) (h1 : ∀ d f, w1 (ix3 0 d f) = a.w1 e d f) (h2 : ∀ p q, s1 (ix3 0 p q) = a.s1 e p q)
    (h3 : ∀ f d, w2 (ix3 0 f d) = a.w2 e f d) (h4 : ∀ p q, s2 (ix3 0 p q) = a.s2 e p q) (hg : g (ix2 r 0) = a.gate r e) :
    k0_pay18 y (hw (k0_pay9 (k0_pay3 x) (Scalar.ofBits .f32 0x43E00000#32) (k0_pay4 x)) w1 s1) w2 s2 g (ix2 r c) = (y (ix2 r c) + a.out r e c * a.gate r e : EReal) := by
  have hr : row (k0_pay9 (k0_pay3 x) (Scalar.ofBits .f32 0x43E00000#32) (k0_pay4 x)) r = Ffn.wideRow (a.x r) := by
    funext d
    exact (wide_at x r d).trans (by rw [hx])
  rw [expert_at, hr, hg, funext fun d => funext fun f => h1 d f, funext fun p => funext fun q => h2 p q, funext fun f => funext fun d => h3 f d, funext fun p => funext fun q => h4 p q]
  rfl

theorem zeros_at (i : S16384x3072.Idx) : (k0_pay10 (F := Ideal) i : EReal) = 0 := Ideal.ofBits_zero_f32

/-- The block written to the output, at an index. -/
theorem y_at (a : Layer.Args) (x0 : Vec Ideal S16384x3072 .bf16) (x1 : Vec Ideal S16384x4 .f32) (x2 : Vec Ideal S4x3072x2816 .fp8e4m3) (x3 : Vec Ideal S4x24x22 .f32)
    (x4 : Vec Ideal S4x1408x3072 .fp8e4m3) (x5 : Vec Ideal S4x11x24 .f32) (r : Fin 16384) (c : Fin 3072)
    (hx : row x0 r = a.x r) (hg : ∀ e, x1 (ix2 r e) = a.gate r e) (h1 : ∀ e d f, x2 (ix3 e d f) = a.w1 e d f) (h2 : ∀ e p q, x3 (ix3 e p q) = a.s1 e p q)
    (h3 : ∀ e f d, x4 (ix3 e f d) = a.w2 e f d) (h4 : ∀ e p q, x5 (ix3 e p q) = a.s2 e p q) :
    (k0_pay1 (k0_pay22 (k0_pay18 (k0_pay14 k0_pay10
      (k0_pay13 (k0_pay11 (k0_pay3 x0) (Scalar.ofBits .f32 0x43E00000#32) (k0_pay4 x0) (View.ld x2 r0_2) (View.ld x3 r0_3)) (k0_pay12 (k0_pay3 x0) (Scalar.ofBits .f32 0x43E00000#32) (k0_pay4 x0) (View.ld x2 r0_2) (View.ld x3 r0_3)) (iota .tc S1x1x256 32 [2] iota_S1x1x256_d2_w32)) (View.ld x4 r0_4) (View.ld x5 r0_5) (View.ld x1 r0_6))
      (k0_pay17 (k0_pay15 (k0_pay9 (k0_pay3 x0) (Scalar.ofBits .f32 0x43E00000#32) (k0_pay4 x0)) (View.ld x2 r0_7) (View.ld x3 r0_8)) (k0_pay16 (k0_pay9 (k0_pay3 x0) (Scalar.ofBits .f32 0x43E00000#32) (k0_pay4 x0)) (View.ld x2 r0_7) (View.ld x3 r0_8)) (iota .tc S1x1x256 32 [2] iota_S1x1x256_d2_w32)) (View.ld x4 r0_9) (View.ld x5 r0_10) (View.ld x1 r0_11))
      (k0_pay21 (k0_pay19 (k0_pay9 (k0_pay3 x0) (Scalar.ofBits .f32 0x43E00000#32) (k0_pay4 x0)) (View.ld x2 r0_12) (View.ld x3 r0_13)) (k0_pay20 (k0_pay9 (k0_pay3 x0) (Scalar.ofBits .f32 0x43E00000#32) (k0_pay4 x0)) (View.ld x2 r0_12) (View.ld x3 r0_13)) (iota .tc S1x1x256 32 [2] iota_S1x1x256_d2_w32)) (View.ld x4 r0_14) (View.ld x5 r0_15) (View.ld x1 r0_16))
      (k0_pay25 (k0_pay23 (k0_pay9 (k0_pay3 x0) (Scalar.ofBits .f32 0x43E00000#32) (k0_pay4 x0)) (View.ld x2 r0_17) (View.ld x3 r0_18)) (k0_pay24 (k0_pay9 (k0_pay3 x0) (Scalar.ofBits .f32 0x43E00000#32) (k0_pay4 x0)) (View.ld x2 r0_17) (View.ld x3 r0_18)) (iota .tc S1x1x256 32 [2] iota_S1x1x256_d2_w32)) (View.ld x4 r0_19) (View.ld x5 r0_20) (View.ld x1 r0_21) (ix2 r c) : EReal)
      = a.y r c := by
  rw [fourth_add, third_add, first_add, first_hw, third_hw, fourth_hw]
  rw [show ∀ (xw : FVec Ideal S16384x3072 .bf16) (w : Vec Ideal S1x3072x2816 .fp8e4m3) (s : Vec Ideal S1x24x22 .f32), k0_pay17 (k0_pay15 xw w s) (k0_pay16 xw w s) (iota .tc S1x1x256 32 [2] iota_S1x1x256_d2_w32) = hw xw w s from fun _ _ _ => rfl]
  rw [step_at a x0 _ _ _ _ _ _ 3 r c hx (fun d f => (w1_3 x2 d f).trans (h1 3 d f)) (fun p q => (s1_3 x3 p q).trans (h2 3 p q)) (fun f d => (w2_3 x4 f d).trans (h3 3 f d)) (fun p q => (s2_3 x5 p q).trans (h4 3 p q)) ((g_3 x1 r).trans (hg 3)),
    step_at a x0 _ _ _ _ _ _ 2 r c hx (fun d f => (w1_2 x2 d f).trans (h1 2 d f)) (fun p q => (s1_2 x3 p q).trans (h2 2 p q)) (fun f d => (w2_2 x4 f d).trans (h3 2 f d)) (fun p q => (s2_2 x5 p q).trans (h4 2 p q)) ((g_2 x1 r).trans (hg 2)),
    step_at a x0 _ _ _ _ _ _ 1 r c hx (fun d f => (w1_1 x2 d f).trans (h1 1 d f)) (fun p q => (s1_1 x3 p q).trans (h2 1 p q)) (fun f d => (w2_1 x4 f d).trans (h3 1 f d)) (fun p q => (s2_1 x5 p q).trans (h4 1 p q)) ((g_1 x1 r).trans (hg 1)),
    step_at a x0 _ _ _ _ _ _ 0 r c hx (fun d f => (w1_0 x2 d f).trans (h1 0 d f)) (fun p q => (s1_0 x3 p q).trans (h2 0 p q)) (fun f d => (w2_0 x4 f d).trans (h3 0 f d)) (fun p q => (s2_0 x5 p q).trans (h4 0 p q)) ((g_0 x1 r).trans (hg 0)),
    zeros_at]
  rfl

end Cert.ReferenceIdeal.Out

end
-- ==== Proof.ReferenceIdeal.Host.lean ====
/-
What the host computes before the reference's launch, at an index, over the launch contents of the arguments.
-/
module

public import proofs.«01_k».proof.Proof.Gen.ReferenceIdeal.Value
public import proofs.«01_k».proof.Proof.Layer
public import Idealize.ShloMosaic.Lib.StableHlo.ReadAt
public import Idealize.ShloMosaic.Lib.Pointwise

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.Tactic

variable (m : (ℓ : Loc nD τ sig) → Buf (Elt Ideal) ℓ)

/-- The layer's arguments on a device. -/
def args (c : Dev nD) : Layer.Args where
  x r d := m ((c : Thread nD τ).loc main_arg0) (ix3 ⟨r.val / 2048, by omega⟩ ⟨r.val % 2048, by omega⟩ d)
  ids r k := m ((c : Thread nD τ).loc main_arg1) (ix3 ⟨r.val / 2048, by omega⟩ ⟨r.val % 2048, by omega⟩ k)
  wts r k := m ((c : Thread nD τ).loc main_arg2) (ix3 ⟨r.val / 2048, by omega⟩ ⟨r.val % 2048, by omega⟩ k)
  w1 e d f := m ((c : Thread nD τ).loc main_arg3) (ix3 e d f)
  s1 e a b := m ((c : Thread nD τ).loc main_arg4) (ix3 e a b)
  w2 e f d := m ((c : Thread nD τ).loc main_arg5) (ix3 e f d)
  s2 e a b := m ((c : Thread nD τ).loc main_arg6) (ix3 e a b)

theorem x_at (c : Dev nD) (r : Fin 16384) (d : Fin 3072) : V m c main_v11 (ix2 r d) = (args m c).x r d := by
  unfold V
  after_reads_at
  rfl

theorem gate_at (c : Dev nD) (r : Fin 16384) (e : Fin 4) : V m c main_v10 (ix2 r e) = (args m c).gate r e := by
  unfold V
  after_reads_at
  unfold Layer.Args.gate
  rw [← Ideal.ofBits_zero_f32]
  rfl

end Cert.ReferenceIdeal.Host

end
-- ==== Proof.ReferenceIdeal.Out.lean ====
/-
The reference's results: the layer's output, its codes and its scales.
-/
module

public import proofs.«01_k».proof.Proof.Gen.ReferenceIdeal.Value
public import proofs.«01_k».proof.Proof.Ffn
public import proofs.«01_k».proof.Proof.ReferenceIdeal.Sum
public import proofs.«01_k».proof.Proof.ReferenceIdeal.Host
public import Idealize.ShloMosaic.Lib.Pipeline.ValueKit
public import Idealize.ShloMosaic.Lib.Pointwise

@[expose] public section

set_option maxRecDepth 16384

noncomputable section

namespace Cert.ReferenceIdeal.Out

open Cert.ReferenceIdeal Cert.ReferenceIdeal.Gen
open Cert.Index Idealize.ShloMosaic Idealize.ShloMosaic.TcCoe Idealize.ShloMosaic.Tactic

variable (m : (ℓ : Loc nD τ sig) → Buf (Elt Ideal) ℓ)

/-! What the body leaves in each output, at an index. -/

theorem out6_at (a : Layer.Args) (x0 : Vec Ideal S16384x3072 .bf16) (x1 : Vec Ideal S16384x4 .f32) (x2 : Vec Ideal S4x3072x2816 .fp8e4m3) (x3 : Vec Ideal S4x24x22 .f32)
    (x4 : Vec Ideal S4x1408x3072 .fp8e4m3) (x5 : Vec Ideal S4x11x24 .f32) (r : Fin 16384) (c : Fin 3072)
    (hx : row x0 r = a.x r) (hg : ∀ e, x1 (ix2 r e) = a.gate r e) (h1 : ∀ e d f, x2 (ix3 e d f) = a.w1 e d f) (h2 : ∀ e p q, x3 (ix3 e p q) = a.s1 e p q)
    (h3 : ∀ e f d, x4 (ix3 e f d) = a.w2 e f d) (h4 : ∀ e p q, x5 (ix3 e p q) = a.s2 e p q) : (out0_6 x0 x1 x2 x3 x4 x5 (ix2 r c) : EReal) = a.y r c := by
  frame_out
  unfold k0_pay28 k0_pay26 k0_pay27
  rw [x_whole]
  exact y_at a x0 x1 x2 x3 x4 x5 r c hx hg h1 h2 h3 h4

theorem out7_at (x0 : Vec Ideal S16384x3072 .bf16) (x1 : Vec Ideal S16384x4 .f32) (x2 : Vec Ideal S4x3072x2816 .fp8e4m3) (x3 : Vec Ideal S4x24x22 .f32)
    (x4 : Vec Ideal S4x1408x3072 .fp8e4m3) (x5 : Vec Ideal S4x11x24 .f32) (r : Fin 16384) (d : Fin 3072) :
    (out0_7 x0 x1 x2 x3 x4 x5 (ix2 r d) : EReal) = Ffn.codeRow (row x0 r) d := by
  frame_out
  unfold k0_pay27
  rw [x_whole]
  exact codes_at x0 r d

theorem out8_at (x0 : Vec Ideal S16384x3072 .bf16) (x1 : Vec Ideal S16384x4 .f32) (x2 : Vec Ideal S4x3072x2816 .fp8e4m3) (x3 : Vec Ideal S4x24x22 .f32)
    (x4 : Vec Ideal S4x1408x3072 .fp8e4m3) (x5 : Vec Ideal S4x11x24 .f32) (r : Fin 16384) (k : Fin 24) :
    (out0_8 x0 x1 x2 x3 x4 x5 (ix2 r k) : EReal) = Ffn.scaleRow (row x0 r) k := by
  frame_out
  unfold k0_pay26
  rw [x_whole]
  exact scale_at x0 r k

/-! The one grid point is given every array whole. -/

theorem map0 : ∀ t : Fin grid0.N, win0_0.index t = ![0, 0] := by decide +kernel

theorem blk0 (c : Dev nD) (t : Fin cfg0.N) : iblk m c 0 t = V m c main_v11 := by
  funext y
  obtain ⟨p, q, rfl⟩ : ∃ (p : Fin 16384) (q : Fin 3072), y = ix2 p q := ⟨_, _, eq_ix2 y⟩
  blk_simp [iblk]
  refine congrArg (V m c main_v11) (ext2 _ p q ?_ ?_)
  · show win0_0.index t 0 * 16384 + 1 * p.val = p.val
    rw [map0 t]; show 0 * 16384 + 1 * p.val = _; omega
  · show win0_0.index t 1 * 3072 + 1 * q.val = q.val
    rw [map0 t]; show 0 * 3072 + 1 * q.val = _; omega

theorem map1 : ∀ t : Fin grid0.N, win0_1.index t = ![0, 0] := by decide +kernel

theorem blk1 (c : Dev nD) (t : Fin cfg0.N) : iblk m c 1 t = V m c main_v10 := by
  funext y
  obtain ⟨p, q, rfl⟩ : ∃ (p : Fin 16384) (q : Fin 4), y = ix2 p q := ⟨_, _, eq_ix2 y⟩
  blk_simp [iblk]
  refine congrArg (V m c main_v10) (ext2 _ p q ?_ ?_)
  · show win0_1.index t 0 * 16384 + 1 * p.val = p.val
    rw [map1 t]; show 0 * 16384 + 1 * p.val = _; omega
  · show win0_1.index t 1 * 4 + 1 * q.val = q.val
    rw [map1 t]; show 0 * 4 + 1 * q.val = _; omega

theorem map2 : ∀ t : Fin grid0.N, win0_2.index t = ![0, 0, 0] := by decide +kernel

theorem blk2 (c : Dev nD) (t : Fin cfg0.N) : iblk m c 2 t = V m c main_arg3 := by
  funext y
  obtain ⟨p, q, s, rfl⟩ : ∃ (p : Fin 4) (q : Fin 3072) (s : Fin 2816), y = ix3 p q s := ⟨_, _, _, eq_ix3 y⟩
  blk_simp [iblk]
  refine congrArg (V m c main_arg3) (ext3 _ p q s ?_ ?_ ?_)
  · show win0_2.index t 0 * 4 + 1 * p.val = p.val
    rw [map2 t]; show 0 * 4 + 1 * p.val = _; omega
  · show win0_2.index t 1 * 3072 + 1 * q.val = q.val
    rw [map2 t]; show 0 * 3072 + 1 * q.val = _; omega
  · show win0_2.index t 2 * 2816 + 1 * s.val = s.val
    rw [map2 t]; show 0 * 2816 + 1 * s.val = _; omega

theorem map3 : ∀ t : Fin grid0.N, win0_3.index t = ![0, 0, 0] := by decide +kernel

theorem blk3 (c : Dev nD) (t : Fin cfg0.N) : iblk m c 3 t = V m c main_arg4 := by
  funext y
  obtain ⟨p, q, s, rfl⟩ : ∃ (p : Fin 4) (q : Fin 24) (s : Fin 22), y = ix3 p q s := ⟨_, _, _, eq_ix3 y⟩
  blk_simp [iblk]
  refine congrArg (V m c main_arg4) (ext3 _ p q s ?_ ?_ ?_)
  · show win0_3.index t 0 * 4 + 1 * p.val = p.val
    rw [map3 t]; show 0 * 4 + 1 * p.val = _; omega
  · show win0_3.index t 1 * 24 + 1 * q.val = q.val
    rw [map3 t]; show 0 * 24 + 1 * q.val = _; omega
  · show win0_3.index t 2 * 22 + 1 * s.val = s.val
    rw [map3 t]; show 0 * 22 + 1 * s.val = _; omega

theorem map4 : ∀ t : Fin grid0.N, win0_4.index t = ![0, 0, 0] := by decide +kernel

theorem blk4 (c : Dev nD) (t : Fin cfg0.N) : iblk m c 4 t = V m c main_arg5 := by
  funext y
  obtain ⟨p, q, s, rfl⟩ : ∃ (p : Fin 4) (q : Fin 1408) (s : Fin 3072), y = ix3 p q s := ⟨_, _, _, eq_ix3 y⟩
  blk_simp [iblk]
  refine congrArg (V m c main_arg5) (ext3 _ p q s ?_ ?_ ?_)
  · show win0_4.index t 0 * 4 + 1 * p.val = p.val
    rw [map4 t]; show 0 * 4 + 1 * p.val = _; omega
  · show win0_4.index t 1 * 1408 + 1 * q.val = q.val
    rw [map4 t]; show 0 * 1408 + 1 * q.val = _; omega
  · show win0_4.index t 2 * 3072 + 1 * s.val = s.val
    rw [map4 t]; show 0 * 3072 + 1 * s.val = _; omega

theorem map5 : ∀ t : Fin grid0.N, win0_5.index t = ![0, 0, 0] := by decide +kernel

theorem blk5 (c : Dev nD) (t : Fin cfg0.N) : iblk m c 5 t = V m c main_arg6 := by
  funext y
  obtain ⟨p, q, s, rfl⟩ : ∃ (p : Fin 4) (q : Fin 11) (s : Fin 24), y = ix3 p q s := ⟨_, _, _, eq_ix3 y⟩
  blk_simp [iblk]
  refine congrArg (V m c main_arg6) (ext3 _ p q s ?_ ?_ ?_)
  · show win0_5.index t 0 * 4 + 1 * p.val = p.val
    rw [map5 t]; show 0 * 4 + 1 * p.val = _; omega
  · show win0_5.index t 1 * 11 + 1 * q.val = q.val
    rw [map5 t]; show 0 * 11 + 1 * q.val = _; omega
  · show win0_5.index t 2 * 24 + 1 * s.val = s.val
    rw [map5 t]; show 0 * 24 + 1 * s.val = _; omega

theorem row_eq (c : Dev nD) (r : Fin 16384) : row (V m c main_v11) r = (Host.args m c).x r := funext fun d => Host.x_at m c r d

/-- The output after the run. -/
theorem y_final (c : Dev nD) : (dats m 0 c).arrAt 6 cfg0.N = (fun z : S16384x3072.Idx => (Host.args m c).y (z 0) (z 1) : Vec Ideal S16384x3072 .bf16) := by
  refine (dats m 0 c).arrAt_eq_of_after_last 6 t0_0 (by decide +kernel) _ fun j => ?_
  blk_simp
  rw [after0_6]
  rw [blk0, blk1, blk2, blk3, blk4, blk5]
  obtain ⟨r, d, rfl⟩ : ∃ (r : Fin 16384) (d : Fin 3072), j = ix2 r d := ⟨_, _, eq_ix2 j⟩
  exact out6_at (Host.args m c) (V m c main_v11) (V m c main_v10) (V m c main_arg3) (V m c main_arg4) (V m c main_arg5) (V m c main_arg6) r d (row_eq m c r) (fun e => Host.gate_at m c r e)
    (fun _ _ _ => congrFun (V_main_arg3 m c) _) (fun _ _ _ => congrFun (V_main_arg4 m c) _) (fun _ _ _ => congrFun (V_main_arg5 m c) _) (fun _ _ _ => congrFun (V_main_arg6 m c) _)

/-- The codes after the run. -/
theorem codes_final (c : Dev nD) : (dats m 0 c).arrAt 7 cfg0.N = (fun z : S16384x3072.Idx => (Host.args m c).codes (z 0) (z 1) : Vec Ideal S16384x3072 .fp8e4m3) := by
  refine (dats m 0 c).arrAt_eq_of_after_last 7 t0_0 (by decide +kernel) _ fun j => ?_
  blk_simp
  rw [after0_7]
  rw [blk0, blk1, blk2, blk3, blk4, blk5]
  obtain ⟨r, d, rfl⟩ : ∃ (r : Fin 16384) (d : Fin 3072), j = ix2 r d := ⟨_, _, eq_ix2 j⟩
  exact (out7_at _ _ _ _ _ _ r d).trans (congrArg (fun f : Fin 3072 → EReal => Ffn.codeRow f d) (row_eq m c r))

/-- The scales after the run. -/
theorem scales_final (c : Dev nD) : (dats m 0 c).arrAt 8 cfg0.N = (fun z : S16384x24.Idx => (Host.args m c).scales (z 0) (z 1) : Vec Ideal S16384x24 .f32) := by
  refine (dats m 0 c).arrAt_eq_of_after_last 8 t0_0 (by decide +kernel) _ fun j => ?_
  blk_simp
  rw [after0_8]
  rw [blk0, blk1, blk2, blk3, blk4, blk5]
  obtain ⟨r, d, rfl⟩ : ∃ (r : Fin 16384) (d : Fin 24), j = ix2 r d := ⟨_, _, eq_ix2 j⟩
  exact (out8_at _ _ _ _ _ _ r d).trans (congrArg (fun f : Fin 3072 → EReal => Ffn.scaleRow f d) (row_eq m c r))

end Cert.ReferenceIdeal.Out

end
-- ==== Proof.Algebra.lean ====
/-
The kernel's results and the reference's are the same arrays when their arguments are.
-/
module

public import proofs.«01_k».proof.Defs
public import proofs.«01_k».proof.Proof.KernelIdeal.Out
public import proofs.«01_k».proof.Proof.ReferenceIdeal.Out

@[expose] public section

set_option maxRecDepth 16384

noncomputable section

namespace Cert.Algebra

open Cert.Index Idealize.ShloMosaic Idealize.ShloMosaic.TcCoe Idealize.SL.Sem

/-- Equal argument arrays are the same arguments of the layer. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Host.args m' c = Cert.KernelIdeal.Host.args m c :=
  (Cert.Layer.Args.mk.injEq ..).mpr
    ⟨funext fun _ => funext fun _ => congrFun h0 _, funext fun _ => funext fun _ => congrFun h1 _, funext fun _ => funext fun _ => congrFun h2 _,
      funext fun _ => funext fun _ => funext fun _ => congrFun h3 _, funext fun _ => funext fun _ => funext fun _ => congrFun h4 _,
      funext fun _ => funext fun _ => funext fun _ => congrFun h5 _, funext fun _ => funext fun _ => funext fun _ => congrFun h6 _⟩

/-- On equal arguments the two programs end with equal results. -/
theorem algebraic : Cert.algebraic_KernelIdeal_ReferenceIdeal := by
  intro m g m' g' _ hargs
  refine ⟨fun c => (fun z : Cert.KernelIdeal.S16384x3072.Idx => (Cert.KernelIdeal.Host.args m c).y (z 0) (z 1) : Vec Ideal Cert.KernelIdeal.S16384x3072 .bf16),
    fun c => (fun z : Cert.KernelIdeal.S16384x3072.Idx => (Cert.KernelIdeal.Host.args m c).codes (z 0) (z 1) : Vec Ideal Cert.KernelIdeal.S16384x3072 .fp8e4m3),
    fun c => (fun z : Cert.KernelIdeal.S16384x24.Idx => (Cert.KernelIdeal.Host.args m c).scales (z 0) (z 1) : Vec Ideal Cert.KernelIdeal.S16384x24 .f32),
    Cert.KernelIdeal.Out.run m g trivial, ?_⟩
  refine (θ_run _ _ _).mono (fun r h c => ?_) (Cert.ReferenceIdeal.Value.run_blocks m' g')
  obtain ⟨a0, a1, a2, a3, a4, a5, a6⟩ := hargs c
  have ha := args_eq m m' c a0 a1 a2 a3 a4 a5 a6
  obtain ⟨y, q, s, rest⟩ := h c
  refine ⟨y.trans ((Cert.ReferenceIdeal.Out.y_final m' c).trans ?_), q.trans ((Cert.ReferenceIdeal.Out.codes_final m' c).trans ?_),
    s.trans ((Cert.ReferenceIdeal.Out.scales_final m' c).trans ?_), rest⟩
  · rw [ha]
  · rw [ha]
  · rw [ha]

end Cert.Algebra

end
-- ==== Proof.lean ====
/- The proof of the claims: the frames of the kernel, of its idealization and of the reference, and the
   equality of the two idealized programs' results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Kernel.Keeps
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.KernelIdeal.Keeps
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Algebra

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    fun m g _ => Cert.Kernel.Body.frame m g trivial,
    fun m g _ => Cert.KernelIdeal.Body.frame m g trivial,
    fun m g _ => Cert.ReferenceIdeal.Gen.frame m g,
    trivial,
    Cert.Algebra.algebraic⟩

end Cert.Proof

end
